-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v136_0)) (v1 : (c : Dev Cert.KernelIdeal.nD) → Buf (Elt Ideal) ((c.tc : Thread Cert.KernelIdeal.nD Cert.KernelIdeal.τ).loc Cert.KernelIdeal.main_v136_1)) (v2 : (c : Dev Cert.KernelIdeal.nD) → Buf (Elt Ideal) ((c.tc : Thread Cert.KernelIdeal.nD Cert.KernelIdeal.τ).loc Cert.KernelIdeal.main_v136_2)) (v3 : (c : Dev Cert.KernelIdeal.nD) → Buf (Elt Ideal) ((c.tc : Thread Cert.KernelIdeal.nD Cert.KernelIdeal.τ).loc Cert.KernelIdeal.main_v136_3)) (v4 : (c : Dev Cert.KernelIdeal.nD) → Buf (Elt Ideal) ((c.tc : Thread Cert.KernelIdeal.nD Cert.KernelIdeal.τ).loc Cert.KernelIdeal.main_v136_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136_0) = v0 c
          ∧ r.2.mem ((c.tc : Thread Cert.KernelIdeal.nD Cert.KernelIdeal.τ).loc Cert.KernelIdeal.main_v136_1) = v1 c
          ∧ r.2.mem ((c.tc : Thread Cert.KernelIdeal.nD Cert.KernelIdeal.τ).loc Cert.KernelIdeal.main_v136_2) = v2 c
          ∧ r.2.mem ((c.tc : Thread Cert.KernelIdeal.nD Cert.KernelIdeal.τ).loc Cert.KernelIdeal.main_v136_3) = v3 c
          ∧ r.2.mem ((c.tc : Thread Cert.KernelIdeal.nD Cert.KernelIdeal.τ).loc Cert.KernelIdeal.main_v136_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_v244) = v2 c
          ∧ r.2.mem ((c.tc : Thread Cert.ReferenceIdeal.nD Cert.ReferenceIdeal.τ).loc Cert.ReferenceIdeal.main_v245) = v3 c
          ∧ r.2.mem ((c.tc : Thread Cert.ReferenceIdeal.nD Cert.ReferenceIdeal.τ).loc Cert.ReferenceIdeal.main_v246) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x12288 : Shape := ⟨2, ![4096, 12288]⟩
abbrev S4096x8x128 : Shape := ⟨3, ![4096, 8, 128]⟩
abbrev S4096x8 : Shape := ⟨2, ![4096, 8]⟩
abbrev S4096x1024 : Shape := ⟨2, ![4096, 1024]⟩
abbrev S128 : Shape := ⟨1, ![128]⟩
abbrev S_ : Shape := ⟨0, ![]⟩

class Facts : Prop where
  bitsLt_bf16_f32 : FTy.bits .bf16 < FTy.bits .f32
  bcast_S_S4096x12288 : S_.BroadcastsInDim S4096x12288 (![] : Fin 0 → Fin S4096x12288.rank)
  bcast_S_S4096x8x128 : S_.BroadcastsInDim S4096x8x128 (![] : Fin 0 → Fin S4096x8x128.rank)
  bcast_S_S4096x8 : S_.BroadcastsInDim S4096x8 (![] : Fin 0 → Fin S4096x8.rank)
  bcast_S_S4096x1024 : S_.BroadcastsInDim S4096x1024 (![] : Fin 0 → Fin S4096x1024.rank)
  bcast_S_S128 : S_.BroadcastsInDim S128 (![] : Fin 0 → Fin S128.rank)

variable [Facts]

def fn_part1 {F : FTy → Type} [FloatOps F] (main_arg6 : FVec F S128 .f32) (main_arg7 : FVec F S128 .f32) (main_v3 : IVec S4096x12288 1) (main_v6 : IVec S4096x8x128 1) (main_v9 : IVec S4096x8 1) (main_v12 : IVec S4096x8x128 1) (main_v15 : IVec S4096x8 1) (main_v16 : FVec F S4096x1024 .f32) (main_v17 : FVec F S4096x1024 .f32) : IVec S4096x12288 1 × IVec S4096x8x128 1 × IVec S4096x8 1 × IVec S4096x8x128 1 × IVec S4096x8 1 × IVec S4096x1024 1 × IVec S128 1 × IVec S128 1 :=
  let main_v18 : IVec S4096x1024 1 := cmpf .olt main_v16 main_v17
  let main_v19 : FVec F S128 .f32 := Host.absf main_arg6
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  let main_v22 : FVec F S128 .f32 := Host.absf main_arg7
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  (main_v3, main_v6, main_v9, main_v12, main_v15, main_v18, main_v21, main_v24)

def fn {F : FTy → Type} [FloatOps F] (main_arg0 : FVec F S4096x12288 .bf16) (main_arg1 : FVec F S4096x8x128 .f32) (main_arg2 : FVec F S4096x8 .f32) (main_arg3 : FVec F S4096x8x128 .f32) (main_arg4 : FVec F S4096x8 .f32) (main_arg5 : FVec F S4096x1024 .f32) (main_arg6 : FVec F S128 .f32) (main_arg7 : FVec F S128 .f32) : IVec S4096x12288 1 × IVec S4096x8x128 1 × IVec S4096x8 1 × IVec S4096x8x128 1 × IVec S4096x8 1 × IVec S4096x1024 1 × IVec S128 1 × IVec S128 1 :=
  let main_v0 : FVec F S4096x12288 .f32 := (extf .f32 · bitsLt_bf16_f32) main_arg0
  let main_v1 : FVec F S4096x12288 .f32 := Host.absf main_v0
  let main_cst : FVec F S_ .f32 := constant S_ .f32 0x7F800000#32
  let main_v2 : FVec F S4096x12288 .f32 := broadcastInDim S4096x12288 ![] bcast_S_S4096x12288 main_cst
  let main_v3 : IVec S4096x12288 1 := cmpf .olt main_v1 main_v2
  let main_v4 : FVec F S4096x8x128 .f32 := Host.absf main_arg1
  let main_cst_0 : FVec F S_ .f32 := constant S_ .f32 0x7F800000#32
  let main_v5 : FVec F S4096x8x128 .f32 := broadcastInDim S4096x8x128 ![] bcast_S_S4096x8x128 main_cst_0
  let main_v6 : IVec S4096x8x128 1 := cmpf .olt main_v4 main_v5
  let main_v7 : FVec F S4096x8 .f32 := Host.absf main_arg2
  let main_cst_1 : FVec F S_ .f32 := constant S_ .f32 0x7F800000#32
  let main_v8 : FVec F S4096x8 .f32 := broadcastInDim S4096x8 ![] bcast_S_S4096x8 main_cst_1
  let main_v9 : IVec S4096x8 1 := cmpf .olt main_v7 main_v8
  let main_v10 : FVec F S4096x8x128 .f32 := Host.absf main_arg3
  let main_cst_2 : FVec F S_ .f32 := constant S_ .f32 0x7F800000#32
  let main_v11 : FVec F S4096x8x128 .f32 := broadcastInDim S4096x8x128 ![] bcast_S_S4096x8x128 main_cst_2
  let main_v12 : IVec S4096x8x128 1 := cmpf .olt main_v10 main_v11
  let main_v13 : FVec F S4096x8 .f32 := Host.absf main_arg4
  let main_cst_3 : FVec F S_ .f32 := constant S_ .f32 0x7F800000#32
  let main_v14 : FVec F S4096x8 .f32 := broadcastInDim S4096x8 ![] bcast_S_S4096x8 main_cst_3
  let main_v15 : IVec S4096x8 1 := cmpf .olt main_v13 main_v14
  let main_v16 : FVec F S4096x1024 .f32 := Host.absf main_arg5
  let main_cst_4 : FVec F S_ .f32 := constant S_ .f32 0x7F800000#32
  let main_v17 : FVec F S4096x1024 .f32 := broadcastInDim S4096x1024 ![] bcast_S_S4096x1024 main_cst_4
  fn_part1 (F := F) main_arg6 main_arg7 main_v3 main_v6 main_v9 main_v12 main_v15 main_v16 main_v17
-- ==== Pre_finite3.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S4096x5632 .f32 := (extf .f32 · bitsLt_bf16_f32) main_arg3
  let main_v13 : FVec F S4096x5632 .f32 := Host.absf main_v12
  let main_cst_2 : FVec F S_ .f32 := constant S_ .f32 0x7F800000#32
  let main_v14 : FVec F S4096x5632 .f32 := broadcastInDim S4096x5632 ![] bcast_S_S4096x5632 main_cst_2
  let main_v15 : IVec S4096x5632 1 := cmpf .olt main_v13 main_v14
  (main_v3, main_v7, main_v11, main_v15)
-- ==== Kernel.lean ====
abbrev S4096x12288 : Shape := ⟨2, ![4096, 12288]⟩
abbrev S4096x8x128 : Shape := ⟨3, ![4096, 8, 128]⟩
abbrev S4096x8 : Shape := ⟨2, ![4096, 8]⟩
abbrev S4096x1024 : Shape := ⟨2, ![4096, 1024]⟩
abbrev S128 : Shape := ⟨1, ![128]⟩
abbrev S_ : Shape := ⟨0, ![]⟩
abbrev S4096x8x1 : Shape := ⟨3, ![4096, 8, 1]⟩
abbrev S1x1x128 : Shape := ⟨3, ![1, 1, 128]⟩
abbrev S8 : Shape := ⟨1, ![8]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096 : Shape := ⟨2, ![8, 4096]⟩
abbrev S8x4096x1 : Shape := ⟨3, ![8, 4096, 1]⟩
abbrev S8x128x4096 : Shape := ⟨3, ![8, 128, 4096]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x128 : Shape := ⟨4, ![1, 4096, 8, 128]⟩
abbrev S3x4096x8x128 : Shape := ⟨4, ![3, 4096, 8, 128]⟩
abbrev S4096x128 : Shape := ⟨2, ![4096, 128]⟩
abbrev S1024x4096 : Shape := ⟨2, ![1024, 4096]⟩
abbrev S1024x512 : Shape := ⟨2, ![1024, 512]⟩
abbrev S1x128 : Shape := ⟨2, ![1, 128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 179
  | .vmem => 34
  | .smem => 0
  | _ => 0

abbrev hbmTy0_0 (i : Nat) : BufTy := match i % 128 with
  | 0 => ⟨S4096x12288, .bf16⟩
  | 1 => ⟨S4096x8x128, .f32⟩
  | 2 => ⟨S4096x8, .f32⟩
  | 3 => ⟨S4096x8x128, .f32⟩
  | 4 => ⟨S4096x8, .f32⟩
  | 5 => ⟨S4096x1024, .f32⟩
  | 6 => ⟨S128, .f32⟩
  | 7 => ⟨S128, .f32⟩
  | 8 => ⟨S4096x1024, .bf16⟩
  | 9 => ⟨S4096x1024, .f32⟩
  | 10 => ⟨S4096x1024, .bf16⟩
  | 11 => ⟨S4096x1024, .f32⟩
  | 12 => ⟨S4096x1024, .bf16⟩
  | 13 => ⟨S4096x1024, .f32⟩
  | 14 => ⟨S4096x8x128, .f32⟩
  | 15 => ⟨S4096x8x128, .f32⟩
  | 16 => ⟨S_, .f32⟩
  | 17 => ⟨S4096x8, .f32⟩
  | 18 => ⟨S4096x8x1, .f32⟩
  | 19 => ⟨S_, .f32⟩
  | 20 => ⟨S4096x8x1, .f32⟩
  | 21 => ⟨S4096x8x1, .f32⟩
  | 22 => ⟨S_, .f32⟩
  | 23 => ⟨S4096x8x1, .f32⟩
  | 24 => ⟨S4096x8x1, .f32⟩
  | 25 => ⟨S4096x8x1, .f32⟩
  | 26 => ⟨S4096x8x128, .f32⟩
  | 27 => ⟨S4096x8x128, .f32⟩
  | 28 => ⟨S1x1x128, .f32⟩
  | 29 => ⟨S4096x8x128, .f32⟩
  | 30 => ⟨S4096x8x128, .f32⟩
  | 31 => ⟨S4096x8x128, .f32⟩
  | 32 => ⟨S4096x8x128, .f32⟩
  | 33 => ⟨S_, .f32⟩
  | 34 => ⟨S4096x8, .f32⟩
  | 35 => ⟨S4096x8x1, .f32⟩
  | 36 => ⟨S_, .f32⟩
  | 37 => ⟨S4096x8x1, .f32⟩
  | 38 => ⟨S4096x8x1, .f32⟩
  | 39 => ⟨S_, .f32⟩
  | 40 => ⟨S4096x8x1, .f32⟩
  | 41 => ⟨S4096x8x1, .f32⟩
  | 42 => ⟨S4096x8x1, .f32⟩
  | 43 => ⟨S4096x8x128, .f32⟩
  | 44 => ⟨S4096x8x128, .f32⟩
  | 45 => ⟨S1x1x128, .f32⟩
  | 46 => ⟨S4096x8x128, .f32⟩
  | 47 => ⟨S4096x8x128, .f32⟩
  | 48 => ⟨S4096x8x128, .f32⟩
  | 49 => ⟨S8, .i32⟩
  | 50 => ⟨S_, .i32⟩
  | 51 => ⟨S8, .i32⟩
  | 52 => ⟨S8, .i32⟩
  | 53 => ⟨S8, .f32⟩
  | 54 => ⟨S_, .f32⟩
  | 55 => ⟨S8, .f32⟩
  | 56 => ⟨S8, .f32⟩
  | 57 => ⟨S8x4096x4096, .f32⟩
  | 58 => ⟨S_, .f32⟩
  | 59 => ⟨S8x4096x4096, .f32⟩
  | 60 => ⟨S8x4096x4096, .f32⟩
  | 61 => ⟨S4096, .i32⟩
  | 62 => ⟨S4096x1, .i32⟩
  | 63 => ⟨S4096, .i32⟩
  | 64 => ⟨S1x4096, .i32⟩
  | 65 => ⟨S4096x4096, .i32⟩
  | 66 => ⟨S4096x4096, .i32⟩
  | 67 => ⟨S4096x4096, .i32⟩
  | 68 => ⟨S_, .i32⟩
  | 69 => ⟨S4096x4096, .i32⟩
  | 70 => ⟨S4096x4096, .i1⟩
  | 71 => ⟨S_, .i32⟩
  | 72 => ⟨S4096x4096, .i32⟩
  | 73 => ⟨S4096x4096, .i1⟩
  | 74 => ⟨S4096x4096, .i1⟩
  | 75 => ⟨S_, .i32⟩
  | 76 => ⟨S4096x4096, .i32⟩
  | 77 => ⟨S4096x4096, .i32⟩
  | 78 => ⟨S_, .i32⟩
  | 79 => ⟨S4096x4096, .i32⟩
  | 80 => ⟨S4096x4096, .i1⟩
  | 81 => ⟨S4096x4096, .i1⟩
  | 82 => ⟨S1x4096x4096, .i1⟩
  | 83 => ⟨S8x1x1, .f32⟩
  | 84 => ⟨S4096x4096, .f32⟩
  | 85 => ⟨S1x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S_, .f32⟩
  | 91 => ⟨S_, .f32⟩
  | 92 => ⟨S8x4096x4096, .i1⟩
  | 93 => ⟨S8x4096x4096, .f32⟩
  | 94 => ⟨S8x4096x4096, .f32⟩
  | 95 => ⟨S_, .f32⟩
  | 96 => ⟨S8x4096, .f32⟩
  | 97 => ⟨S8x4096x1, .f32⟩
  | 98 => ⟨S8x4096x4096, .f32⟩
  | 99 => ⟨S8x4096x4096, .f32⟩
  | 100 => ⟨S8x4096x4096, .f32⟩
  | 101 => ⟨S_, .f32⟩
  | 102 => ⟨S8x4096, .f32⟩
  | 103 => ⟨S8x4096, .f32⟩
  | 104 => ⟨S8x4096, .f32⟩
  | 105 => ⟨S8x4096, .f32⟩
  | 106 => ⟨S8x4096x1, .f32⟩
  | 107 => ⟨S8x4096x4096, .f32⟩
  | 108 => ⟨S8x4096x4096, .f32⟩
  | 109 => ⟨S8x4096x4096, .f32⟩
  | 110 => ⟨S8x128x4096, .f32⟩
  | 111 => ⟨S4096x8x128, .f32⟩
  | 112 => ⟨S4096x8, .f32⟩
  | 113 => ⟨S1x4096x8, .f32⟩
  | 114 => ⟨S1x4096x8, .f32⟩
  | 115 => ⟨S1x4096x8, .f32⟩
  | 116 => ⟨S3x4096x8, .f32⟩
  | 117 => ⟨S_, .f32⟩
  | 118 => ⟨S4096x8, .f32⟩
  | 119 => ⟨S_, .f32⟩
  | 120 => ⟨S4096x8, .f32⟩
  | 121 => ⟨S4096x8, .f32⟩
  | 122 => ⟨S1x4096x8, .f32⟩
  | 123 => ⟨S3x4096x8, .f32⟩
  | 124 => ⟨S3x4096x8, .f32⟩
  | 125 => ⟨S3x4096x8, .f32⟩
  | 126 => ⟨S_, .f32⟩
  | 127 => ⟨S4096x8, .f32⟩
  | _ => ⟨S4096x12288, .bf16⟩

abbrev hbmTy0_1 (i : Nat) : BufTy := match i % 128 with
  | 0 => ⟨S1x4096x8, .f32⟩
  | 1 => ⟨S3x4096x8, .f32⟩
  | 2 => ⟨S3x4096x8, .f32⟩
  | 3 => ⟨S3x4096x8x1, .f32⟩
  | 4 => ⟨S1x4096x8x128, .f32⟩
  | 5 => ⟨S1x4096x8x128, .f32⟩
  | 6 => ⟨S1x4096x8x128, .f32⟩
  | 7 => ⟨S3x4096x8x128, .f32⟩
  | 8 => ⟨S3x4096x8x128, .f32⟩
  | 9 => ⟨S3x4096x8x128, .f32⟩
  | 10 => ⟨S_, .f32⟩
  | 11 => ⟨S4096x8x128, .f32⟩
  | 12 => ⟨S4096x1024, .f32⟩
  | 13 => ⟨S_, .f32⟩
  | 14 => ⟨S4096x8, .f32⟩
  | 15 => ⟨S1x4096x8, .f32⟩
  | 16 => ⟨S3x4096x8, .f32⟩
  | 17 => ⟨S3x4096x8, .f32⟩
  | 18 => ⟨S3x4096x8, .f32⟩
  | 19 => ⟨S_, .f32⟩
  | 20 => ⟨S4096x8, .f32⟩
  | 21 => ⟨S4096x8, .f32⟩
  | 22 => ⟨S4096x8, .f32⟩
  | 23 => ⟨S4096x8, .f32⟩
  | 24 => ⟨S4096x1024, .f32⟩
  | 25 => ⟨S4096x8x128, .f32⟩
  | 26 => ⟨S_, .f32⟩
  | 27 => ⟨S4096x8, .f32⟩
  | 28 => ⟨S_, .i32⟩
  | 29 => ⟨S_, .f32⟩
  | 30 => ⟨S4096x128, .f32⟩
  | 31 => ⟨S_, .i32⟩
  | 32 => ⟨S_, .f32⟩
  | 33 => ⟨S4096x128, .f32⟩
  | 34 => ⟨S4096x1024, .bf16⟩
  | 35 => ⟨S4096x1024, .bf16⟩
  | 36 => ⟨S1024x4096, .bf16⟩
  | 37 => ⟨S4096x1024, .bf16⟩
  | 38 => ⟨S1024x4096, .bf16⟩
  | 39 => ⟨S4096x1024, .bf16⟩
  | 40 => ⟨S1024x4096, .bf16⟩
  | 41 => ⟨S1024x4096, .bf16⟩
  | 42 => ⟨S1024x512, .f32⟩
  | 43 => ⟨S1024x512, .f32⟩
  | 44 => ⟨S1x128, .f32⟩
  | 45 => ⟨S1x128, .f32⟩
  | 46 => ⟨S1024x4096, .bf16⟩
  | 47 => ⟨S1024x4096, .bf16⟩
  | 48 => ⟨S1024x4096, .bf16⟩
  | 49 => ⟨S1x128, .f32⟩
  | 50 => ⟨S1x128, .f32⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | .local _ .vmem, ⟨30, _⟩ => ⟨S128x1024, .bf16⟩
  | .local _ .vmem, ⟨31, _⟩ => ⟨S128x1024, .bf16⟩
  | .local _ .vmem, ⟨32, _⟩ => ⟨S1x128, .f32⟩
  | .local _ .vmem, ⟨33, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_20 : Ref sig .tc := ⟨.hbm, 154, rfl⟩
abbrev main_v121 : Ref sig .tc := ⟨.hbm, 155, rfl⟩
abbrev main_c_21 : Ref sig .tc := ⟨.hbm, 156, rfl⟩
abbrev main_call1_v0 : Ref sig .tc := ⟨.hbm, 157, rfl⟩
abbrev main_v122 : Ref sig .tc := ⟨.hbm, 158, rfl⟩
abbrev main_c_22 : Ref sig .tc := ⟨.hbm, 159, rfl⟩
abbrev main_call2_v0 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136_0 : Ref sig .tc := ⟨.hbm, 174, rfl⟩
abbrev main_v136_1 : Ref sig .tc := ⟨.hbm, 175, rfl⟩
abbrev main_v136_2 : Ref sig .tc := ⟨.hbm, 176, rfl⟩
abbrev main_v136_3 : Ref sig .tc := ⟨.hbm, 177, rfl⟩
abbrev main_v136_4 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v1749 : BitVec 32 := Scalar.extui v2
  let c0_i32_683 : BitVec 32 := 0#32
  let v1750 : BitVec 1 := Scalar.cmpi .ne v1749 c0_i32_683
  v1750

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v1751 : BitVec 1 := Scalar.xori v2 v_true
  let v1752 : BitVec 32 := Scalar.extui v1751
  let c0_i32_684 : BitVec 32 := 0#32
  let v1753 : BitVec 1 := Scalar.cmpi .ne v1752 c0_i32_684
  v1753

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let v2 : BitVec 32 := Scalar.addi c0_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let v2 : BitVec 32 := Scalar.addi c0_i32 arg0
  let c0_i32_0 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let v2 : BitVec 32 := Scalar.addi c0_i32 arg0
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let v2 : BitVec 32 := Scalar.addi c0_i32 arg0
  let c0_i32_0 : BitVec 32 := 0#32
  ![v1.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S4096x12288 : Shape := ⟨2, ![4096, 12288]⟩
abbrev S4096x8x128 : Shape := ⟨3, ![4096, 8, 128]⟩
abbrev S4096x8 : Shape := ⟨2, ![4096, 8]⟩
abbrev S4096x1024 : Shape := ⟨2, ![4096, 1024]⟩
abbrev S128 : Shape := ⟨1, ![128]⟩
abbrev S_ : Shape := ⟨0, ![]⟩
abbrev S4096x8x1 : Shape := ⟨3, ![4096, 8, 1]⟩
abbrev S1x1x128 : Shape := ⟨3, ![1, 1, 128]⟩
abbrev S8 : Shape := ⟨1, ![8]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096 : Shape := ⟨2, ![8, 4096]⟩
abbrev S8x4096x1 : Shape := ⟨3, ![8, 4096, 1]⟩
abbrev S8x128x4096 : Shape := ⟨3, ![8, 128, 4096]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x128 : Shape := ⟨4, ![1, 4096, 8, 128]⟩
abbrev S3x4096x8x128 : Shape := ⟨4, ![3, 4096, 8, 128]⟩
abbrev S8x4096x128 : Shape := ⟨3, ![8, 4096, 128]⟩
abbrev S1024x4096 : Shape := ⟨2, ![1024, 4096]⟩
abbrev S1x128 : Shape := ⟨2, ![1, 128]⟩

abbrev nBuf : Space → Nat
  | .hbm => 313
  | .vmem => 0
  | .smem => 0
  | _ => 0

abbrev hbmTy0_0 (i : Nat) : BufTy := match i % 128 with
  | 0 => ⟨S4096x12288, .bf16⟩
  | 1 => ⟨S4096x8x128, .f32⟩
  | 2 => ⟨S4096x8, .f32⟩
  | 3 => ⟨S4096x8x128, .f32⟩
  | 4 => ⟨S4096x8, .f32⟩
  | 5 => ⟨S4096x1024, .f32⟩
  | 6 => ⟨S128, .f32⟩
  | 7 => ⟨S128, .f32⟩
  | 8 => ⟨S4096x1024, .bf16⟩
  | 9 => ⟨S4096x1024, .f32⟩
  | 10 => ⟨S4096x1024, .bf16⟩
  | 11 => ⟨S4096x1024, .f32⟩
  | 12 => ⟨S4096x1024, .bf16⟩
  | 13 => ⟨S4096x1024, .f32⟩
  | 14 => ⟨S4096x8x128, .f32⟩
  | 15 => ⟨S4096x8x128, .f32⟩
  | 16 => ⟨S_, .f32⟩
  | 17 => ⟨S4096x8, .f32⟩
  | 18 => ⟨S4096x8x1, .f32⟩
  | 19 => ⟨S_, .f32⟩
  | 20 => ⟨S4096x8x1, .f32⟩
  | 21 => ⟨S4096x8x1, .f32⟩
  | 22 => ⟨S_, .f32⟩
  | 23 => ⟨S4096x8x1, .f32⟩
  | 24 => ⟨S4096x8x1, .f32⟩
  | 25 => ⟨S4096x8x1, .f32⟩
  | 26 => ⟨S4096x8x1, .f32⟩
  | 27 => ⟨S_, .f32⟩
  | 28 => ⟨S4096x8x1, .f32⟩
  | 29 => ⟨S4096x8x1, .f32⟩
  | 30 => ⟨S4096x8x128, .f32⟩
  | 31 => ⟨S4096x8x128, .f32⟩
  | 32 => ⟨S1x1x128, .f32⟩
  | 33 => ⟨S4096x8x128, .f32⟩
  | 34 => ⟨S4096x8x128, .f32⟩
  | 35 => ⟨S4096x8x128, .f32⟩
  | 36 => ⟨S4096x8x128, .f32⟩
  | 37 => ⟨S_, .f32⟩
  | 38 => ⟨S4096x8, .f32⟩
  | 39 => ⟨S4096x8x1, .f32⟩
  | 40 => ⟨S_, .f32⟩
  | 41 => ⟨S4096x8x1, .f32⟩
  | 42 => ⟨S4096x8x1, .f32⟩
  | 43 => ⟨S_, .f32⟩
  | 44 => ⟨S4096x8x1, .f32⟩
  | 45 => ⟨S4096x8x1, .f32⟩
  | 46 => ⟨S4096x8x1, .f32⟩
  | 47 => ⟨S4096x8x1, .f32⟩
  | 48 => ⟨S_, .f32⟩
  | 49 => ⟨S4096x8x1, .f32⟩
  | 50 => ⟨S4096x8x1, .f32⟩
  | 51 => ⟨S4096x8x128, .f32⟩
  | 52 => ⟨S4096x8x128, .f32⟩
  | 53 => ⟨S1x1x128, .f32⟩
  | 54 => ⟨S4096x8x128, .f32⟩
  | 55 => ⟨S4096x8x128, .f32⟩
  | 56 => ⟨S4096x8x128, .f32⟩
  | 57 => ⟨S8, .i32⟩
  | 58 => ⟨S_, .i32⟩
  | 59 => ⟨S8, .i32⟩
  | 60 => ⟨S8, .i32⟩
  | 61 => ⟨S8, .f32⟩
  | 62 => ⟨S_, .f32⟩
  | 63 => ⟨S8, .f32⟩
  | 64 => ⟨S8, .f32⟩
  | 65 => ⟨S8x4096x4096, .f32⟩
  | 66 => ⟨S_, .f32⟩
  | 67 => ⟨S8x4096x4096, .f32⟩
  | 68 => ⟨S8x4096x4096, .f32⟩
  | 69 => ⟨S4096, .i32⟩
  | 70 => ⟨S4096x1, .i32⟩
  | 71 => ⟨S4096, .i32⟩
  | 72 => ⟨S1x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i1⟩
  | 79 => ⟨S_, .i32⟩
  | 80 => ⟨S4096x4096, .i32⟩
  | 81 => ⟨S4096x4096, .i1⟩
  | 82 => ⟨S4096x4096, .i1⟩
  | 83 => ⟨S_, .i32⟩
  | 84 => ⟨S4096x4096, .i32⟩
  | 85 => ⟨S4096x4096, .i32⟩
  | 86 => ⟨S_, .i32⟩
  | 87 => ⟨S4096x4096, .i32⟩
  | 88 => ⟨S4096x4096, .i1⟩
  | 89 => ⟨S4096x4096, .i1⟩
  | 90 => ⟨S1x4096x4096, .i1⟩
  | 91 => ⟨S8x1x1, .f32⟩
  | 92 => ⟨S4096x4096, .f32⟩
  | 93 => ⟨S1x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S_, .f32⟩
  | 99 => ⟨S_, .f32⟩
  | 100 => ⟨S8x4096x4096, .i1⟩
  | 101 => ⟨S8x4096x4096, .f32⟩
  | 102 => ⟨S8x4096x4096, .f32⟩
  | 103 => ⟨S_, .f32⟩
  | 104 => ⟨S8x4096x4096, .f32⟩
  | 105 => ⟨S_, .f32⟩
  | 106 => ⟨S8x4096, .f32⟩
  | 107 => ⟨S8x4096x1, .f32⟩
  | 108 => ⟨S8x4096x4096, .f32⟩
  | 109 => ⟨S8x4096x4096, .i1⟩
  | 110 => ⟨S8x4096x4096, .f32⟩
  | 111 => ⟨S_, .f32⟩
  | 112 => ⟨S8x4096, .f32⟩
  | 113 => ⟨S8x4096x1, .f32⟩
  | 114 => ⟨S8x4096x4096, .f32⟩
  | 115 => ⟨S8x4096x4096, .f32⟩
  | 116 => ⟨S8x4096x4096, .f32⟩
  | 117 => ⟨S_, .f32⟩
  | 118 => ⟨S8x4096, .f32⟩
  | 119 => ⟨S8x4096, .f32⟩
  | 120 => ⟨S8x4096, .f32⟩
  | 121 => ⟨S8x4096, .f32⟩
  | 122 => ⟨S8x4096x1, .f32⟩
  | 123 => ⟨S8x4096x4096, .f32⟩
  | 124 => ⟨S8x4096x4096, .f32⟩
  | 125 => ⟨S8x4096x4096, .f32⟩
  | 126 => ⟨S8x128x4096, .f32⟩
  | 127 => ⟨S4096x8x128, .f32⟩
  | _ => ⟨S4096x12288, .bf16⟩

abbrev hbmTy0_1 (i : Nat) : BufTy := match i % 128 with
  | 0 => ⟨S4096x8, .f32⟩
  | 1 => ⟨S1x4096x8, .f32⟩
  | 2 => ⟨S1x4096x8, .f32⟩
  | 3 => ⟨S1x4096x8, .f32⟩
  | 4 => ⟨S3x4096x8, .f32⟩
  | 5 => ⟨S_, .f32⟩
  | 6 => ⟨S4096x8, .f32⟩
  | 7 => ⟨S_, .f32⟩
  | 8 => ⟨S4096x8, .f32⟩
  | 9 => ⟨S_, .f32⟩
  | 10 => ⟨S4096x8, .f32⟩
  | 11 => ⟨S1x4096x8, .f32⟩
  | 12 => ⟨S3x4096x8, .f32⟩
  | 13 => ⟨S3x4096x8, .i1⟩
  | 14 => ⟨S3x4096x8, .f32⟩
  | 15 => ⟨S_, .f32⟩
  | 16 => ⟨S4096x8, .f32⟩
  | 17 => ⟨S_, .f32⟩
  | 18 => ⟨S4096x8, .f32⟩
  | 19 => ⟨S4096x8, .f32⟩
  | 20 => ⟨S_, .f32⟩
  | 21 => ⟨S4096x8, .f32⟩
  | 22 => ⟨S4096x8, .i1⟩
  | 23 => ⟨S_, .f32⟩
  | 24 => ⟨S4096x8, .f32⟩
  | 25 => ⟨S4096x8, .i1⟩
  | 26 => ⟨S_, .f32⟩
  | 27 => ⟨S4096x8, .f32⟩
  | 28 => ⟨S_, .f32⟩
  | 29 => ⟨S4096x8, .f32⟩
  | 30 => ⟨S_, .f32⟩
  | 31 => ⟨S4096x8, .f32⟩
  | 32 => ⟨S4096x8, .f32⟩
  | 33 => ⟨S4096x8, .f32⟩
  | 34 => ⟨S1x4096x8, .f32⟩
  | 35 => ⟨S3x4096x8, .f32⟩
  | 36 => ⟨S3x4096x8, .f32⟩
  | 37 => ⟨S3x4096x8, .f32⟩
  | 38 => ⟨S_, .f32⟩
  | 39 => ⟨S4096x8, .f32⟩
  | 40 => ⟨S1x4096x8, .f32⟩
  | 41 => ⟨S3x4096x8, .f32⟩
  | 42 => ⟨S3x4096x8, .f32⟩
  | 43 => ⟨S1x4096x8, .f32⟩
  | 44 => ⟨S_, .f32⟩
  | 45 => ⟨S1x4096x8, .f32⟩
  | 46 => ⟨S1x4096x8, .f32⟩
  | 47 => ⟨S3x4096x8x1, .f32⟩
  | 48 => ⟨S1x4096x8x128, .f32⟩
  | 49 => ⟨S1x4096x8x128, .f32⟩
  | 50 => ⟨S1x4096x8x128, .f32⟩
  | 51 => ⟨S3x4096x8x128, .f32⟩
  | 52 => ⟨S_, .f32⟩
  | 53 => ⟨S4096x8x128, .f32⟩
  | 54 => ⟨S_, .f32⟩
  | 55 => ⟨S4096x8x128, .f32⟩
  | 56 => ⟨S3x4096x8x128, .f32⟩
  | 57 => ⟨S3x4096x8x128, .f32⟩
  | 58 => ⟨S_, .f32⟩
  | 59 => ⟨S4096x8x128, .f32⟩
  | 60 => ⟨S4096x1024, .f32⟩
  | 61 => ⟨S4096x8x128, .f32⟩
  | 62 => ⟨S3x4096x8x128, .f32⟩
  | 63 => ⟨S3x4096x8x128, .f32⟩
  | 64 => ⟨S3x4096x8x128, .f32⟩
  | 65 => ⟨S3x4096x8x128, .f32⟩
  | 66 => ⟨S_, .f32⟩
  | 67 => ⟨S3x4096x8, .f32⟩
  | 68 => ⟨S3x4096x8x1, .f32⟩
  | 69 => ⟨S1x4096x8x128, .f32⟩
  | 70 => ⟨S4096x8x128, .f32⟩
  | 71 => ⟨S1x4096x8x128, .f32⟩
  | 72 => ⟨S4096x8x128, .f32⟩
  | 73 => ⟨S1x4096x8x128, .f32⟩
  | 74 => ⟨S4096x8x128, .f32⟩
  | 75 => ⟨S_, .f32⟩
  | 76 => ⟨S3x4096x8, .f32⟩
  | 77 => ⟨S3x4096x8, .f32⟩
  | 78 => ⟨S3x4096x8, .f32⟩
  | 79 => ⟨S3x4096x8, .f32⟩
  | 80 => ⟨S_, .f32⟩
  | 81 => ⟨S4096x8, .f32⟩
  | 82 => ⟨S1x4096x8, .f32⟩
  | 83 => ⟨S1x4096x8, .f32⟩
  | 84 => ⟨S3x4096x8, .f32⟩
  | 85 => ⟨S3x4096x8, .f32⟩
  | 86 => ⟨S_, .f32⟩
  | 87 => ⟨S4096x8, .f32⟩
  | 88 => ⟨S3x4096x8, .f32⟩
  | 89 => ⟨S3x4096x8, .f32⟩
  | 90 => ⟨S3x4096x8, .f32⟩
  | 91 => ⟨S1x4096x8, .f32⟩
  | 92 => ⟨S4096x8, .f32⟩
  | 93 => ⟨S1x4096x8, .f32⟩
  | 94 => ⟨S4096x8, .f32⟩
  | 95 => ⟨S1x4096x8, .f32⟩
  | 96 => ⟨S4096x8, .f32⟩
  | 97 => ⟨S8x4096, .f32⟩
  | 98 => ⟨S8x128x4096, .f32⟩
  | 99 => ⟨S8x4096x4096, .f32⟩
  | 100 => ⟨S8x128x4096, .f32⟩
  | 101 => ⟨S4096x8x128, .f32⟩
  | 102 => ⟨S8x4096x4096, .f32⟩
  | 103 => ⟨S8x4096x4096, .f32⟩
  | 104 => ⟨S_, .f32⟩
  | 105 => ⟨S8x4096, .f32⟩
  | 106 => ⟨S8x4096x1, .f32⟩
  | 107 => ⟨S_, .f32⟩
  | 108 => ⟨S8x4096, .f32⟩
  | 109 => ⟨S8x4096, .f32⟩
  | 110 => ⟨S8x4096, .f32⟩
  | 111 => ⟨S8x4096x4096, .f32⟩
  | 112 => ⟨S8x4096x4096, .f32⟩
  | 113 => ⟨S8x4096x4096, .f32⟩
  | 114 => ⟨S_, .f32⟩
  | 115 => ⟨S8x4096x4096, .f32⟩
  | 116 => ⟨S8x4096x4096, .f32⟩
  | 117 => ⟨S_, .f32⟩
  | 118 => ⟨S8x4096x4096, .f32⟩
  | 119 => ⟨S8x4096x4096, .f32⟩
  | 120 => ⟨S8x4096x128, .f32⟩
  | 121 => ⟨S4096x8x128, .f32⟩
  | 122 => ⟨S8x4096x128, .f32⟩
  | 123 => ⟨S4096x8x128, .f32⟩
  | 124 => ⟨S4096x1024, .f32⟩
  | 125 => ⟨S4096x8x128, .f32⟩
  | 126 => ⟨S_, .f32⟩
  | 127 => ⟨S128, .f32⟩
  | _ => ⟨S4096x12288, .bf16⟩

abbrev hbmTy0_2 (i : Nat) : BufTy := match i % 128 with
  | 0 => ⟨S1x1x128, .f32⟩
  | 1 => ⟨S4096x8x128, .f32⟩
  | 2 => ⟨S4096x8x128, .f32⟩
  | 3 => ⟨S_, .f32⟩
  | 4 => ⟨S128, .f32⟩
  | 5 => ⟨S4096x8x128, .f32⟩
  | 6 => ⟨S_, .f32⟩
  | 7 => ⟨S4096x8, .f32⟩
  | 8 => ⟨S4096x8x1, .f32⟩
  | 9 => ⟨S4096x8x128, .f32⟩
  | 10 => ⟨S4096x8x128, .f32⟩
  | 11 => ⟨S4096x8x1, .f32⟩
  | 12 => ⟨S_, .f32⟩
  | 13 => ⟨S4096x8x1, .f32⟩
  | 14 => ⟨S4096x8x1, .f32⟩
  | 15 => ⟨S_, .f32⟩
  | 16 => ⟨S4096x8, .f32⟩
  | 17 => ⟨S4096x8x128, .f32⟩
  | 18 => ⟨S4096x8x128, .f32⟩
  | 19 => ⟨S4096x8x128, .f32⟩
  | 20 => ⟨S4096x8x128, .f32⟩
  | 21 => ⟨S4096x8x128, .f32⟩
  | 22 => ⟨S4096x1024, .f32⟩
  | 23 => ⟨S4096x8x128, .f32⟩
  | 24 => ⟨S_, .f32⟩
  | 25 => ⟨S128, .f32⟩
  | 26 => ⟨S1x1x128, .f32⟩
  | 27 => ⟨S4096x8x128, .f32⟩
  | 28 => ⟨S4096x8x128, .f32⟩
  | 29 => ⟨S_, .f32⟩
  | 30 => ⟨S128, .f32⟩
  | 31 => ⟨S4096x8x128, .f32⟩
  | 32 => ⟨S_, .f32⟩
  | 33 => ⟨S4096x8, .f32⟩
  | 34 => ⟨S4096x8x1, .f32⟩
  | 35 => ⟨S4096x8x128, .f32⟩
  | 36 => ⟨S4096x8x128, .f32⟩
  | 37 => ⟨S4096x8x1, .f32⟩
  | 38 => ⟨S_, .f32⟩
  | 39 => ⟨S4096x8x1, .f32⟩
  | 40 => ⟨S4096x8x1, .f32⟩
  | 41 => ⟨S_, .f32⟩
  | 42 => ⟨S4096x8, .f32⟩
  | 43 => ⟨S4096x8x128, .f32⟩
  | 44 => ⟨S4096x8x128, .f32⟩
  | 45 => ⟨S4096x8x128, .f32⟩
  | 46 => ⟨S4096x8x128, .f32⟩
  | 47 => ⟨S4096x8x128, .f32⟩
  | 48 => ⟨S4096x1024, .f32⟩
  | 49 => ⟨S1024x4096, .f32⟩
  | 50 => ⟨S1024x4096, .bf16⟩
  | 51 => ⟨S1024x4096, .f32⟩
  | 52 => ⟨S1024x4096, .bf16⟩
  | 53 => ⟨S1024x4096, .f32⟩
  | 54 => ⟨S1024x4096, .bf16⟩
  | 55 => ⟨S1x128, .f32⟩
  | 56 => ⟨S1x128, .f32⟩
  | _ => ⟨S4096x12288, .bf16⟩

abbrev hbmTy (i : Nat) : BufTy := match i / 128 with
  | 0 => hbmTy0_0 i
  | 1 => hbmTy0_1 i
  | 2 => hbmTy0_2 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_call0_v0 : Ref sig .tc := ⟨.hbm, 99, rfl⟩
abbrev main_v75_1 : Ref sig .tc := ⟨.hbm, 100, rfl⟩
abbrev main_call0_v2 : Ref sig .tc := ⟨.hbm, 101, rfl⟩
abbrev main_v75_0 : Ref sig .tc := ⟨.hbm, 102, rfl⟩
abbrev main_call0_cst : Ref sig .tc := ⟨.hbm, 103, rfl⟩
abbrev main_v75_2 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_cst_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_20 : Ref sig .tc := ⟨.hbm, 143, rfl⟩
abbrev main_v108 : Ref sig .tc := ⟨.hbm, 144, rfl⟩
abbrev main_cst_21 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_cst_25 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_27 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_28 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_29 : Ref sig .tc := ⟨.hbm, 180, rfl⟩
abbrev main_v136 : Ref sig .tc := ⟨.hbm, 181, rfl⟩
abbrev main_cst_30 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_31 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_32 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_33 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_34 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_35 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_36 : Ref sig .tc := ⟨.hbm, 232, rfl⟩
abbrev main_v181 : Ref sig .tc := ⟨.hbm, 233, rfl⟩
abbrev main_v182 : Ref sig .tc := ⟨.hbm, 234, rfl⟩
abbrev main_cst_37 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_call1_cst : Ref sig .tc := ⟨.hbm, 242, rfl⟩
abbrev main_call1_v0 : Ref sig .tc := ⟨.hbm, 243, rfl⟩
abbrev main_v189 : Ref sig .tc := ⟨.hbm, 244, rfl⟩
abbrev main_cst_38 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_cst_39 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_40 : Ref sig .tc := ⟨.hbm, 259, rfl⟩
abbrev main_v202 : Ref sig .tc := ⟨.hbm, 260, rfl⟩
abbrev main_v203 : Ref sig .tc := ⟨.hbm, 261, rfl⟩
abbrev main_cst_41 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_cst_42 : Ref sig .tc := ⟨.hbm, 268, rfl⟩
abbrev main_v209 : Ref sig .tc := ⟨.hbm, 269, rfl⟩
abbrev main_v210 : Ref sig .tc := ⟨.hbm, 270, rfl⟩
abbrev main_cst_43 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_44 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_cst_45 : Ref sig .tc := ⟨.hbm, 285, rfl⟩
abbrev main_v223 : Ref sig .tc := ⟨.hbm, 286, rfl⟩
abbrev main_v224 : Ref sig .tc := ⟨.hbm, 287, rfl⟩
abbrev main_cst_46 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_47 : Ref sig .tc := ⟨.hbm, 294, rfl⟩
abbrev main_v230 : Ref sig .tc := ⟨.hbm, 295, rfl⟩
abbrev main_v231 : Ref sig .tc := ⟨.hbm, 296, rfl⟩
abbrev main_cst_48 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩

abbrev nD : Nat := 1
abbrev τ : Topo := Topo.v7x

variable {F : FTy → Type} [FloatOps F]
-- ==== Kernel2.lean ====
abbrev S4096x5632 : Shape := ⟨2, ![4096, 5632]⟩
abbrev S2048x5632 : Shape := ⟨2, ![2048, 5632]⟩
abbrev S_ : Shape := ⟨0, ![]⟩
abbrev S8x128 : Shape := ⟨2, ![8, 128]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩
abbrev S1x1 : Shape := ⟨2, ![1, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S8x128, .f32⟩
  | .hbm, ⟨6, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S8x128, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v6 : BitVec 1 := Scalar.cmpi .eq arg2 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S_, .f32⟩
  | .hbm, ⟨5, _⟩ => ⟨S8x128, .f32⟩
  | .hbm, ⟨6, _⟩ => ⟨S4096x5632, .bf16⟩
  | .hbm, ⟨7, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S8x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel4.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S2048x256 : Shape := ⟨2, ![2048, 256]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x5632, .bf16⟩
  | .hbm, ⟨10, _⟩ => ⟨S4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S4096x5632 : Shape := ⟨2, ![4096, 5632]⟩
abbrev S_ : Shape := ⟨0, ![]⟩
abbrev S1 : Shape := ⟨1, ![1]⟩
abbrev S1024x5632 : Shape := ⟨2, ![1024, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .i32⟩
  | .hbm, ⟨3, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg0 v2
  let c0_i32 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S1024x5632, .f32⟩
  | .hbm, ⟨10, _⟩ => ⟨S1024x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S4096x5632 : Shape := ⟨2, ![4096, 5632]⟩
abbrev S1024x5632 : Shape := ⟨2, ![1024, 5632]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S1024x5632, .bf16⟩
  | .hbm, ⟨3, _⟩ => ⟨S_, .i32⟩
  | .hbm, ⟨4, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S4096x5632 : Shape := ⟨2, ![4096, 5632]⟩
abbrev S1024x5632 : Shape := ⟨2, ![1024, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S1024x5632, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S1024x5632, .f32⟩
  | .hbm, ⟨11, _⟩ => ⟨S1024x5632, .f32⟩
  | .hbm, ⟨12, _⟩ => ⟨S1024x5632, .f32⟩
  | .hbm, ⟨13, _⟩ => ⟨S1024x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4096x5632 : Shape := ⟨2, ![4096, 5632]⟩
abbrev S4096x2048 : Shape := ⟨2, ![4096, 2048]⟩
abbrev S_ : Shape := ⟨0, ![]⟩
abbrev S1 : Shape := ⟨1, ![1]⟩
abbrev S5632x1024 : Shape := ⟨2, ![5632, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 5
  | .smem => 1
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .i32⟩
  | .hbm, ⟨3, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .smem, ⟨0, _⟩ => ⟨S1, .i32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg1 v2
  let c0_i32 : BitVec 32 := 0#32
  ![arg2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x1024, .f32⟩
  | .hbm, ⟨16, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S4096x5632 : Shape := ⟨2, ![4096, 5632]⟩
abbrev S4096x2048 : Shape := ⟨2, ![4096, 2048]⟩
abbrev S5632x1024 : Shape := ⟨2, ![5632, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x1024, .bf16⟩
  | .hbm, ⟨3, _⟩ => ⟨S_, .i32⟩
  | .hbm, ⟨4, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x5632 : Shape := ⟨2, ![4096, 5632]⟩
abbrev S4096x2048 : Shape := ⟨2, ![4096, 2048]⟩
abbrev S5632x1024 : Shape := ⟨2, ![5632, 1024]⟩
abbrev S_ : Shape := ⟨0, ![]⟩
abbrev S5632x2048 : Shape := ⟨2, ![5632, 2048]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x1024, .bf16⟩
  | .hbm, ⟨3, _⟩ => ⟨S_, .f32⟩
  | .hbm, ⟨4, _⟩ => ⟨S5632x2048, .f32⟩
  | .hbm, ⟨5, _⟩ => ⟨S4096x5632, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S2048x5632, .f32⟩
  | .hbm, ⟨15, _⟩ => ⟨S5632x2048, .f32⟩
  | .hbm, ⟨16, _⟩ => ⟨S5632x1024, .f32⟩
  | .hbm, ⟨17, _⟩ => ⟨S5632x1024, .f32⟩
  | .hbm, ⟨18, _⟩ => ⟨S5632x1024, .f32⟩
  | .hbm, ⟨19, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S4096x2048 : Shape := ⟨2, ![4096, 2048]⟩
abbrev S4096x12288 : Shape := ⟨2, ![4096, 12288]⟩
abbrev S_ : Shape := ⟨0, ![]⟩
abbrev S1 : Shape := ⟨1, ![1]⟩
abbrev S1024x12288 : Shape := ⟨2, ![1024, 12288]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S_, .i32⟩
  | .hbm, ⟨3, _⟩ => ⟨S1024x12288, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 24, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg0 v2
  let c0_i32 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩
abbrev S1024x12288 : Shape := ⟨2, ![1024, 12288]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S_, .f32⟩
  | .hbm, ⟨3, _⟩ => ⟨S2048x12288, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S12288x2048, .f32⟩
  | .hbm, ⟨8, _⟩ => ⟨S2048x12288, .f32⟩
  | .hbm, ⟨9, _⟩ => ⟨S1024x12288, .f32⟩
  | .hbm, ⟨10, _⟩ => ⟨S1024x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S4096x12288 : Shape := ⟨2, ![4096, 12288]⟩
abbrev S1024x12288 : Shape := ⟨2, ![1024, 12288]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S1024x12288, .bf16⟩
  | .hbm, ⟨3, _⟩ => ⟨S_, .i32⟩
  | .hbm, ⟨4, _⟩ => ⟨S1024x12288, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 24, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S4096x12288 : Shape := ⟨2, ![4096, 12288]⟩
abbrev S1024x12288 : Shape := ⟨2, ![1024, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S1024x12288, .bf16⟩
  | .hbm, ⟨3, _⟩ => ⟨S_, .f32⟩
  | .hbm, ⟨4, _⟩ => ⟨S2048x12288, .f32⟩
  | .hbm, ⟨5, _⟩ => ⟨S4096x2048, .f32⟩
  | .hbm, ⟨6, _⟩ => ⟨S4096x12288, .f32⟩
  | .hbm, ⟨7, _⟩ => ⟨S4096x12288, .f32⟩
  | .hbm, ⟨8, _⟩ => ⟨S12288x2048, .f32⟩
  | .hbm, ⟨9, _⟩ => ⟨S2048x12288, .f32⟩
  | .hbm, ⟨10, _⟩ => ⟨S1024x12288, .f32⟩
  | .hbm, ⟨11, _⟩ => ⟨S1024x12288, .f32⟩
  | .hbm, ⟨12, _⟩ => ⟨S1024x12288, .f32⟩
  | .hbm, ⟨13, _⟩ => ⟨S1024x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S4096x2048 : Shape := ⟨2, ![4096, 2048]⟩
abbrev S_ : Shape := ⟨0, ![]⟩
abbrev S1 : Shape := ⟨1, ![1]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .i32⟩
  | .hbm, ⟨3, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg1 v2
  let c0_i32 : BitVec 32 := 0#32
  ![arg2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .bf16⟩
  | .hbm, ⟨3, _⟩ => ⟨S_, .i32⟩
  | .hbm, ⟨4, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x1024 : Shape := ⟨2, ![2048, 1024]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel14.lean ====
abbrev S4096x12288 : Shape := ⟨2, ![4096, 12288]⟩
abbrev S2048x12288 : Shape := ⟨2, ![2048, 12288]⟩
abbrev S_ : Shape := ⟨0, ![]⟩
abbrev S8x128 : Shape := ⟨2, ![8, 128]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .bf16⟩
  | .hbm, ⟨2, _⟩ => ⟨S_, .f32⟩
  | .hbm, ⟨3, _⟩ => ⟨S8x128, .f32⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S8x128, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 24], ![false, false, false]⟩

def k0_cond3 (i : grid0.Coords) : BitVec 1 :=
  let arg2 : BitVec 32 := BitVec.ofNat 32 (i 2).val
  let c23_i32 : BitVec 32 := 23#32
  let v6 : BitVec 1 := Scalar.cmpi .eq arg2 c23_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x12288 : Shape := ⟨2, ![4096, 12288]⟩
abbrev S2048x12288 : Shape := ⟨2, ![2048, 12288]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .bf16⟩
  | .hbm, ⟨2, _⟩ => ⟨S_, .f32⟩
  | .hbm, ⟨3, _⟩ => ⟨S4096x2048, .f32⟩
  | .hbm, ⟨4, _⟩ => ⟨S2048x12288, .f32⟩
  | .hbm, ⟨5, _⟩ => ⟨S4096x12288, .f32⟩
  | .hbm, ⟨6, _⟩ => ⟨S4096x12288, .f32⟩
  | .hbm, ⟨7, _⟩ => ⟨S4096x2048, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S_ : Shape := ⟨0, ![]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S8x128, .f32⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S2048x12288 : Shape := ⟨2, ![2048, 12288]⟩
abbrev S4096x12288 : Shape := ⟨2, ![4096, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x2048, .f32⟩
  | .hbm, ⟨3, _⟩ => ⟨S2048x12288, .f32⟩
  | .hbm, ⟨4, _⟩ => ⟨S4096x12288, .f32⟩
  | .hbm, ⟨5, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S4096x3072 : Shape := ⟨2, ![4096, 3072]⟩
abbrev S_ : Shape := ⟨0, ![]⟩
abbrev S1 : Shape := ⟨1, ![1]⟩
abbrev S1024x3072 : Shape := ⟨2, ![1024, 3072]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .i32⟩
  | .hbm, ⟨3, _⟩ => ⟨S1024x3072, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg0 v2
  let c0_i32 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S1024x3072, .f32⟩
  | .hbm, ⟨10, _⟩ => ⟨S1024x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S4096x2048 : Shape := ⟨2, ![4096, 2048]⟩
abbrev S4096x3072 : Shape := ⟨2, ![4096, 3072]⟩
abbrev S1024x3072 : Shape := ⟨2, ![1024, 3072]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S1024x3072, .bf16⟩
  | .hbm, ⟨3, _⟩ => ⟨S_, .i32⟩
  | .hbm, ⟨4, _⟩ => ⟨S1024x3072, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 6, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x2048 : Shape := ⟨2, ![4096, 2048]⟩
abbrev S4096x3072 : Shape := ⟨2, ![4096, 3072]⟩
abbrev S1024x3072 : Shape := ⟨2, ![1024, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S1024x3072, .bf16⟩
  | .hbm, ⟨3, _⟩ => ⟨S_, .f32⟩
  | .hbm, ⟨4, _⟩ => ⟨S2048x3072, .f32⟩
  | .hbm, ⟨5, _⟩ => ⟨S4096x2048, .f32⟩
  | .hbm, ⟨6, _⟩ => ⟨S4096x3072, .f32⟩
  | .hbm, ⟨7, _⟩ => ⟨S4096x3072, .f32⟩
  | .hbm, ⟨8, _⟩ => ⟨S3072x2048, .f32⟩
  | .hbm, ⟨9, _⟩ => ⟨S2048x3072, .f32⟩
  | .hbm, ⟨10, _⟩ => ⟨S1024x3072, .f32⟩
  | .hbm, ⟨11, _⟩ => ⟨S1024x3072, .f32⟩
  | .hbm, ⟨12, _⟩ => ⟨S1024x3072, .f32⟩
  | .hbm, ⟨13, _⟩ => ⟨S1024x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel20.lean ====
abbrev S4096x3072 : Shape := ⟨2, ![4096, 3072]⟩
abbrev S2048x3072 : Shape := ⟨2, ![2048, 3072]⟩
abbrev S_ : Shape := ⟨0, ![]⟩
abbrev S8x128 : Shape := ⟨2, ![8, 128]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .f32⟩
  | .hbm, ⟨3, _⟩ => ⟨S8x128, .f32⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S8x128, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .f32⟩
  | .hbm, ⟨3, _⟩ => ⟨S4096x2048, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | .hbm, ⟨5, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Math.lean ====
module

public import Idealize.ShloMosaic.PureOps.Ideal.Laws
public import Idealize.ShloMosaic.Lib.IdealHost

/-! The mathematics of the gradient of one dilated attention group over the real numbers: the norms, the
scores, the mix with two other groups, the gradients in the short form that uses the mix's own log
denominator, and the proof that differentiating step by step gives the same numbers. -/

@[expose] public section

noncomputable section

namespace Attn

open Finset

abbrev T := Fin 4096
abbrev H := Fin 8
abbrev E := Fin 128

/-- The constant under the root. -/
def eps : ℝ := 8796093 / 2 ^ 43
/-- The constant the scores are scaled by. -/
def scl : ℝ := 11863283 / 2 ^ 27
/-- The slope of the distance bias of a head. -/
def slope (h : H) : ℝ := 1 / 2 ^ ((h : ℕ) + 1)

theorem eps_pos : 0 < eps := by unfold eps; norm_num

/-! ## The norm of one row -/

/-- The mean square of a row, with the constant. -/
def ms (x : E → ℝ) : ℝ := (∑ e, x e * x e) / 128 + eps
def rs (x : E → ℝ) : ℝ := (Real.sqrt (ms x))⁻¹
def hat (x : E → ℝ) (e : E) : ℝ := x e * rs x
def nrm (g x : E → ℝ) (e : E) : ℝ := hat x e * g e
/-- The gradient through the norm. -/
def nbw (g x dn : E → ℝ) (e : E) : ℝ :=
  rs x * (dn e * g e - hat x e * ((∑ e', dn e' * g e' * hat x e') / 128))

theorem ms_pos (x : E → ℝ) : 0 < ms x := by
  have h : 0 ≤ ∑ e, x e * x e := sum_nonneg fun e _ => mul_self_nonneg _
  have := eps_pos
  unfold ms; positivity

theorem rs_sq (x : E → ℝ) : rs x * rs x = 1 / ms x := by
  unfold rs
  rw [← mul_inv, Real.mul_self_sqrt (ms_pos x).le, one_div]

/-- The gradient through the norm as the chain rule gives it, one factor at a time. -/
theorem nbw_chain (g x dn : E → ℝ) (e : E) :
    dn e * g e * rs x
      + x e * ((∑ e', x e' * (dn e' * g e')) * (-(1/2) * (rs x / ms x)) / 128)
      + ((∑ e', x e' * (dn e' * g e')) * (-(1/2) * (rs x / ms x)) / 128) * x e = nbw g x dn e := by
  have hs : ∑ e', dn e' * g e' * hat x e' = rs x * ∑ e', x e' * (dn e' * g e') := by
    rw [mul_sum]; exact sum_congr rfl fun e' _ => by unfold hat; ring
  unfold nbw
  rw [hs]
  generalize ∑ e', x e' * (dn e' * g e') = A
  have h1 : rs x / ms x = rs x * (rs x * rs x) := by rw [rs_sq]; ring
  rw [h1]; unfold hat; ring

/-! ## The arguments and the forward pass -/

/-- The arguments: the group's raw queries, keys and values, the two gains, the other two groups' outputs and
log denominators, and the gradient of the mixed output. -/
structure Inp where
  Q : T → H → E → ℝ
  K : T → H → E → ℝ
  W : T → H → E → ℝ
  gq : E → ℝ
  gk : E → ℝ
  O0 : T → H → E → ℝ
  O2 : T → H → E → ℝ
  L0 : T → H → ℝ
  L2 : T → H → ℝ
  DY : T → H → E → ℝ

/-- Query `t` sees key `u`. -/
abbrev ok (t u : T) : Prop := u.val ≤ t.val ∧ t.val - u.val ≤ 512 ∧ (t.val - u.val) % 4 = 0

theorem ok_self (t : T) : ok t t := by unfold ok; omega

namespace Inp
variable (X : Inp)

def qn (t : T) (h : H) (e : E) : ℝ := nrm X.gq (X.Q t h) e
def kn (t : T) (h : H) (e : E) : ℝ := nrm X.gk (X.K t h) e
/-- The score of query `t` and key `u`, the distance bias taken off. -/
def sc (t : T) (h : H) (u : T) : ℝ :=
  (∑ e, X.qn t h e * X.kn u h e) * scl - slope h * ((t.val : ℝ) - (u.val : ℝ))
/-- `exp` of the score less `M`, zero where the query does not see the key. -/
def ex (M : ℝ) (t : T) (h : H) (u : T) : ℝ := if ok t u then Real.exp (X.sc t h u - M) else 0
def den (t : T) (h : H) : ℝ := ∑ u, X.ex 0 t h u
def l (t : T) (h : H) : ℝ := Real.log (X.den t h)
def pr (t : T) (h : H) (u : T) : ℝ := X.ex (X.l t h) t h u
def o (t : T) (h : H) (e : E) : ℝ := ∑ u, X.pr t h u * X.W u h e
/-- The log denominators of the three groups. -/
def L (i : Fin 3) (t : T) (h : H) : ℝ := match i with | 0 => X.L0 t h | 1 => X.l t h | 2 => X.L2 t h
def O (i : Fin 3) (t : T) (h : H) (e : E) : ℝ := match i with | 0 => X.O0 t h e | 1 => X.o t h e | 2 => X.O2 t h e
def S (t : T) (h : H) : ℝ := ∑ i, Real.exp (X.L i t h)
def lse (t : T) (h : H) : ℝ := Real.log (X.S t h)
def al (i : Fin 3) (t : T) (h : H) : ℝ := Real.exp (X.L i t h) / X.S t h
def y (t : T) (h : H) (e : E) : ℝ := ∑ i, X.al i t h * X.O i t h e
def dlt (t : T) (h : H) : ℝ := ∑ e, X.DY t h e * X.y t h e

/-! ## The gradients -/

/-- The mixed weight of a key: its share of all three groups' denominators. -/
def P (t : T) (h : H) (u : T) : ℝ := X.ex (X.lse t h) t h u
def dp (t : T) (h : H) (u : T) : ℝ := ∑ e, X.DY t h e * X.W u h e
def ds (t : T) (h : H) (u : T) : ℝ := X.P t h u * (X.dp t h u - X.dlt t h)
def dqn (t : T) (h : H) (e : E) : ℝ := scl * ∑ u, X.ds t h u * X.kn u h e
def dkn (u : T) (h : H) (e : E) : ℝ := scl * ∑ t, X.ds t h u * X.qn t h e
def dv (u : T) (h : H) (e : E) : ℝ := ∑ t, X.P t h u * X.DY t h e
def dq (t : T) (h : H) (e : E) : ℝ := nbw X.gq (X.Q t h) (X.dqn t h) e
def dk (t : T) (h : H) (e : E) : ℝ := nbw X.gk (X.K t h) (X.dkn t h) e
def dqg (e : E) : ℝ := ∑ t, ∑ h, hat (X.Q t h) e * X.dqn t h e
def dkg (e : E) : ℝ := ∑ t, ∑ h, hat (X.K t h) e * X.dkn t h e

/-! ## The chain rule, step by step, gives these gradients -/

theorem ex_shift (M N : ℝ) (t : T) (h : H) (u : T) : X.ex M t h u = X.ex N t h u * Real.exp (N - M) := by
  unfold ex
  split
  · rw [← Real.exp_add]; congr 1; ring
  · simp

theorem ex_nonneg (M : ℝ) (t : T) (h : H) (u : T) : 0 ≤ X.ex M t h u := by
  unfold ex; split <;> positivity

theorem sum_ex_pos (M : ℝ) (t : T) (h : H) : 0 < ∑ u, X.ex M t h u :=
  sum_pos' (fun u _ => X.ex_nonneg M t h u) ⟨t, mem_univ t, by unfold ex; rw [if_pos (ok_self t)]; positivity⟩

theorem sum_ex (M : ℝ) (t : T) (h : H) : ∑ u, X.ex M t h u = X.den t h * Real.exp (0 - M) := by
  unfold den; rw [sum_mul]; exact sum_congr rfl fun u _ => X.ex_shift M 0 t h u

theorem den_pos (t : T) (h : H) : 0 < X.den t h := X.sum_ex_pos 0 t h

/-- The log denominator does not depend on the number the scores are shifted by. -/
theorem log_sum_ex (M : ℝ) (t : T) (h : H) : Real.log (∑ u, X.ex M t h u) + M = X.l t h := by
  rw [sum_ex, Real.log_mul (X.den_pos t h).ne' (Real.exp_pos _).ne', Real.log_exp]; unfold l; ring

theorem ex_div (M : ℝ) (t : T) (h : H) (u : T) : X.ex M t h u / (∑ u, X.ex M t h u) = X.pr t h u := by
  have hd := X.den_pos t h
  have h0 : Real.exp (0 - X.l t h) = (X.den t h)⁻¹ := by
    unfold l; rw [zero_sub, Real.exp_neg, Real.exp_log hd]
  rw [sum_ex, X.ex_shift M 0]
  unfold pr
  rw [X.ex_shift (X.l t h) 0, h0, mul_div_mul_right _ _ (Real.exp_pos _).ne']; rfl

theorem S_pos (t : T) (h : H) : 0 < X.S t h := sum_pos (fun _ _ => Real.exp_pos _) ⟨0, mem_univ _⟩

theorem sum_exp_L (M : ℝ) (t : T) (h : H) : ∑ i, Real.exp (X.L i t h - M) = X.S t h * Real.exp (-M) := by
  unfold S; rw [sum_mul]; exact sum_congr rfl fun i _ => by rw [← Real.exp_add]; rfl

theorem sum_exp_L_pos (M : ℝ) (t : T) (h : H) : 0 < ∑ i, Real.exp (X.L i t h - M) :=
  sum_pos (fun _ _ => Real.exp_pos _) ⟨0, mem_univ _⟩

theorem log_sum_exp_L (M : ℝ) (t : T) (h : H) :
    Real.log (∑ i, Real.exp (X.L i t h - M)) + M = X.lse t h := by
  rw [sum_exp_L, Real.log_mul (X.S_pos t h).ne' (Real.exp_pos _).ne', Real.log_exp]; unfold lse; ring

theorem exp_L_div (M : ℝ) (i : Fin 3) (t : T) (h : H) :
    Real.exp (X.L i t h - M) / (∑ j, Real.exp (X.L j t h - M)) = X.al i t h := by
  rw [sum_exp_L, sub_eq_add_neg, Real.exp_add, mul_div_mul_right _ _ (Real.exp_pos _).ne']; rfl

/-- The weight in the mix is the group's share times the weight in the group. -/
theorem P_eq (t : T) (h : H) (u : T) : X.P t h u = X.al 1 t h * X.pr t h u := by
  unfold P pr
  rw [X.ex_shift (X.lse t h) (X.l t h), Real.exp_sub]
  unfold lse al
  rw [Real.exp_log (X.S_pos t h)]
  show _ = Real.exp (X.l t h) / _ * _
  ring

/-- The gradient of a group's log denominator through the mix. -/
theorem mix_bwd (M : ℝ) (i : Fin 3) (t : T) (h : H) (d : Fin 3 → ℝ) :
    (d i / (∑ j, Real.exp (X.L j t h - M))
      + -(∑ j, d j * (1 / ((∑ j, Real.exp (X.L j t h - M)) * (∑ j, Real.exp (X.L j t h - M))))
          * Real.exp (X.L j t h - M))) * Real.exp (X.L i t h - M)
      = X.al i t h * (d i - ∑ j, X.al j t h * d j) := by
  have hs : ∑ j, X.al j t h * d j
      = (∑ j, Real.exp (X.L j t h - M)) * ∑ j, d j * (1 / ((∑ j, Real.exp (X.L j t h - M)) * (∑ j, Real.exp (X.L j t h - M))))
          * Real.exp (X.L j t h - M) := by
    rw [mul_sum]
    refine sum_congr rfl fun j _ => ?_
    rw [← X.exp_L_div M j]
    have := (X.sum_exp_L_pos M t h).ne'
    field_simp
  rw [hs, ← X.exp_L_div M i]
  have := (X.sum_exp_L_pos M t h).ne'
  field_simp
  ring

theorem sum_al_d (t : T) (h : H) : ∑ j, X.al j t h * (∑ e, X.DY t h e * X.O j t h e) = X.dlt t h := by
  unfold dlt y
  simp only [mul_sum]
  rw [sum_comm]
  exact sum_congr rfl fun e _ => sum_congr rfl fun j _ => by ring

theorem sum_dp_pr (t : T) (h : H) :
    ∑ u, (∑ e, X.al 1 t h * X.DY t h e * X.W u h e) * X.pr t h u
      = X.al 1 t h * ∑ e, X.DY t h e * X.O 1 t h e := by
  show _ = X.al 1 t h * ∑ e, X.DY t h e * X.o t h e
  unfold o
  simp only [mul_sum, sum_mul]
  rw [sum_comm]
  exact sum_congr rfl fun e _ => sum_congr rfl fun u _ => by ring

/-- The gradient of a score, through the weights and through the log denominator. -/
theorem ds_chain (M : ℝ) (t : T) (h : H) (u : T) :
    (∑ e, X.al 1 t h * X.DY t h e * X.W u h e) * X.pr t h u
      + (X.al 1 t h * ((∑ e, X.DY t h e * X.O 1 t h e) - X.dlt t h)
          + ∑ u, -((∑ e, X.al 1 t h * X.DY t h e * X.W u h e) * X.pr t h u))
        / (∑ u, X.ex M t h u) * X.ex M t h u = X.ds t h u := by
  rw [sum_neg_distrib, sum_dp_pr, div_mul_eq_mul_div, mul_div_assoc, ex_div]
  unfold ds dp
  rw [P_eq]
  have : ∑ e, X.al 1 t h * X.DY t h e * X.W u h e = X.al 1 t h * ∑ e, X.DY t h e * X.W u h e := by
    rw [mul_sum]; exact sum_congr rfl fun e _ => by ring
  rw [this]; ring

theorem ds_of_not_ok {t u : T} (h : H) (hn : ¬ ok t u) : X.ds t h u = 0 := by
  unfold ds P ex; rw [if_neg hn, zero_mul]

theorem P_of_not_ok {t u : T} (h : H) (hn : ¬ ok t u) : X.P t h u = 0 := by
  unfold P ex; rw [if_neg hn]

end Inp

/-! ## The band of keys by blocks -/

/-- Row `i` of block `n` of residue `r`, as a token. -/
def tok (n : Fin 8) (i : Fin 128) (r : Fin 4) : T := ⟨(n.val * 128 + i.val) * 4 + r.val, by omega⟩

theorem ok_tok (n m : Fin 8) (i c : Fin 128) (r r' : Fin 4) :
    ok (tok n i r) (tok m c r') ↔ r = r' ∧ ((m = n ∧ c ≤ i) ∨ (m.val + 1 = n.val ∧ i ≤ c)) := by
  unfold ok tok
  simp only [Fin.ext_iff, Fin.le_def]
  omega

/-- Tokens by block, row and residue. -/
def tokEquiv : (Fin 8 × Fin 128) × Fin 4 ≃ T where
  toFun x := tok x.1.1 x.1.2 x.2
  invFun t := ((⟨t.val / 512, by omega⟩, ⟨t.val / 4 % 128, by omega⟩), ⟨t.val % 4, by omega⟩)
  left_inv x := by
    obtain ⟨⟨n, i⟩, r⟩ := x
    simp only [tok, Prod.mk.injEq, Fin.ext_iff]
    omega
  right_inv t := by
    simp only [tok, Fin.ext_iff]
    omega

theorem sum_tok {M : Type*} [AddCommMonoid M] (f : T → M) :
    ∑ t, f t = ∑ n, ∑ i, ∑ r, f (tok n i r) := by
  rw [← Equiv.sum_comp tokEquiv, Fintype.sum_prod_type, Fintype.sum_prod_type]; rfl

/-- A sum over the keys a query sees: the block before and the query's own block. -/
theorem sum_band_q (n : Fin 8) (i : Fin 128) (r : Fin 4) (f : T → ℝ) (hf : ∀ u, ¬ ok (tok n i r) u → f u = 0)
    (p : Fin 8) (hp : 0 < n.val → p.val + 1 = n.val) :
    ∑ u, f u = (∑ c, if i ≤ c ∧ 0 < n.val then f (tok p c r) else 0) + ∑ c, if c ≤ i then f (tok n c r) else 0 := by
  have hr : ∀ m c, ∑ r', f (tok m c r') = f (tok m c r) := fun m c =>
    sum_eq_single r (fun r' _ hne => hf _ fun h => hne ((ok_tok ..).1 h).1.symm) (by simp)
  rw [sum_tok]
  simp only [hr]
  have hz : ∀ m c, ¬ ((m = n ∧ c ≤ i) ∨ (m.val + 1 = n.val ∧ i ≤ c)) → f (tok m c r) = 0 := fun m c h =>
    hf _ fun h' => h ((ok_tok ..).1 h').2
  rw [sum_comm, ← sum_add_distrib]
  refine sum_congr rfl fun c _ => ?_
  have hn : (if c ≤ i then f (tok n c r) else 0) = f (tok n c r) := by
    split
    · rfl
    · rename_i h; exact (hz n c (by rintro (⟨_, h'⟩ | ⟨h', _⟩) <;> [exact h h'; omega])).symm
  rw [hn]
  by_cases h0 : 0 < n.val
  · have hp' := hp h0
    have hne : p ≠ n := fun h => by rw [h] at hp'; omega
    have hpc : (if i ≤ c ∧ 0 < n.val then f (tok p c r) else 0) = f (tok p c r) := by
      split
      · rfl
      · rename_i h
        exact (hz p c (by rintro (⟨h', _⟩ | ⟨_, h'⟩) <;> [exact hne h'; exact h ⟨h', h0⟩])).symm
    rw [hpc]
    exact Fintype.sum_eq_add p n hne fun m hm => hz m c (by
      rintro (⟨h', _⟩ | ⟨h', _⟩)
      · exact hm.2 h'
      · exact hm.1 (Fin.ext (by omega)))
  · rw [if_neg (fun h => h0 h.2), zero_add]
    exact Fintype.sum_eq_single n fun m hm => hz m c (by
      rintro (⟨h', _⟩ | ⟨h', _⟩)
      · exact hm h'
      · omega)

/-- A sum over the queries that see a key: the key's own block and the block after. -/
theorem sum_band_k (n : Fin 8) (c : Fin 128) (r : Fin 4) (f : T → ℝ) (hf : ∀ t, ¬ ok t (tok n c r) → f t = 0)
    (p : Fin 8) (hp : n.val < 7 → p.val = n.val + 1) :
    ∑ t, f t = (∑ i, if c ≤ i then f (tok n i r) else 0) + ∑ i, if i ≤ c ∧ n.val < 7 then f (tok p i r) else 0 := by
  have hr : ∀ m i, ∑ r', f (tok m i r') = f (tok m i r) := fun m i =>
    sum_eq_single r (fun r' _ hne => hf _ fun h => hne ((ok_tok ..).1 h).1) (by simp)
  rw [sum_tok]
  simp only [hr]
  have hz : ∀ m i, ¬ ((n = m ∧ c ≤ i) ∨ (n.val + 1 = m.val ∧ i ≤ c)) → f (tok m i r) = 0 := fun m i h =>
    hf _ fun h' => h ((ok_tok ..).1 h').2
  rw [sum_comm, ← sum_add_distrib]
  refine sum_congr rfl fun i _ => ?_
  have hn : (if c ≤ i then f (tok n i r) else 0) = f (tok n i r) := by
    split
    · rfl
    · rename_i h; exact (hz n i (by rintro (⟨_, h'⟩ | ⟨h', _⟩) <;> [exact h h'; omega])).symm
  rw [hn]
  by_cases h0 : n.val < 7
  · have hp' := hp h0
    have hne : n ≠ p := fun h => by rw [← h] at hp'; omega
    have hpc : (if i ≤ c ∧ n.val < 7 then f (tok p i r) else 0) = f (tok p i r) := by
      split
      · rfl
      · rename_i h
        exact (hz p i (by rintro (⟨h', _⟩ | ⟨_, h'⟩) <;> [exact hne h'; exact h ⟨h', h0⟩])).symm
    rw [hpc]
    exact Fintype.sum_eq_add n p hne fun m hm => hz m i (by
      rintro (⟨h', _⟩ | ⟨h', _⟩)
      · exact hm.1 h'.symm
      · exact hm.2 (Fin.ext (by omega)))
  · rw [if_neg (fun h => h0 h.2), add_zero]
    exact Fintype.sum_eq_single n fun m hm => hz m i (by
      rintro (⟨h', _⟩ | ⟨h', _⟩)
      · exact hm h'.symm
      · omega)

end Attn
-- ==== Proof.Coe.lean ====
module

public import Idealize.ShloMosaic.Lib.Pipeline.Value
public import Idealize.ShloMosaic.Lib.ValueIdx
public import Idealize.ShloMosaic.PureOps.Ideal.Laws
public import Idealize.ShloMosaic.Lib.IdealHost
public import proofs.«01_k».proof.Proof.Math

/-! The exact operations at real numbers, and the constants of the two programs. -/

@[expose] public section

noncomputable section

namespace Attn

open Idealize.ShloMosaic

theorem div_real {a b : ℝ} (h : b ≠ 0) : Ideal.div (a : EReal) (b : EReal) = ((a / b : ℝ) : EReal) := by
  rw [Ideal.div_coe h, ← EReal.coe_mul]; congr 1; ring

theorem rsqrt_real {a : ℝ} (h : 0 < a) : Ideal.rsqrt (a : EReal) = (((Real.sqrt a)⁻¹ : ℝ) : EReal) := by
  rw [Ideal.rsqrt_coe, if_neg (not_lt.2 h.le), if_neg h.ne']

theorem log_real {a : ℝ} (h : 0 < a) : Ideal.log (a : EReal) = ((Real.log a : ℝ) : EReal) := by
  rw [Ideal.log_coe, if_neg (not_le.2 h)]

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, ← EReal.coe_add]

theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm
theorem mul_real (a b : ℝ) : (a : EReal) * (b : EReal) = ((a * b : ℝ) : EReal) := (EReal.coe_mul a b).symm
theorem neg_real (a : ℝ) : -(a : EReal) = ((-a : ℝ) : EReal) := (EReal.coe_neg a).symm
theorem zero_real : (0 : EReal) = ((0 : ℝ) : EReal) := rfl

theorem sum_eq_real {ι : Type*} [Fintype ι] {f : ι → EReal} {g : ι → ℝ} (h : ∀ i, f i = ((g i : ℝ) : EReal)) :
    ∑ i, f i = ((∑ i, g i : ℝ) : EReal) := by
  rw [← sum_real]; exact Finset.sum_congr rfl fun i _ => h i

theorem c_128 : Ideal.ofBits .f32 0x43000000#32 = ((128 : ℝ) : EReal) := by
  simp [Ideal.ofBits, Ideal.ieee, -EReal.coe_mul]; norm_num
theorem c_eps : Ideal.ofBits .f32 0x358637BD#32 = ((eps : ℝ) : EReal) := by
  unfold eps
  simp [Ideal.ofBits, Ideal.ieee, -EReal.coe_mul]; norm_num
theorem c_scl : Ideal.ofBits .f32 0x3DB504F3#32 = ((scl : ℝ) : EReal) := by
  unfold scl
  simp [Ideal.ofBits, Ideal.ieee, -EReal.coe_mul]; norm_num
theorem c_mhalf : Ideal.ofBits .f32 0xBF000000#32 = ((-(1/2) : ℝ) : EReal) := by
  simp [Ideal.ofBits, Ideal.ieee, -EReal.coe_mul, -EReal.coe_neg]; norm_num
theorem c_one : Ideal.ofBits .f32 0x3F800000#32 = ((1 : ℝ) : EReal) := by
  rw [Ideal.ofBits_one_f32]; rfl
theorem c_four : Ideal.ofBits .f32 0x40800000#32 = ((4 : ℝ) : EReal) := by
  simp [Ideal.ofBits, Ideal.ieee, -EReal.coe_mul]; norm_num
theorem c_zero : Ideal.ofBits .f32 0x00000000#32 = ((0 : ℝ) : EReal) := by
  rw [Ideal.ofBits_zero_f32]; rfl
theorem c_ninf : Ideal.ofBits .f32 0xFF800000#32 = ⊥ := by
  simp [Ideal.ofBits, Ideal.ieee]
/-- The number the kernel puts in place of a masked score. -/
theorem c_big : ∃ r : ℝ, Ideal.ofBits .f32 0xF149F2CA#32 = (r : EReal) := by
  refine ⟨(Ideal.ofBits .f32 0xF149F2CA#32).toReal, (EReal.coe_toReal ?_ ?_).symm⟩ <;>
    simp [Ideal.ofBits, Ideal.ieee, -EReal.coe_mul, -EReal.coe_neg]
theorem c_s0 : Ideal.ofBits .f32 0x3F000000#32 = ((slope 0 : ℝ) : EReal) := by
  unfold slope; simp [Ideal.ofBits, Ideal.ieee, -EReal.coe_mul]; norm_num
theorem c_s1 : Ideal.ofBits .f32 0x3E800000#32 = ((slope 1 : ℝ) : EReal) := by
  unfold slope; simp [Ideal.ofBits, Ideal.ieee, -EReal.coe_mul]; norm_num
theorem c_s2 : Ideal.ofBits .f32 0x3E000000#32 = ((slope 2 : ℝ) : EReal) := by
  unfold slope; simp [Ideal.ofBits, Ideal.ieee, -EReal.coe_mul]; norm_num
theorem c_s3 : Ideal.ofBits .f32 0x3D800000#32 = ((slope 3 : ℝ) : EReal) := by
  unfold slope; simp [Ideal.ofBits, Ideal.ieee, -EReal.coe_mul]; norm_num
theorem c_s4 : Ideal.ofBits .f32 0x3D000000#32 = ((slope 4 : ℝ) : EReal) := by
  unfold slope; simp [Ideal.ofBits, Ideal.ieee, -EReal.coe_mul]; norm_num
theorem c_s5 : Ideal.ofBits .f32 0x3C800000#32 = ((slope 5 : ℝ) : EReal) := by
  unfold slope; simp [Ideal.ofBits, Ideal.ieee, -EReal.coe_mul]; norm_num
theorem c_s6 : Ideal.ofBits .f32 0x3C000000#32 = ((slope 6 : ℝ) : EReal) := by
  unfold slope; simp [Ideal.ofBits, Ideal.ieee, -EReal.coe_mul]; norm_num
theorem c_s7 : Ideal.ofBits .f32 0x3B800000#32 = ((slope 7 : ℝ) : EReal) := by
  unfold slope; simp [Ideal.ofBits, Ideal.ieee, -EReal.coe_mul]; norm_num

/-! ## A maximum of numbers below infinity, one of them real, is real -/

theorem foldl_max_ne_top {β : Type*} (g : β → EReal) (L : List β) (a : EReal) (ha : a ≠ ⊤) (hg : ∀ n, g n ≠ ⊤) :
    L.foldl (fun r n => max r (g n)) a ≠ ⊤ := by
  induction L generalizing a with
  | nil => exact ha
  | cons b L ih =>
    refine ih _ ?_
    show max a (g b) ≠ ⊤
    rcases max_choice a (g b) with h | h <;> rw [h]
    · exact ha
    · exact hg b

theorem le_foldl_max {β : Type*} (g : β → EReal) (L : List β) (a : EReal) :
    a ≤ L.foldl (fun r n => max r (g n)) a ∧ ∀ n ∈ L, g n ≤ L.foldl (fun r n => max r (g n)) a := by
  induction L generalizing a with
  | nil => exact ⟨le_refl _, by simp⟩
  | cons b L ih =>
    obtain ⟨h1, h2⟩ := ih (max a (g b))
    refine ⟨(le_max_left _ _).trans h1, fun n hn => ?_⟩
    rcases List.mem_cons.1 hn with rfl | hn
    · exact (le_max_right _ _).trans h1
    · exact h2 n hn

theorem reduce_max_real {s t u : Shape} {axes : List (Fin s.rank)} (x : FVec Ideal s .f32) (init : FVec Ideal u .f32)
    (h : s.ReducesTo axes t) (hu : 0 < u.numel) (j : t.Idx) (hi : init (Shape.Idx.first hu) ≠ ⊤) (hx : ∀ i, x i ≠ ⊤)
    (i : s.Idx) (hij : h.drop i = j) (hib : x i ≠ ⊥) :
    ∃ M : ℝ, Host.reduce (FloatOps.maximumf (F := Ideal)) x init h hu j = (M : EReal) := by
  refine ⟨(Host.reduce (FloatOps.maximumf (F := Ideal)) x init h hu j).toReal, (EReal.coe_toReal ?_ ?_).symm⟩
  · exact foldl_max_ne_top (fun n => x (s.rowMajor.symm n)) _ _ hi fun n => hx _
  · intro hb
    have hm := (le_foldl_max (fun n => x (s.rowMajor.symm n))
      ((List.finRange s.numel).filter fun n => h.drop (s.rowMajor.symm n) = j) (init (Shape.Idx.first hu))).2
      (s.rowMajor i) (by
        rw [List.mem_filter]
        refine ⟨List.mem_finRange _, ?_⟩
        rw [Equiv.symm_apply_apply]; exact decide_eq_true hij)
    simp only [Equiv.symm_apply_apply] at hm
    exact hib (le_bot_iff.1 (hm.trans (le_of_eq hb)))

end Attn
-- ==== Proof.R1.lean ====
module

public import proofs.«01_k».proof.Proof.Gen.ReferenceIdeal.Read
public import proofs.«01_k».proof.Proof.Coe

/-! The reference's forward pass at real arguments: norms, scores, weights and the group's output. -/

@[expose] public section

noncomputable section

namespace Attn

open Cert.ReferenceIdeal Cert.ReferenceIdeal.Gen Cert.ReferenceIdeal.Read Idealize.ShloMosaic Idealize.ShloMosaic.ValueIdx

theorem k_128 : FloatOps.ofBits (F := Ideal) .f32 0x43000000#32 = ((128 : ℝ) : EReal) := c_128
theorem k_eps : FloatOps.ofBits (F := Ideal) .f32 0x358637BD#32 = ((eps : ℝ) : EReal) := c_eps
theorem k_scl : FloatOps.ofBits (F := Ideal) .f32 0x3DB504F3#32 = ((scl : ℝ) : EReal) := c_scl
theorem k_mhalf : FloatOps.ofBits (F := Ideal) .f32 0xBF000000#32 = ((-(1/2) : ℝ) : EReal) := c_mhalf
theorem k_one : FloatOps.ofBits (F := Ideal) .f32 0x3F800000#32 = ((1 : ℝ) : EReal) := c_one
theorem k_zero : FloatOps.ofBits (F := Ideal) .f32 0x00000000#32 = (0 : EReal) := Ideal.ofBits_zero_f32
theorem k_ninf : FloatOps.ofBits (F := Ideal) .f32 0xFF800000#32 = (⊥ : EReal) := c_ninf
theorem k_sitofp {n : Nat} (b : BitVec n) : FloatOps.sitofp (F := Ideal) .f32 b = ((b.toInt : ℝ) : EReal) := rfl

/-- The arguments are real, and `X` names the numbers. -/
structure Rel (X : Inp) (x0 : FVec Ideal S4096x12288 .bf16) (x1 : FVec Ideal S4096x8x128 .f32) (x2 : FVec Ideal S4096x8 .f32)
    (x3 : FVec Ideal S4096x8x128 .f32) (x4 : FVec Ideal S4096x8 .f32) (x5 : FVec Ideal S4096x1024 .f32)
    (x6 x7 : FVec Ideal S128 .f32) : Prop where
  q : ∀ (i : S4096x12288.Idx) (t : T) (h : H) (e : E), (i 0).val = t.val → (i 1).val = 1024 + (h.val * 128 + e.val) →
    x0 i = ((X.Q t h e : ℝ) : EReal)
  k : ∀ (i : S4096x12288.Idx) (t : T) (h : H) (e : E), (i 0).val = t.val → (i 1).val = 4096 + (h.val * 128 + e.val) →
    x0 i = ((X.K t h e : ℝ) : EReal)
  w : ∀ (i : S4096x12288.Idx) (t : T) (h : H) (e : E), (i 0).val = t.val → (i 1).val = 7168 + (h.val * 128 + e.val) →
    x0 i = ((X.W t h e : ℝ) : EReal)
  o0 : ∀ i : S4096x8x128.Idx, x1 i = ((X.O0 (i 0) (i 1) (i 2) : ℝ) : EReal)
  l0 : ∀ i : S4096x8.Idx, x2 i = ((X.L0 (i 0) (i 1) : ℝ) : EReal)
  o2 : ∀ i : S4096x8x128.Idx, x3 i = ((X.O2 (i 0) (i 1) (i 2) : ℝ) : EReal)
  l2 : ∀ i : S4096x8.Idx, x4 i = ((X.L2 (i 0) (i 1) : ℝ) : EReal)
  dy : ∀ (i : S4096x1024.Idx) (t : T) (h : H) (e : E), (i 0).val = t.val → (i 1).val = h.val * 128 + e.val →
    x5 i = ((X.DY t h e : ℝ) : EReal)
  gq : ∀ i : S128.Idx, x6 i = ((X.gq (i 0) : ℝ) : EReal)
  gk : ∀ i : S128.Idx, x7 i = ((X.gk (i 0) : ℝ) : EReal)

variable {X : Inp} {x0 : FVec Ideal S4096x12288 .bf16} {x1 : FVec Ideal S4096x8x128 .f32} {x2 : FVec Ideal S4096x8 .f32}
  {x3 : FVec Ideal S4096x8x128 .f32} {x4 : FVec Ideal S4096x8 .f32} {x5 : FVec Ideal S4096x1024 .f32}
  {x6 x7 : FVec Ideal S128 .f32} (hx : Rel X x0 x1 x2 x3 x4 x5 x6 x7)
include hx

theorem r6 (i : S4096x8x128.Idx) :
    val_main_v6 (F := Ideal) x0 i = ((X.Q (i 0) (i 1) (i 2) : ℝ) : EReal) := by
  rw [val_main_v6_apply, val_main_v1_apply, val_main_v0_apply, Ideal.extf_def]
  have h0 : (i 0).val < 4096 := (i 0).isLt
  have h1 : (i 1).val < 8 := (i 1).isLt
  have h2 : (i 2).val < 128 := (i 2).isLt
  refine hx.q _ _ _ _ ?_ ?_
  · dsimp only [idx_main_v0, idx_main_v6]; omega
  · dsimp only [idx_main_v0, idx_main_v6]; omega

theorem r13 (i : S4096x8x1.Idx) :
    val_main_v13 (F := Ideal) x0 i = ((ms (X.Q (i 0) (i 1)) : ℝ) : EReal) := by
  have hs : ∀ k, val_main_v7 (F := Ideal) x0 (idx_main_v8 (idx_main_v9 i) k)
      = ((X.Q (i 0) (i 1) k * X.Q (i 0) (i 1) k : ℝ) : EReal) := fun k => by
    rw [val_main_v7_apply, r6 hx, Ideal.mulf_def, mul_real]; rfl
  rw [val_main_v13_apply, val_main_v11_apply, val_main_v9_apply, val_main_v8_apply, sum_eq_real hs,
    val_main_cst_apply, val_main_v10_apply, val_main_cst_0_apply, val_main_v12_apply, val_main_cst_1_apply,
    k_zero, k_128, k_eps, zero_add, Ideal.hostDivf_def, div_real (by norm_num), Ideal.addf_def, add_real]
  rfl

theorem r14 (i : S4096x8x1.Idx) :
    val_main_v14 (F := Ideal) x0 i = ((rs (X.Q (i 0) (i 1)) : ℝ) : EReal) := by
  rw [val_main_v14_apply, r13 hx, Ideal.hostUnary_rsqrt_def, rsqrt_real (ms_pos _)]
  rfl

theorem r19 (i : S4096x8x128.Idx) :
    val_main_v19 (F := Ideal) x0 i = ((hat (X.Q (i 0) (i 1)) (i 2) : ℝ) : EReal) := by
  rw [val_main_v19_apply, r6 hx, val_main_v18_apply, r14 hx, Ideal.mulf_def, mul_real]
  rfl

theorem r21 (i : S4096x8x128.Idx) :
    val_main_v21 (F := Ideal) x6 i = ((X.gq (i 2) : ℝ) : EReal) := by
  rw [val_main_v21_apply, val_main_v20_apply, hx.gq]
  refine congrArg (fun a => ((X.gq a : ℝ) : EReal)) (Fin.ext ?_)
  have h2 : (i 2).val < 128 := (i 2).isLt
  dsimp only [idx_main_v20, idx_main_v21]

theorem r22 (i : S4096x8x128.Idx) :
    val_main_v22 (F := Ideal) x0 x6 i = ((X.qn (i 0) (i 1) (i 2) : ℝ) : EReal) := by
  rw [val_main_v22_apply, r19 hx, r21 hx, Ideal.mulf_def, mul_real]
  rfl

theorem r23 (i : S4096x8x128.Idx) :
    val_main_v23 (F := Ideal) x0 i = ((X.K (i 0) (i 1) (i 2) : ℝ) : EReal) := by
  rw [val_main_v23_apply, val_main_v3_apply, val_main_v2_apply, Ideal.extf_def]
  have h0 : (i 0).val < 4096 := (i 0).isLt
  have h1 : (i 1).val < 8 := (i 1).isLt
  have h2 : (i 2).val < 128 := (i 2).isLt
  refine hx.k _ _ _ _ ?_ ?_
  · dsimp only [idx_main_v2, idx_main_v23]; omega
  · dsimp only [idx_main_v2, idx_main_v23]; omega

theorem r30 (i : S4096x8x1.Idx) :
    val_main_v30 (F := Ideal) x0 i = ((ms (X.K (i 0) (i 1)) : ℝ) : EReal) := by
  have hs : ∀ k, val_main_v24 (F := Ideal) x0 (idx_main_v25 (idx_main_v26 i) k)
      = ((X.K (i 0) (i 1) k * X.K (i 0) (i 1) k : ℝ) : EReal) := fun k => by
    rw [val_main_v24_apply, r23 hx, Ideal.mulf_def, mul_real]; rfl
  rw [val_main_v30_apply, val_main_v28_apply, val_main_v26_apply, val_main_v25_apply, sum_eq_real hs,
    val_main_cst_3_apply, val_main_v27_apply, val_main_cst_4_apply, val_main_v29_apply, val_main_cst_5_apply,
    k_zero, k_128, k_eps, zero_add, Ideal.hostDivf_def, div_real (by norm_num), Ideal.addf_def, add_real]
  rfl

theorem r31 (i : S4096x8x1.Idx) :
    val_main_v31 (F := Ideal) x0 i = ((rs (X.K (i 0) (i 1)) : ℝ) : EReal) := by
  rw [val_main_v31_apply, r30 hx, Ideal.hostUnary_rsqrt_def, rsqrt_real (ms_pos _)]
  rfl

theorem r36 (i : S4096x8x128.Idx) :
    val_main_v36 (F := Ideal) x0 i = ((hat (X.K (i 0) (i 1)) (i 2) : ℝ) : EReal) := by
  rw [val_main_v36_apply, r23 hx, val_main_v35_apply, r31 hx, Ideal.mulf_def, mul_real]
  rfl

theorem r38 (i : S4096x8x128.Idx) :
    val_main_v38 (F := Ideal) x7 i = ((X.gk (i 2) : ℝ) : EReal) := by
  rw [val_main_v38_apply, val_main_v37_apply, hx.gk]
  refine congrArg (fun a => ((X.gk a : ℝ) : EReal)) (Fin.ext ?_)
  have h2 : (i 2).val < 128 := (i 2).isLt
  dsimp only [idx_main_v37, idx_main_v38]

theorem r39 (i : S4096x8x128.Idx) :
    val_main_v39 (F := Ideal) x0 x7 i = ((X.kn (i 0) (i 1) (i 2) : ℝ) : EReal) := by
  rw [val_main_v39_apply, r36 hx, r38 hx, Ideal.mulf_def, mul_real]
  rfl

theorem r40 (i : S4096x8x128.Idx) :
    val_main_v40 (F := Ideal) x0 i = ((X.W (i 0) (i 1) (i 2) : ℝ) : EReal) := by
  rw [val_main_v40_apply, val_main_v5_apply, val_main_v4_apply, Ideal.extf_def]
  have h0 : (i 0).val < 4096 := (i 0).isLt
  have h1 : (i 1).val < 8 := (i 1).isLt
  have h2 : (i 2).val < 128 := (i 2).isLt
  refine hx.w _ _ _ _ ?_ ?_
  · dsimp only [idx_main_v4, idx_main_v40]; omega
  · dsimp only [idx_main_v4, idx_main_v40]; omega

omit hx in
theorem shl_toInt (h : Fin 8) : (IntOp.shli .host (2#32) (BitVec.ofNat 32 h.val)).toInt = 2 ^ (h.val + 1) := by
  revert h; decide +kernel

omit hx in
theorem r46 (i : S8.Idx) : val_main_v46 (F := Ideal) i = ((slope (i 0) : ℝ) : EReal) := by
  rw [val_main_v46_apply, val_main_v45_apply, val_main_cst_7_apply, k_one, val_main_v44_apply, val_main_v43_apply,
    val_main_v42_apply, val_main_c_apply, val_main_v41_apply, k_sitofp]
  erw [shl_toInt (i 0)]
  rw [Ideal.hostDivf_def, div_real (by positivity)]
  unfold slope
  push_cast
  rfl

omit hx in
theorem sub_toInt (t u : Fin 4096) :
    (IntOp.subi (BitVec.ofNat 32 t.val) (BitVec.ofNat 32 u.val)).toInt = (t.val : ℤ) - (u.val : ℤ) := by
  have ht := t.isLt
  have hu := u.isLt
  show (BitVec.ofNat 32 t.val - BitVec.ofNat 32 u.val).toInt = _
  rw [BitVec.toInt_sub, BitVec.toInt_ofNat', BitVec.toInt_ofNat']
  norm_num [Int.bmod_def]
  omega

omit hx in
theorem r56 (i : S4096x4096.Idx) : (val_main_v56 (F := Ideal) i).toInt = ((i 0).val : ℤ) - ((i 1).val : ℤ) := by
  rw [val_main_v56_apply, val_main_v54_apply, val_main_v51_apply, val_main_v50_apply, val_main_v55_apply,
    val_main_v53_apply, val_main_v52_apply]
  exact sub_toInt (i 0) (i 1)

omit hx in
theorem r66 (i : S4096x4096.Idx) : val_main_v66 (F := Ideal) i = if ok (i 0) (i 1) then 1#1 else 0#1 := by
  have h0 : (i 0).val < 4096 := (i 0).isLt
  have h1 : (i 1).val < 4096 := (i 1).isLt
  have hd := r56 i
  rw [val_main_v66_apply, val_main_v61_apply, val_main_v58_apply, val_main_v60_apply, val_main_v65_apply,
    val_main_v63_apply, val_main_v57_apply, val_main_v59_apply, val_main_v62_apply, val_main_v64_apply,
    val_main_c_9_apply, val_main_c_10_apply, val_main_c_11_apply, val_main_c_12_apply]
  generalize val_main_v56 (F := Ideal) i = d at hd
  have e1 : IntOp.cmpi .sge d 0#32 = BitVec.ofBool (decide ((i 1).val ≤ (i 0).val)) := by
    unfold IntOp.cmpi BitVec.sle
    refine congrArg _ (decide_eq_decide.2 ?_)
    rw [hd]; norm_num
  have e2 : IntOp.cmpi .sle d 512#32 = BitVec.ofBool (decide ((i 0).val - (i 1).val ≤ 512)) := by
    unfold IntOp.cmpi BitVec.sle
    refine congrArg _ (decide_eq_decide.2 ?_)
    rw [hd, show (512#32).toInt = 512 from by decide]; omega
  have e3 : IntOp.cmpi .eq (IntOp.remsi .host d 4#32) 0#32
      = BitVec.ofBool (decide ((((i 0).val : ℤ) - ((i 1).val : ℤ)).tmod 4 = 0)) := by
    unfold IntOp.cmpi IntOp.remsi
    have hc : ¬ IntOp.SDivCorner d 4#32 := by unfold IntOp.SDivCorner; simp
    rw [if_neg hc]
    refine congrArg _ ?_
    show (d.srem 4#32 == 0#32) = _
    rw [← hd, show (4 : ℤ) = (4#32).toInt from by decide, ← BitVec.toInt_srem]
    generalize d.srem 4#32 = y
    by_cases hy : y = 0#32
    · subst hy; simp
    · have : y.toInt ≠ 0 := fun hh => hy (BitVec.eq_of_toInt_eq (by rw [hh]; simp))
      simp [hy, this]
  rw [e1, e2, e3]
  unfold ok
  by_cases a1 : (i 1).val ≤ (i 0).val
  · by_cases a2 : (i 0).val - (i 1).val ≤ 512
    · have a3 : (((i 0).val : ℤ) - ((i 1).val : ℤ)).tmod 4 = 0 ↔ ((i 0).val - (i 1).val) % 4 = 0 := by
        have : ((i 0).val : ℤ) - ((i 1).val : ℤ) = (((i 0).val - (i 1).val : ℕ) : ℤ) := by omega
        rw [this, Int.tmod_eq_emod_of_nonneg (by positivity)]
        omega
      by_cases a4 : ((i 0).val - (i 1).val) % 4 = 0
      · rw [if_pos ⟨a1, a2, a4⟩, decide_eq_true a1, decide_eq_true a2, decide_eq_true (a3.2 a4)]; rfl
      · rw [if_neg (fun h => a4 h.2.2), decide_eq_true a1, decide_eq_true a2, decide_eq_false (fun h => a4 (a3.1 h))]; rfl
    · rw [if_neg (fun h => a2 h.2.1), decide_eq_false a2, decide_eq_true a1]
      cases decide ((((i 0).val : ℤ) - ((i 1).val : ℤ)).tmod 4 = 0) <;> rfl
  · rw [if_neg (fun h => a1 h.1), decide_eq_false a1]
    cases decide ((((i 0).val : ℤ) - ((i 1).val : ℤ)).tmod 4 = 0) <;>
    cases decide ((i 0).val - (i 1).val ≤ 512) <;> rfl

theorem r74 (i : S8x4096x4096.Idx) :
    val_main_v74 (F := Ideal) x0 x6 x7 i = ((X.sc (i 1) (i 0) (i 2) : ℝ) : EReal) := by
  have hs : ∀ k : Fin 128, val_main_v22 (F := Ideal) x0 x6 (lidx_main_v47 i k) * val_main_v39 (F := Ideal) x0 x7 (ridx_main_v47 i k)
      = ((X.qn (i 1) (i 0) k * X.kn (i 2) (i 0) k : ℝ) : EReal) := fun k => by
    rw [r22 hx, r39 hx, mul_real]; rfl
  rw [val_main_v74_apply, val_main_v49_apply, val_main_v47_apply, sum_eq_real hs, val_main_v48_apply, val_main_cst_8_apply, k_scl,
    val_main_v73_apply, val_main_v71_apply, val_main_v68_apply, r46, val_main_v72_apply, val_main_v70_apply, val_main_v69_apply,
    k_sitofp, r56, Ideal.mulf_def, mul_real, Ideal.mulf_def, mul_real, Ideal.subf_def, sub_real]
  unfold Inp.sc
  push_cast
  rfl

theorem r75 (i : S8x4096x4096.Idx) : val_main_v75_0 (F := Ideal) x0 x6 x7 i
    = if ok (i 1) (i 2) then ((X.sc (i 1) (i 0) (i 2) : ℝ) : EReal) else ⊥ := by
  rw [val_main_v75_0_apply, val_main_v75_1_apply, val_main_v67_apply, r66, r74 hx, val_main_call0_v2_apply,
    val_main_call0_v0_apply, val_main_cst_13_apply, k_ninf]
  by_cases h : ok (i 1) (i 2)
  · rw [if_pos h]
    erw [if_pos h]
    rfl
  · rw [if_neg h]
    erw [if_neg h]
    rfl

/-- The number the reference shifts the scores of a row by. -/
def shift (x0 : FVec Ideal S4096x12288 .bf16) (x6 x7 : FVec Ideal S128 .f32) (i : S8x4096.Idx) : ℝ :=
  (val_main_v76 (F := Ideal) x0 x6 x7 i).toReal

theorem r76 (i : S8x4096.Idx) : val_main_v76 (F := Ideal) x0 x6 x7 i = ((shift x0 x6 x7 i : ℝ) : EReal) := by
  have hM : ∃ M : ℝ, val_main_v76 (F := Ideal) x0 x6 x7 i = (M : EReal) := by
    refine reduce_max_real _ _ _ _ _ ?_ (fun j => ?_) (ix3 (i 0) (i 1) (i 1)) ?_ ?_
    · rw [val_main_cst_14_apply, k_ninf]; exact bot_ne_top
    · rw [r75 hx]; split
      · exact EReal.coe_ne_top _
      · exact bot_ne_top
    · funext a; match a with
      | ⟨0, _⟩ => rfl
      | ⟨1, _⟩ => rfl
    · rw [r75 hx, if_pos (ok_self (i 1))]; exact EReal.coe_ne_bot _
  obtain ⟨M, hM⟩ := hM
  unfold shift; rw [hM, EReal.toReal_coe]

theorem r85 (i : S8x4096x4096.Idx) :
    val_main_v85 (F := Ideal) x0 x6 x7 i = ((X.ex (shift x0 x6 x7 (ix2 (i 0) (i 1))) (i 1) (i 0) (i 2) : ℝ) : EReal) := by
  rw [val_main_v85_apply, val_main_v84_apply, r75 hx, val_main_v83_apply, val_main_v82_apply, r76 hx,
    show idx_main_v82 (idx_main_v83 i) = ix2 (i 0) (i 1) from by funext a; match a with | ⟨0, _⟩ => rfl | ⟨1, _⟩ => rfl]
  unfold Inp.ex
  split
  · rw [Ideal.subf_def, sub_real, Ideal.hostUnary_exp_def, Ideal.exp_coe]; rfl
  · rw [Ideal.subf_def, Ideal.hostUnary_exp_def, EReal.bot_sub]; rfl

theorem r86 (i : S8x4096.Idx) :
    val_main_v86 (F := Ideal) x0 x6 x7 i = ((∑ u, X.ex (shift x0 x6 x7 (ix2 (i 0) (i 1))) (i 1) (i 0) u : ℝ) : EReal) := by
  have hs : ∀ k, val_main_v85 (F := Ideal) x0 x6 x7 (idx_main_v86 i k)
      = ((X.ex (shift x0 x6 x7 (ix2 (i 0) (i 1))) (i 1) (i 0) k : ℝ) : EReal) := fun k => r85 hx _
  rw [val_main_v86_apply, sum_eq_real hs, val_main_cst_16_apply, k_zero, zero_add]

theorem r89 (i : S8x4096.Idx) :
    val_main_v89 (F := Ideal) x0 x6 x7 i = ((X.l (i 1) (i 0) : ℝ) : EReal) := by
  have h0 : (i 0).val < 8 := (i 0).isLt
  have h1 : (i 1).val < 4096 := (i 1).isLt
  rw [val_main_v89_apply, val_main_v87_apply, r86 hx, Ideal.hostUnary_log_def, log_real (X.sum_ex_pos (shift x0 x6 x7 (ix2 (i 0) (i 1))) (i 1) (i 0)), val_main_v88_apply,
    val_main_v82_apply, r76 hx,
    show idx_main_v82 (idx_main_v88 i) = ix2 (i 0) (i 1) from by
      funext a; match a with
      | ⟨0, _⟩ => exact Fin.ext (by dsimp only [idx_main_v82, idx_main_v88]; show _ = (i 0).val; omega)
      | ⟨1, _⟩ => exact Fin.ext (by dsimp only [idx_main_v82, idx_main_v88]; show _ = (i 1).val; omega),
    Ideal.addf_def, add_real]
  exact congrArg _ (X.log_sum_ex (shift x0 x6 x7 (ix2 (i 0) (i 1))) (i 1) (i 0))

theorem r93 (i : S8x4096x4096.Idx) :
    val_main_v93 (F := Ideal) x0 x6 x7 i = ((X.pr (i 1) (i 0) (i 2) : ℝ) : EReal) := by
  rw [val_main_v93_apply, val_main_v92_apply, r75 hx, val_main_v91_apply, val_main_v90_apply, r89 hx]
  unfold Inp.pr Inp.ex
  split
  · rw [Ideal.subf_def, sub_real, Ideal.hostUnary_exp_def, Ideal.exp_coe]; rfl
  · rw [Ideal.subf_def, Ideal.hostUnary_exp_def, EReal.bot_sub]; rfl

theorem r95 (i : S4096x8x128.Idx) :
    val_main_v95 (F := Ideal) x0 x6 x7 i = ((X.o (i 0) (i 1) (i 2) : ℝ) : EReal) := by
  have hs : ∀ k, val_main_v40 (F := Ideal) x0 (lidx_main_v94 (idx_main_v95 i) k) * val_main_v93 (F := Ideal) x0 x6 x7 (ridx_main_v94 (idx_main_v95 i) k)
      = ((X.W k (i 1) (i 2) * X.pr (i 0) (i 1) k : ℝ) : EReal) := fun k => by rw [r40 hx, r93 hx, mul_real]; rfl
  rw [val_main_v95_apply, val_main_v94_apply, sum_eq_real hs]
  exact congrArg _ (Finset.sum_congr rfl fun u _ => mul_comm _ _)

end Attn
-- ==== Proof.Finite.lean ====
module

public import proofs.«01_k».proof.Pre_finite
public import Idealize.ShloMosaic.Lib.Pointwise
public import proofs.«01_k».proof.Proof.R1

/-! The precondition read back: an argument whose every magnitude lies below infinity is an array of real numbers. -/

@[expose] public section

noncomputable section

namespace Attn

open Cert.ReferenceIdeal Idealize.ShloMosaic

theorem finite_facts : Cert.Pre_finite.Facts where
  bitsLt_bf16_f32 := by decide
  bcast_S_S4096x12288 := by decide
  bcast_S_S4096x8x128 := by decide
  bcast_S_S4096x8 := by decide
  bcast_S_S4096x1024 := by decide
  bcast_S_S128 := by decide

theorem c_inf : Ideal.ofBits .f32 0x7F800000#32 = ⊤ := by
  simp [Ideal.ofBits, Ideal.ieee]

/-- A number whose magnitude is below infinity is real. -/
theorem real_of_lt (x : EReal) (h : Ideal.cmp .olt (max x (-x)) (Ideal.ofBits .f32 0x7F800000#32) = 1#1) :
    x = ((x.toReal : ℝ) : EReal) := by
  rw [c_inf, Ideal.cmp_olt] at h
  have hlt : max x (-x) < ⊤ := by
    by_contra hn
    rw [decide_eq_false hn] at h
    exact absurd h (by decide)
  refine (EReal.coe_toReal ?_ ?_).symm
  · rintro rfl
    exact absurd ((le_max_left _ _).trans_lt hlt) (lt_irrefl _)
  · rintro rfl
    exact absurd ((le_max_right _ _).trans_lt hlt) (by rw [EReal.neg_bot]; exact lt_irrefl _)

/-- The same of an array, in the words of the precondition. -/
theorem real_of_finite {S : Shape} (hb : Cert.Pre_finite.S_.BroadcastsInDim S (![] : Fin 0 → Fin S.rank)) (x : FVec Ideal S .f32)
    (h : cmpf .olt (Host.absf x) (broadcastInDim S ![] hb (constant (F := Ideal) Cert.Pre_finite.S_ .f32 0x7F800000#32)) = fun _ => 1#1)
    (i : S.Idx) : x i = (((x i).toReal : ℝ) : EReal) :=
  real_of_lt (x i) (congrFun h i)

/-- Finite arguments are real, and the numbers they hold are named. -/
theorem exists_inp (hP : Cert.Pre_finite.Facts) (x0 : FVec Ideal S4096x12288 .bf16) (x1 : FVec Ideal S4096x8x128 .f32)
    (x2 : FVec Ideal S4096x8 .f32) (x3 : FVec Ideal S4096x8x128 .f32) (x4 : FVec Ideal S4096x8 .f32)
    (x5 : FVec Ideal S4096x1024 .f32) (x6 x7 : FVec Ideal S128 .f32)
    (h : (Cert.Pre_finite.fn (F := Ideal) x0 x1 x2 x3 x4 x5 x6 x7).1 = (fun _ => 1#1)
      ∧ (Cert.Pre_finite.fn (F := Ideal) x0 x1 x2 x3 x4 x5 x6 x7).2.1 = (fun _ => 1#1)
      ∧ (Cert.Pre_finite.fn (F := Ideal) x0 x1 x2 x3 x4 x5 x6 x7).2.2.1 = (fun _ => 1#1)
      ∧ (Cert.Pre_finite.fn (F := Ideal) x0 x1 x2 x3 x4 x5 x6 x7).2.2.2.1 = (fun _ => 1#1)
      ∧ (Cert.Pre_finite.fn (F := Ideal) x0 x1 x2 x3 x4 x5 x6 x7).2.2.2.2.1 = (fun _ => 1#1)
      ∧ (Cert.Pre_finite.fn (F := Ideal) x0 x1 x2 x3 x4 x5 x6 x7).2.2.2.2.2.1 = (fun _ => 1#1)
      ∧ (Cert.Pre_finite.fn (F := Ideal) x0 x1 x2 x3 x4 x5 x6 x7).2.2.2.2.2.2.1 = (fun _ => 1#1)
      ∧ (Cert.Pre_finite.fn (F := Ideal) x0 x1 x2 x3 x4 x5 x6 x7).2.2.2.2.2.2.2 = (fun _ => 1#1)) :
    ∃ X : Inp, Rel X x0 x1 x2 x3 x4 x5 x6 x7 := by
  obtain ⟨h0, h1, h2, h3, h4, h5, h6, h7⟩ := h
  have r0 : ∀ i, x0 i = (((x0 i).toReal : ℝ) : EReal) := fun i => real_of_lt (x0 i) (congrFun h0 i)
  have r1 := real_of_finite hP.bcast_S_S4096x8x128 x1 h1
  have r2 := real_of_finite hP.bcast_S_S4096x8 x2 h2
  have r3 := real_of_finite hP.bcast_S_S4096x8x128 x3 h3
  have r4 := real_of_finite hP.bcast_S_S4096x8 x4 h4
  have r5 := real_of_finite hP.bcast_S_S4096x1024 x5 h5
  have r6 := real_of_finite hP.bcast_S_S128 x6 h6
  have r7 := real_of_finite hP.bcast_S_S128 x7 h7
  have at2 : ∀ {a b : ℕ} (i : (⟨2, ![a, b]⟩ : Shape).Idx) (p : Fin a) (q : Fin b),
      (i 0).val = p.val → (i 1).val = q.val → i = ValueIdx.ix2 p q := fun i p q hp hq => by
    funext k; apply Fin.ext
    match k with
    | ⟨0, _⟩ => exact hp
    | ⟨1, _⟩ => exact hq
  have eta2 : ∀ {a b : ℕ} (i : (⟨2, ![a, b]⟩ : Shape).Idx), i = ValueIdx.ix2 (i 0) (i 1) := fun i => at2 i _ _ rfl rfl
  have eta3 : ∀ {a b d : ℕ} (i : (⟨3, ![a, b, d]⟩ : Shape).Idx), i = ValueIdx.ix3 (i 0) (i 1) (i 2) := fun i => by
    funext k; apply Fin.ext
    match k with
    | ⟨0, _⟩ => rfl
    | ⟨1, _⟩ => rfl
    | ⟨2, _⟩ => rfl
  have eta1 : ∀ {a : ℕ} (i : (⟨1, ![a]⟩ : Shape).Idx), i = ValueIdx.ix1 (i 0) := fun i => by
    funext k; apply Fin.ext
    match k with
    | ⟨0, _⟩ => rfl
  have col : ∀ (o : ℕ) (h : H) (e : E), o ≤ 11264 → o + (h.val * 128 + e.val) < 12288 := fun o h e ho => by
    have := h.isLt; have := e.isLt; omega
  have colY : ∀ (h : H) (e : E), h.val * 128 + e.val < 1024 := fun h e => by
    have := h.isLt; have := e.isLt; omega
  refine ⟨{
    Q := fun t h e => (x0 (ValueIdx.ix2 t ⟨1024 + (h.val * 128 + e.val), col 1024 h e (by omega)⟩)).toReal
    K := fun t h e => (x0 (ValueIdx.ix2 t ⟨4096 + (h.val * 128 + e.val), col 4096 h e (by omega)⟩)).toReal
    W := fun t h e => (x0 (ValueIdx.ix2 t ⟨7168 + (h.val * 128 + e.val), col 7168 h e (by omega)⟩)).toReal
    gq := fun e => (x6 (ValueIdx.ix1 e)).toReal
    gk := fun e => (x7 (ValueIdx.ix1 e)).toReal
    O0 := fun t h e => (x1 (ValueIdx.ix3 t h e)).toReal
    O2 := fun t h e => (x3 (ValueIdx.ix3 t h e)).toReal
    L0 := fun t h => (x2 (ValueIdx.ix2 t h)).toReal
    L2 := fun t h => (x4 (ValueIdx.ix2 t h)).toReal
    DY := fun t h e => (x5 (ValueIdx.ix2 t ⟨h.val * 128 + e.val, colY h e⟩)).toReal }, ?_⟩
  constructor
  · intro i t h e ht hc
    exact (congrArg x0 (at2 i _ _ ht hc)).trans (r0 _)
  · intro i t h e ht hc
    exact (congrArg x0 (at2 i _ _ ht hc)).trans (r0 _)
  · intro i t h e ht hc
    exact (congrArg x0 (at2 i _ _ ht hc)).trans (r0 _)
  · intro i
    exact (congrArg x1 (eta3 i)).trans (r1 _)
  · intro i
    exact (congrArg x2 (eta2 i)).trans (r2 _)
  · intro i
    exact (congrArg x3 (eta3 i)).trans (r3 _)
  · intro i
    exact (congrArg x4 (eta2 i)).trans (r4 _)
  · intro i t h e ht hc
    exact (congrArg x5 (at2 i _ _ ht hc)).trans (r5 _)
  · intro i
    exact (congrArg x6 (eta1 i)).trans (r6 _)
  · intro i
    exact (congrArg x7 (eta1 i)).trans (r7 _)

end Attn

end
-- ==== Proof.R2.lean ====
module

public import proofs.«01_k».proof.Proof.R1

/-! The reference at real arguments, continued: the mix with the other two groups, and the gradients. -/

@[expose] public section

noncomputable section

namespace Attn

open Cert.ReferenceIdeal Cert.ReferenceIdeal.Gen Cert.ReferenceIdeal.Read Idealize.ShloMosaic Idealize.ShloMosaic.ValueIdx

variable {X : Inp} {x0 : FVec Ideal S4096x12288 .bf16} {x1 : FVec Ideal S4096x8x128 .f32} {x2 : FVec Ideal S4096x8 .f32}
  {x3 : FVec Ideal S4096x8x128 .f32} {x4 : FVec Ideal S4096x8 .f32} {x5 : FVec Ideal S4096x1024 .f32}
  {x6 x7 : FVec Ideal S128 .f32} (hx : Rel X x0 x1 x2 x3 x4 x5 x6 x7)
include hx

theorem r96 (i : S4096x8.Idx) :
    val_main_v96 (F := Ideal) x0 x6 x7 i = ((X.l (i 0) (i 1) : ℝ) : EReal) := by
  rw [val_main_v96_apply, r89 hx]; rfl

theorem r100 (i : S3x4096x8.Idx) :
    val_main_v100 (F := Ideal) x0 x2 x4 x6 x7 i = ((X.L (i 0) (i 1) (i 2) : ℝ) : EReal) := by
  have h0 : (i 0).val < 3 := (i 0).isLt
  unfold val_main_v100
  rcases (by omega : (i 0).val = 0 ∨ (i 0).val = 1 ∨ (i 0).val = 2) with h | h | h
  · refine (concatenate_apply_piece 0 _ _ i 0 (by show 0 < 3; omega) S1x4096x8 (val_main_v97 (F := Ideal) x2) rfl rfl 0 (by rfl) (ix3 0 (i 1) (i 2))
      (fun b hb => by
        match b with
        | ⟨0, _⟩ => exact absurd rfl hb
        | ⟨1, _⟩ => rfl
        | ⟨2, _⟩ => rfl) (by show 0 + 0 = (i 0).val; omega)).trans ?_
    rw [val_main_v97_apply, hx.l0]
    exact congrArg _ (congrArg (fun j : Fin 3 => X.L j (i 1) (i 2)) (Fin.ext h.symm : (0 : Fin 3) = i 0))
  · refine (concatenate_apply_piece 0 _ _ i 1 (by show 1 < 3; omega) S1x4096x8 (val_main_v98 (F := Ideal) x0 x6 x7) rfl rfl 1 (by rfl) (ix3 0 (i 1) (i 2))
      (fun b hb => by
        match b with
        | ⟨0, _⟩ => exact absurd rfl hb
        | ⟨1, _⟩ => rfl
        | ⟨2, _⟩ => rfl) (by show 1 + 0 = (i 0).val; omega)).trans ?_
    rw [val_main_v98_apply, r96 hx]
    exact congrArg _ (congrArg (fun j : Fin 3 => X.L j (i 1) (i 2)) (Fin.ext h.symm : (1 : Fin 3) = i 0))
  · refine (concatenate_apply_piece 0 _ _ i 2 (by show 2 < 3; omega) S1x4096x8 (val_main_v99 (F := Ideal) x4) rfl rfl 2 (by rfl) (ix3 0 (i 1) (i 2))
      (fun b hb => by
        match b with
        | ⟨0, _⟩ => exact absurd rfl hb
        | ⟨1, _⟩ => rfl
        | ⟨2, _⟩ => rfl) (by show 2 + 0 = (i 0).val; omega)).trans ?_
    rw [val_main_v99_apply, hx.l2]
    exact congrArg _ (congrArg (fun j : Fin 3 => X.L j (i 1) (i 2)) (Fin.ext h.symm : (2 : Fin 3) = i 0))

/-- The number the mix shifts the log denominators by. -/
def sh2 (x0 : FVec Ideal S4096x12288 .bf16) (x2 x4 : FVec Ideal S4096x8 .f32) (x6 x7 : FVec Ideal S128 .f32) (t : T) (h : H) : ℝ :=
  (val_main_v110 (F := Ideal) x0 x2 x4 x6 x7 (ix2 t h)).toReal

theorem r110 (i : S4096x8.Idx) :
    val_main_v110 (F := Ideal) x0 x2 x4 x6 x7 i = ((sh2 x0 x2 x4 x6 x7 (i 0) (i 1) : ℝ) : EReal) := by
  have hM : ∃ M : ℝ, val_main_v103 (F := Ideal) x0 x2 x4 x6 x7 i = (M : EReal) := by
    refine reduce_max_real _ _ _ _ _ ?_ (fun j => ?_) (ix3 0 (i 0) (i 1)) ?_ ?_
    · rw [val_main_cst_19_apply, k_ninf]; exact bot_ne_top
    · rw [r100 hx]; exact EReal.coe_ne_top _
    · funext a; match a with
      | ⟨0, _⟩ => rfl
      | ⟨1, _⟩ => rfl
    · rw [r100 hx]; exact EReal.coe_ne_bot _
  obtain ⟨M, hM⟩ := hM
  have hi : i = ix2 (i 0) (i 1) := by funext a; match a with | ⟨0, _⟩ => rfl | ⟨1, _⟩ => rfl
  have hv : val_main_v110 (F := Ideal) x0 x2 x4 x6 x7 i = (M : EReal) := by
    rw [val_main_v110_apply, val_main_v109_apply, val_main_cst_21_apply, k_ninf, hM]
    exact max_eq_right bot_le
  have h2 := (congrArg (val_main_v110 (F := Ideal) x0 x2 x4 x6 x7) hi).symm.trans hv
  rw [hv]
  unfold sh2
  exact congrArg _ ((congrArg EReal.toReal h2).trans (EReal.toReal_coe M)).symm

theorem r123 (i : S3x4096x8.Idx) :
    val_main_v123 (F := Ideal) x0 x2 x4 x6 x7 i = ((Real.exp (X.L (i 0) (i 1) (i 2) - sh2 x0 x2 x4 x6 x7 (i 1) (i 2)) : ℝ) : EReal) := by
  rw [val_main_v123_apply, val_main_v122_apply, r100 hx, val_main_v121_apply, val_main_v120_apply, r110 hx, Ideal.subf_def, sub_real,
    Ideal.hostUnary_exp_def, Ideal.exp_coe]
  rfl

theorem r124 (i : S4096x8.Idx) :
    val_main_v124 (F := Ideal) x0 x2 x4 x6 x7 i = (((∑ j, Real.exp (X.L j (i 0) (i 1) - sh2 x0 x2 x4 x6 x7 (i 0) (i 1))) : ℝ) : EReal) := by
  have hs : ∀ k, val_main_v123 (F := Ideal) x0 x2 x4 x6 x7 (idx_main_v124 i k)
      = ((Real.exp (X.L k (i 0) (i 1) - sh2 x0 x2 x4 x6 x7 (i 0) (i 1)) : ℝ) : EReal) := fun k => r123 hx _
  rw [val_main_v124_apply, sum_eq_real hs, val_main_cst_27_apply, k_zero, zero_add]

theorem r125 (i : S1x4096x8.Idx) :
    val_main_v125 (F := Ideal) x0 x2 x4 x6 x7 i = (((∑ j, Real.exp (X.L j (i 1) (i 2) - sh2 x0 x2 x4 x6 x7 (i 1) (i 2))) : ℝ) : EReal) := by
  rw [val_main_v125_apply, r124 hx]; rfl

theorem r127 (i : S3x4096x8.Idx) :
    val_main_v127 (F := Ideal) x0 x2 x4 x6 x7 i = ((X.al (i 0) (i 1) (i 2) : ℝ) : EReal) := by
  rw [val_main_v127_apply, val_main_v126_apply, r125 hx, r123 hx, Ideal.hostDivf_def]
  have hp := X.sum_exp_L_pos (sh2 x0 x2 x4 x6 x7 (i 1) (i 2)) (i 1) (i 2)
  refine (div_real hp.ne').trans ?_
  exact congrArg _ (X.exp_L_div (sh2 x0 x2 x4 x6 x7 (i 1) (i 2)) (i 0) (i 1) (i 2))

theorem r131 (i : S3x4096x8x1.Idx) :
    val_main_v131 (F := Ideal) x0 x2 x4 x6 x7 i = ((X.al (i 0) (i 1) (i 2) : ℝ) : EReal) := by
  rw [val_main_v131_apply, r127 hx]; rfl

theorem r138 (i : S3x4096x8x128.Idx) :
    val_main_v138 (F := Ideal) x0 x2 x4 x6 x7 i = ((X.al (i 0) (i 1) (i 2) : ℝ) : EReal) := by
  rw [val_main_v138_apply, r131 hx]; rfl

theorem r144 (i : S3x4096x8x128.Idx) :
    val_main_v144 (F := Ideal) x0 x2 x4 x6 x7 i = ((X.al (i 0) (i 1) (i 2) : ℝ) : EReal) := by
  rw [val_main_v144_apply, r131 hx]; rfl

theorem r135 (i : S3x4096x8x128.Idx) :
    val_main_v135 (F := Ideal) x0 x1 x3 x6 x7 i = ((X.O (i 0) (i 1) (i 2) (i 3) : ℝ) : EReal) := by
  have h0 : (i 0).val < 3 := (i 0).isLt
  unfold val_main_v135
  rcases (by omega : (i 0).val = 0 ∨ (i 0).val = 1 ∨ (i 0).val = 2) with h | h | h
  · refine (concatenate_apply_piece 0 _ _ i 0 (by show 0 < 3; omega) S1x4096x8x128 (val_main_v132 (F := Ideal) x1) rfl rfl 0 (by rfl) (ix4 0 (i 1) (i 2) (i 3))
      (fun b hb => by
        match b with
        | ⟨0, _⟩ => exact absurd rfl hb
        | ⟨1, _⟩ => rfl
        | ⟨2, _⟩ => rfl
        | ⟨3, _⟩ => rfl) (by show 0 + 0 = (i 0).val; omega)).trans ?_
    rw [val_main_v132_apply, hx.o0]
    exact congrArg _ (congrArg (fun j : Fin 3 => X.O j (i 1) (i 2) (i 3)) (Fin.ext h.symm : (0 : Fin 3) = i 0))
  · refine (concatenate_apply_piece 0 _ _ i 1 (by show 1 < 3; omega) S1x4096x8x128 (val_main_v133 (F := Ideal) x0 x6 x7) rfl rfl 1 (by rfl) (ix4 0 (i 1) (i 2) (i 3))
      (fun b hb => by
        match b with
        | ⟨0, _⟩ => exact absurd rfl hb
        | ⟨1, _⟩ => rfl
        | ⟨2, _⟩ => rfl
        | ⟨3, _⟩ => rfl) (by show 1 + 0 = (i 0).val; omega)).trans ?_
    rw [val_main_v133_apply, r95 hx]
    exact congrArg _ (congrArg (fun j : Fin 3 => X.O j (i 1) (i 2) (i 3)) (Fin.ext h.symm : (1 : Fin 3) = i 0))
  · refine (concatenate_apply_piece 0 _ _ i 2 (by show 2 < 3; omega) S1x4096x8x128 (val_main_v134 (F := Ideal) x3) rfl rfl 2 (by rfl) (ix4 0 (i 1) (i 2) (i 3))
      (fun b hb => by
        match b with
        | ⟨0, _⟩ => exact absurd rfl hb
        | ⟨1, _⟩ => rfl
        | ⟨2, _⟩ => rfl
        | ⟨3, _⟩ => rfl) (by show 2 + 0 = (i 0).val; omega)).trans ?_
    rw [val_main_v134_apply, hx.o2]
    exact congrArg _ (congrArg (fun j : Fin 3 => X.O j (i 1) (i 2) (i 3)) (Fin.ext h.symm : (2 : Fin 3) = i 0))

theorem r140 (i : S4096x8x128.Idx) :
    val_main_v140 (F := Ideal) x0 x1 x2 x3 x4 x6 x7 i = ((X.y (i 0) (i 1) (i 2) : ℝ) : EReal) := by
  have hs : ∀ k, val_main_v139 (F := Ideal) x0 x1 x2 x3 x4 x6 x7 (idx_main_v140 i k)
      = ((X.al k (i 0) (i 1) * X.O k (i 0) (i 1) (i 2) : ℝ) : EReal) := fun k => by
    rw [val_main_v139_apply, r138 hx, r135 hx, Ideal.mulf_def, mul_real]; rfl
  rw [val_main_v140_apply, sum_eq_real hs, val_main_cst_31_apply, k_zero, zero_add]
  rfl

theorem r141 (i : S4096x1024.Idx) (t : T) (h : H) (e : E) (ht : (i 0).val = t.val) (he : (i 1).val = h.val * 128 + e.val) :
    val_main_v141 (F := Ideal) x0 x1 x2 x3 x4 x6 x7 i = ((X.y t h e : ℝ) : EReal) := by
  have h1 := h.isLt
  have h2 := e.isLt
  rw [val_main_v141_apply, show idx_main_v141 i = ix3 t h e from by
    funext a; match a with
    | ⟨0, _⟩ => exact Fin.ext (by dsimp only [idx_main_v141]; show _ = t.val; omega)
    | ⟨1, _⟩ => exact Fin.ext (by dsimp only [idx_main_v141]; show _ = h.val; omega)
    | ⟨2, _⟩ => exact Fin.ext (by dsimp only [idx_main_v141]; show _ = e.val; omega), r140 hx]

theorem r142 (i : S4096x8x128.Idx) :
    val_main_v142 (F := Ideal) x5 i = ((X.DY (i 0) (i 1) (i 2) : ℝ) : EReal) := by
  have h0 : (i 0).val < 4096 := (i 0).isLt
  have h1 : (i 1).val < 8 := (i 1).isLt
  have h2 : (i 2).val < 128 := (i 2).isLt
  rw [val_main_v142_apply]
  refine hx.dy _ _ _ _ ?_ ?_
  · dsimp only [idx_main_v142]; omega
  · dsimp only [idx_main_v142]; omega

theorem r143 (i : S3x4096x8x128.Idx) :
    val_main_v143 (F := Ideal) x5 i = ((X.DY (i 1) (i 2) (i 3) : ℝ) : EReal) := by
  rw [val_main_v143_apply, r142 hx]; rfl

theorem r145 (i : S3x4096x8x128.Idx) :
    val_main_v145 (F := Ideal) x0 x2 x4 x5 x6 x7 i = ((X.al (i 0) (i 1) (i 2) * X.DY (i 1) (i 2) (i 3) : ℝ) : EReal) := by
  rw [val_main_v145_apply, r144 hx, r143 hx, Ideal.mulf_def, mul_real]

theorem r147 (i : S3x4096x8.Idx) :
    val_main_v147 (F := Ideal) x0 x1 x3 x5 x6 x7 i = ((∑ e, X.DY (i 1) (i 2) e * X.O (i 0) (i 1) (i 2) e : ℝ) : EReal) := by
  have hs : ∀ k, val_main_v146 (F := Ideal) x0 x1 x3 x5 x6 x7 (idx_main_v147 i k)
      = ((X.DY (i 1) (i 2) k * X.O (i 0) (i 1) (i 2) k : ℝ) : EReal) := fun k => by
    rw [val_main_v146_apply, r143 hx, r135 hx, Ideal.mulf_def, mul_real]; rfl
  rw [val_main_v147_apply, sum_eq_real hs, val_main_cst_32_apply, k_zero, zero_add]

theorem r148 (i : S3x4096x8x1.Idx) :
    val_main_v148 (F := Ideal) x0 x1 x3 x5 x6 x7 i = ((∑ e, X.DY (i 1) (i 2) e * X.O (i 0) (i 1) (i 2) e : ℝ) : EReal) := by
  have h0 : (i 0).val < 3 := (i 0).isLt
  have h1 : (i 1).val < 4096 := (i 1).isLt
  have h2 : (i 2).val < 8 := (i 2).isLt
  have h3 : (i 3).val < 1 := (i 3).isLt
  rw [val_main_v148_apply]
  refine (congrArg (val_main_v147 (F := Ideal) x0 x1 x3 x5 x6 x7) (show idx_main_v148 i = ix3 (i 0) (i 1) (i 2) from by
      funext a; match a with
      | ⟨0, _⟩ => exact Fin.ext (by dsimp only [idx_main_v148]; show _ = (i 0).val; omega)
      | ⟨1, _⟩ => exact Fin.ext (by dsimp only [idx_main_v148]; show _ = (i 1).val; omega)
      | ⟨2, _⟩ => exact Fin.ext (by dsimp only [idx_main_v148]; show _ = (i 2).val; omega))).trans ?_
  exact r147 hx _

theorem r152 (i : S4096x8x128.Idx) :
    val_main_v152 (F := Ideal) x0 x2 x4 x5 x6 x7 i = ((X.al 1 (i 0) (i 1) * X.DY (i 0) (i 1) (i 2) : ℝ) : EReal) := by
  have h0 : (i 0).val < 4096 := (i 0).isLt
  have h1 : (i 1).val < 8 := (i 1).isLt
  have h2 : (i 2).val < 128 := (i 2).isLt
  rw [val_main_v152_apply, val_main_v151_apply, r145 hx, show idx_main_v152 i = ix4 0 (i 0) (i 1) (i 2) from by
      funext a; match a with
      | ⟨0, _⟩ => exact Fin.ext (by dsimp only [idx_main_v152]; show _ = 0; omega)
      | ⟨1, _⟩ => exact Fin.ext (by dsimp only [idx_main_v152]; show _ = (i 0).val; omega)
      | ⟨2, _⟩ => exact Fin.ext (by dsimp only [idx_main_v152]; show _ = (i 1).val; omega)
      | ⟨3, _⟩ => exact Fin.ext (by dsimp only [idx_main_v152]; show _ = (i 2).val; omega)]
  rfl

theorem r155 (i : S3x4096x8.Idx) :
    val_main_v155 (F := Ideal) x0 x1 x3 x5 x6 x7 i = ((∑ e, X.DY (i 1) (i 2) e * X.O (i 0) (i 1) (i 2) e : ℝ) : EReal) := by
  have hs : ∀ k, val_main_v148 (F := Ideal) x0 x1 x3 x5 x6 x7 (idx_main_v155 i k)
      = ((∑ e, X.DY (i 1) (i 2) e * X.O (i 0) (i 1) (i 2) e : ℝ) : EReal) := fun k => r148 hx _
  rw [val_main_v155_apply, sum_eq_real hs, val_main_cst_33_apply, k_zero, zero_add, Fin.sum_univ_one]

theorem r130 (i : S1x4096x8.Idx) :
    val_main_v130 (F := Ideal) x0 x2 x4 x6 x7 i = ((1 / ((∑ j, Real.exp (X.L j (i 1) (i 2) - sh2 x0 x2 x4 x6 x7 (i 1) (i 2))) * (∑ j, Real.exp (X.L j (i 1) (i 2) - sh2 x0 x2 x4 x6 x7 (i 1) (i 2)))) : ℝ) : EReal) := by
  have hp := X.sum_exp_L_pos (sh2 x0 x2 x4 x6 x7 (i 1) (i 2)) (i 1) (i 2)
  rw [val_main_v130_apply, val_main_v129_apply, val_main_cst_28_apply, k_one, val_main_v128_apply, r125 hx, Ideal.mulf_def, mul_real,
    Ideal.hostDivf_def]
  exact div_real (mul_pos hp hp).ne'

theorem r159 (i : S4096x8.Idx) :
    val_main_v159 (F := Ideal) x0 x1 x2 x3 x4 x5 x6 x7 i = ((∑ j, (∑ e, X.DY (i 0) (i 1) e * X.O j (i 0) (i 1) e) * (1 / ((∑ j, Real.exp (X.L j (i 0) (i 1) - sh2 x0 x2 x4 x6 x7 (i 0) (i 1))) * (∑ j, Real.exp (X.L j (i 0) (i 1) - sh2 x0 x2 x4 x6 x7 (i 0) (i 1))))) * Real.exp (X.L j (i 0) (i 1) - sh2 x0 x2 x4 x6 x7 (i 0) (i 1)) : ℝ) : EReal) := by
  have hs : ∀ k, val_main_v158 (F := Ideal) x0 x1 x2 x3 x4 x5 x6 x7 (idx_main_v159 i k)
      = (((∑ e, X.DY (i 0) (i 1) e * X.O k (i 0) (i 1) e) * (1 / ((∑ j, Real.exp (X.L j (i 0) (i 1) - sh2 x0 x2 x4 x6 x7 (i 0) (i 1))) * (∑ j, Real.exp (X.L j (i 0) (i 1) - sh2 x0 x2 x4 x6 x7 (i 0) (i 1))))) * Real.exp (X.L k (i 0) (i 1) - sh2 x0 x2 x4 x6 x7 (i 0) (i 1)) : ℝ) : EReal) := fun k => by
    rw [val_main_v158_apply, val_main_v157_apply, val_main_v156_apply, r155 hx, r130 hx, r123 hx, Ideal.mulf_def, Ideal.mulf_def, mul_real, mul_real]; rfl
  rw [val_main_v159_apply, sum_eq_real hs, val_main_cst_34_apply, k_zero, zero_add]

theorem r160 (i : S1x4096x8.Idx) :
    val_main_v160 (F := Ideal) x0 x1 x2 x3 x4 x5 x6 x7 i = ((∑ j, (∑ e, X.DY (i 1) (i 2) e * X.O j (i 1) (i 2) e) * (1 / ((∑ j, Real.exp (X.L j (i 1) (i 2) - sh2 x0 x2 x4 x6 x7 (i 1) (i 2))) * (∑ j, Real.exp (X.L j (i 1) (i 2) - sh2 x0 x2 x4 x6 x7 (i 1) (i 2))))) * Real.exp (X.L j (i 1) (i 2) - sh2 x0 x2 x4 x6 x7 (i 1) (i 2)) : ℝ) : EReal) := by
  have h0 : (i 0).val < 1 := (i 0).isLt
  have h1 : (i 1).val < 4096 := (i 1).isLt
  have h2 : (i 2).val < 8 := (i 2).isLt
  rw [val_main_v160_apply]
  refine (congrArg (val_main_v159 (F := Ideal) x0 x1 x2 x3 x4 x5 x6 x7) (show idx_main_v160 i = ix2 (i 1) (i 2) from by
      funext a; match a with
      | ⟨0, _⟩ => exact Fin.ext (by dsimp only [idx_main_v160]; show _ = (i 1).val; omega)
      | ⟨1, _⟩ => exact Fin.ext (by dsimp only [idx_main_v160]; show _ = (i 2).val; omega))).trans ?_
  exact r159 hx _

theorem r164 (i : S4096x8.Idx) :
    val_main_v164 (F := Ideal) x0 x1 x2 x3 x4 x5 x6 x7 i = ((-(∑ j, (∑ e, X.DY (i 0) (i 1) e * X.O j (i 0) (i 1) e) * (1 / ((∑ j, Real.exp (X.L j (i 0) (i 1) - sh2 x0 x2 x4 x6 x7 (i 0) (i 1))) * (∑ j, Real.exp (X.L j (i 0) (i 1) - sh2 x0 x2 x4 x6 x7 (i 0) (i 1))))) * Real.exp (X.L j (i 0) (i 1) - sh2 x0 x2 x4 x6 x7 (i 0) (i 1))) : ℝ) : EReal) := by
  have hs : ∀ k, val_main_v161 (F := Ideal) x0 x1 x2 x3 x4 x5 x6 x7 (idx_main_v164 i k)
      = ((-(∑ j, (∑ e, X.DY (i 0) (i 1) e * X.O j (i 0) (i 1) e) * (1 / ((∑ j, Real.exp (X.L j (i 0) (i 1) - sh2 x0 x2 x4 x6 x7 (i 0) (i 1))) * (∑ j, Real.exp (X.L j (i 0) (i 1) - sh2 x0 x2 x4 x6 x7 (i 0) (i 1))))) * Real.exp (X.L j (i 0) (i 1) - sh2 x0 x2 x4 x6 x7 (i 0) (i 1))) : ℝ) : EReal) := fun k => by
    rw [val_main_v161_apply, r160 hx, Ideal.hostNegf_def, Ideal.negf_def, neg_real]; rfl
  rw [val_main_v164_apply, sum_eq_real hs, val_main_cst_35_apply, k_zero, zero_add, Fin.sum_univ_one]

theorem r167 (i : S3x4096x8.Idx) :
    val_main_v167 (F := Ideal) x0 x1 x2 x3 x4 x5 x6 x7 i = ((X.al (i 0) (i 1) (i 2) * ((∑ e, X.DY (i 1) (i 2) e * X.O (i 0) (i 1) (i 2) e) - X.dlt (i 1) (i 2)) : ℝ) : EReal) := by
  have hp := X.sum_exp_L_pos (sh2 x0 x2 x4 x6 x7 (i 1) (i 2)) (i 1) (i 2)
  have hd : val_main_v163 (F := Ideal) x0 x1 x2 x3 x4 x5 x6 x7 i = (((∑ e, X.DY (i 1) (i 2) e * X.O (i 0) (i 1) (i 2) e) / (∑ j, Real.exp (X.L j (i 1) (i 2) - sh2 x0 x2 x4 x6 x7 (i 1) (i 2))) : ℝ) : EReal) := by
    rw [val_main_v163_apply, val_main_v162_apply, r155 hx, r125 hx, Ideal.hostDivf_def]
    exact div_real hp.ne'
  have hl := X.mix_bwd (sh2 x0 x2 x4 x6 x7 (i 1) (i 2)) (i 0) (i 1) (i 2) fun j => ∑ e, X.DY (i 1) (i 2) e * X.O j (i 1) (i 2) e
  rw [X.sum_al_d (i 1) (i 2)] at hl
  rw [val_main_v167_apply, val_main_v166_apply, hd, val_main_v165_apply, r164 hx, r123 hx, Ideal.addf_def, add_real, Ideal.mulf_def, mul_real]
  exact congrArg _ hl

theorem r171 (i : S4096x8.Idx) :
    val_main_v171 (F := Ideal) x0 x1 x2 x3 x4 x5 x6 x7 i = ((X.al 1 (i 0) (i 1) * ((∑ e, X.DY (i 0) (i 1) e * X.O 1 (i 0) (i 1) e) - X.dlt (i 0) (i 1)) : ℝ) : EReal) := by
  have h0 : (i 0).val < 4096 := (i 0).isLt
  have h1 : (i 1).val < 8 := (i 1).isLt
  rw [val_main_v171_apply, val_main_v170_apply, show idx_main_v171 i = ix3 0 (i 0) (i 1) from by
      funext a; match a with
      | ⟨0, _⟩ => exact Fin.ext (by dsimp only [idx_main_v171]; show _ = 0; omega)
      | ⟨1, _⟩ => exact Fin.ext (by dsimp only [idx_main_v171]; show _ = (i 0).val; omega)
      | ⟨2, _⟩ => exact Fin.ext (by dsimp only [idx_main_v171]; show _ = (i 1).val; omega), r167 hx]
  rfl

theorem r174 (i : S8x4096.Idx) :
    val_main_v174 (F := Ideal) x0 x1 x2 x3 x4 x5 x6 x7 i = ((X.al 1 (i 1) (i 0) * ((∑ e, X.DY (i 1) (i 0) e * X.O 1 (i 1) (i 0) e) - X.dlt (i 1) (i 0)) : ℝ) : EReal) := by
  rw [val_main_v174_apply, r171 hx]; rfl

theorem r175 (i : S8x128x4096.Idx) :
    val_main_v175 (F := Ideal) x0 x2 x4 x5 x6 x7 i = ((X.al 1 (i 2) (i 0) * X.DY (i 2) (i 0) (i 1) : ℝ) : EReal) := by
  rw [val_main_v175_apply, r152 hx]; rfl

theorem r176 (i : S8x4096x4096.Idx) :
    val_main_v176 (F := Ideal) x0 x2 x4 x5 x6 x7 i = ((∑ e, X.al 1 (i 1) (i 0) * X.DY (i 1) (i 0) e * X.W (i 2) (i 0) e : ℝ) : EReal) := by
  have hs : ∀ k, val_main_v175 (F := Ideal) x0 x2 x4 x5 x6 x7 (lidx_main_v176 i k) * val_main_v40 (F := Ideal) x0 (ridx_main_v176 i k)
      = ((X.al 1 (i 1) (i 0) * X.DY (i 1) (i 0) k * X.W (i 2) (i 0) k : ℝ) : EReal) := fun k => by
    rw [r175 hx, r40 hx, mul_real]; rfl
  rw [val_main_v176_apply, sum_eq_real hs]

theorem r178 (i : S4096x8x128.Idx) :
    val_main_v178 (F := Ideal) x0 x2 x4 x5 x6 x7 i = ((X.dv (i 0) (i 1) (i 2) : ℝ) : EReal) := by
  have hs : ∀ k, val_main_v175 (F := Ideal) x0 x2 x4 x5 x6 x7 (lidx_main_v177 (idx_main_v178 i) k) * val_main_v93 (F := Ideal) x0 x6 x7 (ridx_main_v177 (idx_main_v178 i) k)
      = ((X.P k (i 1) (i 0) * X.DY k (i 1) (i 2) : ℝ) : EReal) := fun k => by
    have hP := X.P_eq k (i 1) (i 0)
    rw [r175 hx, r93 hx, mul_real]
    exact congrArg _ (by
      show X.al 1 k (i 1) * X.DY k (i 1) (i 2) * X.pr k (i 1) (i 0) = X.P k (i 1) (i 0) * X.DY k (i 1) (i 2)
      rw [hP]; ring)
  rw [val_main_v178_apply, val_main_v177_apply, sum_eq_real hs]
  rfl

theorem r179 (i : S8x4096x4096.Idx) :
    val_main_v179 (F := Ideal) x0 x2 x4 x5 x6 x7 i = (((∑ e, X.al 1 (i 1) (i 0) * X.DY (i 1) (i 0) e * X.W (i 2) (i 0) e) * X.pr (i 1) (i 0) (i 2) : ℝ) : EReal) := by
  rw [val_main_v179_apply, r176 hx, r93 hx, Ideal.mulf_def, mul_real]

theorem r181 (i : S8x4096.Idx) :
    val_main_v181 (F := Ideal) x0 x2 x4 x5 x6 x7 i = ((∑ u, -((∑ e, X.al 1 (i 1) (i 0) * X.DY (i 1) (i 0) e * X.W u (i 0) e) * X.pr (i 1) (i 0) u) : ℝ) : EReal) := by
  have hs : ∀ k, val_main_v180 (F := Ideal) x0 x2 x4 x5 x6 x7 (idx_main_v181 i k) = ((-((∑ e, X.al 1 (i 1) (i 0) * X.DY (i 1) (i 0) e * X.W k (i 0) e) * X.pr (i 1) (i 0) k) : ℝ) : EReal) := fun k => by
    rw [val_main_v180_apply, r179 hx, Ideal.hostNegf_def, Ideal.negf_def, neg_real]; rfl
  rw [val_main_v181_apply, sum_eq_real hs, val_main_cst_36_apply, k_zero, zero_add]

theorem r182 (i : S8x4096x1.Idx) :
    val_main_v182 (F := Ideal) x0 x2 x4 x5 x6 x7 i = ((∑ u, -((∑ e, X.al 1 (i 1) (i 0) * X.DY (i 1) (i 0) e * X.W u (i 0) e) * X.pr (i 1) (i 0) u) : ℝ) : EReal) := by
  have h0 : (i 0).val < 8 := (i 0).isLt
  have h1 : (i 1).val < 4096 := (i 1).isLt
  have h2 : (i 2).val < 1 := (i 2).isLt
  rw [val_main_v182_apply]
  refine (congrArg (val_main_v181 (F := Ideal) x0 x2 x4 x5 x6 x7) (show idx_main_v182 i = ix2 (i 0) (i 1) from by
      funext a; match a with
      | ⟨0, _⟩ => exact Fin.ext (by dsimp only [idx_main_v182]; show _ = (i 0).val; omega)
      | ⟨1, _⟩ => exact Fin.ext (by dsimp only [idx_main_v182]; show _ = (i 1).val; omega))).trans ?_
  exact r181 hx _

theorem r183 (i : S8x4096.Idx) :
    val_main_v183 (F := Ideal) x0 x2 x4 x5 x6 x7 i = ((∑ u, -((∑ e, X.al 1 (i 1) (i 0) * X.DY (i 1) (i 0) e * X.W u (i 0) e) * X.pr (i 1) (i 0) u) : ℝ) : EReal) := by
  have hs : ∀ k, val_main_v182 (F := Ideal) x0 x2 x4 x5 x6 x7 (idx_main_v183 i k) = ((∑ u, -((∑ e, X.al 1 (i 1) (i 0) * X.DY (i 1) (i 0) e * X.W u (i 0) e) * X.pr (i 1) (i 0) u) : ℝ) : EReal) := fun k => r182 hx _
  rw [val_main_v183_apply, sum_eq_real hs, val_main_cst_37_apply, k_zero, zero_add, Fin.sum_univ_one]

theorem r185 (i : S8x4096.Idx) :
    val_main_v185 (F := Ideal) x0 x1 x2 x3 x4 x5 x6 x7 i = ((((X.al 1 (i 1) (i 0) * ((∑ e, X.DY (i 1) (i 0) e * X.O 1 (i 1) (i 0) e) - X.dlt (i 1) (i 0)) + ∑ u, -((∑ e, X.al 1 (i 1) (i 0) * X.DY (i 1) (i 0) e * X.W u (i 0) e) * X.pr (i 1) (i 0) u)) / (∑ u, X.ex (shift x0 x6 x7 (ix2 (i 0) (i 1))) (i 1) (i 0) u)) : ℝ) : EReal) := by
  rw [val_main_v185_apply, val_main_v184_apply, r174 hx, r183 hx, r86 hx, Ideal.addf_def, add_real, Ideal.hostDivf_def]
  exact div_real (X.sum_ex_pos (shift x0 x6 x7 (ix2 (i 0) (i 1))) (i 1) (i 0)).ne'

theorem r188 (i : S8x4096x4096.Idx) :
    val_main_v188 (F := Ideal) x0 x1 x2 x3 x4 x5 x6 x7 i = ((X.ds (i 1) (i 0) (i 2) : ℝ) : EReal) := by
  rw [val_main_v188_apply, r179 hx, val_main_v187_apply, val_main_v186_apply, r185 hx, r85 hx, Ideal.mulf_def, mul_real, Ideal.addf_def, add_real]
  exact congrArg _ (X.ds_chain (shift x0 x6 x7 (ix2 (i 0) (i 1))) (i 1) (i 0) (i 2))

theorem r189 (i : S8x4096x4096.Idx) :
    val_main_v189 (F := Ideal) x0 x1 x2 x3 x4 x5 x6 x7 i = ((X.ds (i 1) (i 0) (i 2) : ℝ) : EReal) := by
  rw [val_main_v189_apply, val_main_v75_1_apply, val_main_v67_apply, r66, r188 hx, val_main_call1_v0_apply, val_main_call1_cst_apply, k_zero]
  by_cases h : ok (i 1) (i 2)
  · erw [if_pos h]
    rfl
  · rw [X.ds_of_not_ok (i 0) h]
    erw [if_neg h]
    rfl

theorem r191 (i : S8x4096x4096.Idx) :
    val_main_v191 (F := Ideal) x0 x1 x2 x3 x4 x5 x6 x7 i = ((X.ds (i 1) (i 0) (i 2) * scl : ℝ) : EReal) := by
  rw [val_main_v191_apply, r189 hx, val_main_v190_apply, val_main_cst_38_apply, k_scl, Ideal.mulf_def, mul_real]

theorem r193 (i : S4096x8x128.Idx) :
    val_main_v193 (F := Ideal) x0 x1 x2 x3 x4 x5 x6 x7 i = ((X.dkn (i 0) (i 1) (i 2) : ℝ) : EReal) := by
  have hs : ∀ k, val_main_v191 (F := Ideal) x0 x1 x2 x3 x4 x5 x6 x7 (lidx_main_v192 (idx_main_v193 i) k) * val_main_v22 (F := Ideal) x0 x6 (ridx_main_v192 (idx_main_v193 i) k)
      = ((X.ds k (i 1) (i 0) * scl * X.qn k (i 1) (i 2) : ℝ) : EReal) := fun k => by
    rw [r191 hx, r22 hx, mul_real]; rfl
  rw [val_main_v193_apply, val_main_v192_apply, sum_eq_real hs]
  refine congrArg _ ?_
  unfold Inp.dkn
  rw [Finset.mul_sum]
  exact Finset.sum_congr rfl fun k _ => by ring

theorem r195 (i : S4096x8x128.Idx) :
    val_main_v195 (F := Ideal) x0 x1 x2 x3 x4 x5 x6 x7 i = ((X.dqn (i 0) (i 1) (i 2) : ℝ) : EReal) := by
  have hs : ∀ k, val_main_v191 (F := Ideal) x0 x1 x2 x3 x4 x5 x6 x7 (lidx_main_v194 (idx_main_v195 i) k) * val_main_v39 (F := Ideal) x0 x7 (ridx_main_v194 (idx_main_v195 i) k)
      = ((X.ds (i 0) (i 1) k * scl * X.kn k (i 1) (i 2) : ℝ) : EReal) := fun k => by
    rw [r191 hx, r39 hx, mul_real]; rfl
  rw [val_main_v195_apply, val_main_v194_apply, sum_eq_real hs]
  refine congrArg _ ?_
  unfold Inp.dqn
  rw [Finset.mul_sum]
  exact Finset.sum_congr rfl fun k _ => by ring

omit hx in
/-- The sum over tokens and heads. -/
theorem sum_th (x : FVec Ideal S4096x8x128 .f32) (init : FVec Ideal S_ .f32) (hu : 0 < S_.numel) (j : S128.Idx) :
    Host.reduceAdd x init reducesTo_S4096x8x128_S128_d0_1 hu j
      = init (Shape.Idx.first hu) + ∑ t : T, ∑ h : H, x (ix3 t h (j 0)) := by
  rw [hostReduceAdd_apply]
  unfold Ideal.hostReduceAdd
  refine congrArg (fun z : EReal => init (Shape.Idx.first hu) + z) ?_
  refine Eq.trans ?_ (Fintype.sum_prod_type' fun (t : T) (h : H) => x (ix3 t h (j 0)))
  symm
  refine Finset.sum_bij (fun (p : T × H) _ => (ix3 p.1 p.2 (j 0) : S4096x8x128.Idx)) (fun p _ => ?_) (fun p _ q _ h => ?_) (fun i hi => ?_)
    (fun _ _ => rfl)
  · rw [Finset.mem_filter]
    refine ⟨Finset.mem_univ _, ?_⟩
    funext a; match a with
    | ⟨0, _⟩ => rfl
  · have h' : (ix3 p.1 p.2 (j 0) : S4096x8x128.Idx) = ix3 q.1 q.2 (j 0) := h
    have e0 : p.1 = q.1 := congrFun h' 0
    have e1 : p.2 = q.2 := congrFun h' 1
    exact Prod.ext e0 e1
  · rw [Finset.mem_filter] at hi
    obtain ⟨t, ht⟩ : ∃ t : T, t = i 0 := ⟨i 0, rfl⟩
    obtain ⟨h, hh⟩ : ∃ h : H, h = i 1 := ⟨i 1, rfl⟩
    refine ⟨(t, h), by simp only [Finset.mem_univ], ?_⟩
    funext a; match a with
    | ⟨0, _⟩ => exact ht
    | ⟨1, _⟩ => exact hh
    | ⟨2, _⟩ => exact (congrFun hi.2 0).symm

omit hx in
/-- The sum over two axes of length one. -/
theorem sum_one (x : FVec Ideal S1x1x128 .f32) (init : FVec Ideal S_ .f32) (hu : 0 < S_.numel) (j : S128.Idx) :
    Host.reduceAdd x init reducesTo_S1x1x128_S128_d0_1 hu j = init (Shape.Idx.first hu) + x (ix3 0 0 (j 0)) := by
  rw [hostReduceAdd_apply]
  unfold Ideal.hostReduceAdd
  refine congrArg (fun z : EReal => init (Shape.Idx.first hu) + z) ?_
  refine Finset.sum_eq_single_of_mem _ ?_ (fun i hi hne => ?_)
  · rw [Finset.mem_filter]
    refine ⟨Finset.mem_univ _, ?_⟩
    funext a; match a with
    | ⟨0, _⟩ => rfl
  · rw [Finset.mem_filter] at hi
    refine absurd ?_ hne
    funext a; match a with
    | ⟨0, _⟩ => exact Fin.ext (by have h : (i 0).val < 1 := (i 0).isLt; show (i 0).val = 0; omega)
    | ⟨1, _⟩ => exact Fin.ext (by have h : (i 1).val < 1 := (i 1).isLt; show (i 1).val = 0; omega)
    | ⟨2, _⟩ => exact congrFun hi.2 0

theorem r197 (i : S4096x8x128.Idx) :
    val_main_v197 (F := Ideal) x0 x1 x2 x3 x4 x5 x6 x7 i = ((hat (X.K (i 0) (i 1)) (i 2) * X.dkn (i 0) (i 1) (i 2) : ℝ) : EReal) := by
  rw [val_main_v197_apply, r36 hx, r193 hx, Ideal.mulf_def, mul_real]

theorem r198 (i : S128.Idx) :
    val_main_v198 (F := Ideal) x0 x1 x2 x3 x4 x5 x6 x7 i = ((X.dkg (i 0) : ℝ) : EReal) := by
  have hs : ∀ t : T, ∑ h : H, val_main_v197 (F := Ideal) x0 x1 x2 x3 x4 x5 x6 x7 (ix3 t h (i 0))
      = ((∑ h, hat (X.K t h) (i 0) * X.dkn t h (i 0) : ℝ) : EReal) := fun t => sum_eq_real fun h => r197 hx _
  unfold val_main_v198
  rw [sum_th, sum_eq_real hs, val_main_cst_39_apply, k_zero, zero_add]
  rfl

theorem r199 (i : S1x1x128.Idx) :
    val_main_v199 (F := Ideal) x0 x1 x2 x3 x4 x5 x6 x7 i = ((X.dkg (i 2) : ℝ) : EReal) := by
  have h0 : (i 0).val < 1 := (i 0).isLt
  have h1 : (i 1).val < 1 := (i 1).isLt
  rw [val_main_v199_apply, r198 hx]
  exact congrArg _ (congrArg X.dkg (Fin.ext (by dsimp only [idx_main_v199]; omega)))

theorem r202 (i : S128.Idx) :
    val_main_v202 (F := Ideal) x0 x1 x2 x3 x4 x5 x6 x7 i = ((X.dkg (i 0) : ℝ) : EReal) := by
  unfold val_main_v202
  rw [sum_one, r199 hx, val_main_cst_40_apply, k_zero, zero_add]

theorem r218 (i : S4096x8x128.Idx) :
    val_main_v218 (F := Ideal) x0 x1 x2 x3 x4 x5 x6 x7 i = ((hat (X.Q (i 0) (i 1)) (i 2) * X.dqn (i 0) (i 1) (i 2) : ℝ) : EReal) := by
  rw [val_main_v218_apply, r19 hx, r195 hx, Ideal.mulf_def, mul_real]

theorem r219 (i : S128.Idx) :
    val_main_v219 (F := Ideal) x0 x1 x2 x3 x4 x5 x6 x7 i = ((X.dqg (i 0) : ℝ) : EReal) := by
  have hs : ∀ t : T, ∑ h : H, val_main_v218 (F := Ideal) x0 x1 x2 x3 x4 x5 x6 x7 (ix3 t h (i 0))
      = ((∑ h, hat (X.Q t h) (i 0) * X.dqn t h (i 0) : ℝ) : EReal) := fun t => sum_eq_real fun h => r218 hx _
  unfold val_main_v219
  rw [sum_th, sum_eq_real hs, val_main_cst_44_apply, k_zero, zero_add]
  rfl

theorem r220 (i : S1x1x128.Idx) :
    val_main_v220 (F := Ideal) x0 x1 x2 x3 x4 x5 x6 x7 i = ((X.dqg (i 2) : ℝ) : EReal) := by
  have h0 : (i 0).val < 1 := (i 0).isLt
  have h1 : (i 1).val < 1 := (i 1).isLt
  rw [val_main_v220_apply, r219 hx]
  exact congrArg _ (congrArg X.dqg (Fin.ext (by dsimp only [idx_main_v220]; omega)))

theorem r223 (i : S128.Idx) :
    val_main_v223 (F := Ideal) x0 x1 x2 x3 x4 x5 x6 x7 i = ((X.dqg (i 0) : ℝ) : EReal) := by
  unfold val_main_v223
  rw [sum_one, r220 hx, val_main_cst_45_apply, k_zero, zero_add]

theorem r201 (i : S4096x8x128.Idx) :
    val_main_v201 (F := Ideal) x0 x1 x2 x3 x4 x5 x6 x7 i = ((X.dkn (i 0) (i 1) (i 2) * X.gk (i 2) : ℝ) : EReal) := by
  rw [val_main_v201_apply, val_main_v200_apply, val_main_v37_apply, r193 hx, hx.gk, Ideal.mulf_def, mul_real]
  rfl

theorem r204 (i : S4096x8.Idx) :
    val_main_v204 (F := Ideal) x0 x1 x2 x3 x4 x5 x6 x7 i = (((∑ e, X.K (i 0) (i 1) e * (X.dkn (i 0) (i 1) e * X.gk e)) : ℝ) : EReal) := by
  have hs : ∀ k, val_main_v203 (F := Ideal) x0 x1 x2 x3 x4 x5 x6 x7 (idx_main_v204 i k)
      = ((X.K (i 0) (i 1) k * (X.dkn (i 0) (i 1) k * X.gk k) : ℝ) : EReal) := fun k => by
    rw [val_main_v203_apply, r23 hx, r201 hx, Ideal.mulf_def, mul_real]; rfl
  rw [val_main_v204_apply, sum_eq_real hs, val_main_cst_41_apply, k_zero, zero_add]

theorem r205 (i : S4096x8x1.Idx) :
    val_main_v205 (F := Ideal) x0 x1 x2 x3 x4 x5 x6 x7 i = (((∑ e, X.K (i 0) (i 1) e * (X.dkn (i 0) (i 1) e * X.gk e)) : ℝ) : EReal) := by
  have h0 : (i 0).val < 4096 := (i 0).isLt
  have h1 : (i 1).val < 8 := (i 1).isLt
  have h2 : (i 2).val < 1 := (i 2).isLt
  rw [val_main_v205_apply]
  refine (congrArg (val_main_v204 (F := Ideal) x0 x1 x2 x3 x4 x5 x6 x7) (show idx_main_v205 i = ix2 (i 0) (i 1) from by
      funext a; match a with
      | ⟨0, _⟩ => exact Fin.ext (by dsimp only [idx_main_v205]; show _ = (i 0).val; omega)
      | ⟨1, _⟩ => exact Fin.ext (by dsimp only [idx_main_v205]; show _ = (i 1).val; omega))).trans ?_
  exact r204 hx _

theorem r34 (i : S4096x8x1.Idx) :
    val_main_v34 (F := Ideal) x0 i = (((-(1/2) * (rs (X.K (i 0) (i 1)) / ms (X.K (i 0) (i 1)))) : ℝ) : EReal) := by
  rw [val_main_v34_apply, val_main_v33_apply, val_main_cst_6_apply, k_mhalf, val_main_v32_apply, r31 hx, r30 hx, Ideal.hostDivf_def,
    div_real (ms_pos _).ne', Ideal.mulf_def, mul_real]

theorem r210 (i : S4096x8x1.Idx) :
    val_main_v210 (F := Ideal) x0 x1 x2 x3 x4 x5 x6 x7 i = ((((∑ e, X.K (i 0) (i 1) e * (X.dkn (i 0) (i 1) e * X.gk e)) * (-(1/2) * (rs (X.K (i 0) (i 1)) / ms (X.K (i 0) (i 1)))) / 128) : ℝ) : EReal) := by
  rw [val_main_v210_apply, val_main_v208_apply, r205 hx, r34 hx, val_main_v209_apply, val_main_cst_42_apply, k_128, Ideal.mulf_def, mul_real,
    Ideal.hostDivf_def, div_real (by norm_num)]

theorem r211 (i : S4096x8.Idx) :
    val_main_v211 (F := Ideal) x0 x1 x2 x3 x4 x5 x6 x7 i = ((((∑ e, X.K (i 0) (i 1) e * (X.dkn (i 0) (i 1) e * X.gk e)) * (-(1/2) * (rs (X.K (i 0) (i 1)) / ms (X.K (i 0) (i 1)))) / 128) : ℝ) : EReal) := by
  have hs : ∀ k, val_main_v210 (F := Ideal) x0 x1 x2 x3 x4 x5 x6 x7 (idx_main_v211 i k) = ((((∑ e, X.K (i 0) (i 1) e * (X.dkn (i 0) (i 1) e * X.gk e)) * (-(1/2) * (rs (X.K (i 0) (i 1)) / ms (X.K (i 0) (i 1)))) / 128) : ℝ) : EReal) := fun k => r210 hx _
  rw [val_main_v211_apply, sum_eq_real hs, val_main_cst_43_apply, k_zero, zero_add, Fin.sum_univ_one]

theorem r212 (i : S4096x8x128.Idx) :
    val_main_v212 (F := Ideal) x0 x1 x2 x3 x4 x5 x6 x7 i = ((((∑ e, X.K (i 0) (i 1) e * (X.dkn (i 0) (i 1) e * X.gk e)) * (-(1/2) * (rs (X.K (i 0) (i 1)) / ms (X.K (i 0) (i 1)))) / 128) : ℝ) : EReal) := by
  rw [val_main_v212_apply, r211 hx]; rfl

theorem r216 (i : S4096x8x128.Idx) :
    val_main_v216 (F := Ideal) x0 x1 x2 x3 x4 x5 x6 x7 i = ((X.dk (i 0) (i 1) (i 2) : ℝ) : EReal) := by
  have hr : val_main_v206 (F := Ideal) x0 i = ((rs (X.K (i 0) (i 1)) : ℝ) : EReal) := by rw [val_main_v206_apply, r31 hx]; rfl
  rw [val_main_v216_apply, val_main_v214_apply, val_main_v207_apply, hr, r201 hx, val_main_v213_apply, r23 hx, r212 hx, val_main_v215_apply,
    r212 hx, r23 hx, Ideal.mulf_def, mul_real, Ideal.mulf_def, mul_real, Ideal.mulf_def, mul_real, Ideal.addf_def, Ideal.addf_def, add_real, add_real]
  exact congrArg _ (nbw_chain X.gk (X.K (i 0) (i 1)) (X.dkn (i 0) (i 1)) (i 2))

theorem r222 (i : S4096x8x128.Idx) :
    val_main_v222 (F := Ideal) x0 x1 x2 x3 x4 x5 x6 x7 i = ((X.dqn (i 0) (i 1) (i 2) * X.gq (i 2) : ℝ) : EReal) := by
  rw [val_main_v222_apply, val_main_v221_apply, val_main_v20_apply, r195 hx, hx.gq, Ideal.mulf_def, mul_real]
  rfl

theorem r225 (i : S4096x8.Idx) :
    val_main_v225 (F := Ideal) x0 x1 x2 x3 x4 x5 x6 x7 i = (((∑ e, X.Q (i 0) (i 1) e * (X.dqn (i 0) (i 1) e * X.gq e)) : ℝ) : EReal) := by
  have hs : ∀ k, val_main_v224 (F := Ideal) x0 x1 x2 x3 x4 x5 x6 x7 (idx_main_v225 i k)
      = ((X.Q (i 0) (i 1) k * (X.dqn (i 0) (i 1) k * X.gq k) : ℝ) : EReal) := fun k => by
    rw [val_main_v224_apply, r6 hx, r222 hx, Ideal.mulf_def, mul_real]; rfl
  rw [val_main_v225_apply, sum_eq_real hs, val_main_cst_46_apply, k_zero, zero_add]

theorem r226 (i : S4096x8x1.Idx) :
    val_main_v226 (F := Ideal) x0 x1 x2 x3 x4 x5 x6 x7 i = (((∑ e, X.Q (i 0) (i 1) e * (X.dqn (i 0) (i 1) e * X.gq e)) : ℝ) : EReal) := by
  have h0 : (i 0).val < 4096 := (i 0).isLt
  have h1 : (i 1).val < 8 := (i 1).isLt
  have h2 : (i 2).val < 1 := (i 2).isLt
  rw [val_main_v226_apply]
  refine (congrArg (val_main_v225 (F := Ideal) x0 x1 x2 x3 x4 x5 x6 x7) (show idx_main_v226 i = ix2 (i 0) (i 1) from by
      funext a; match a with
      | ⟨0, _⟩ => exact Fin.ext (by dsimp only [idx_main_v226]; show _ = (i 0).val; omega)
      | ⟨1, _⟩ => exact Fin.ext (by dsimp only [idx_main_v226]; show _ = (i 1).val; omega))).trans ?_
  exact r225 hx _

theorem r17 (i : S4096x8x1.Idx) :
    val_main_v17 (F := Ideal) x0 i = (((-(1/2) * (rs (X.Q (i 0) (i 1)) / ms (X.Q (i 0) (i 1)))) : ℝ) : EReal) := by
  rw [val_main_v17_apply, val_main_v16_apply, val_main_cst_2_apply, k_mhalf, val_main_v15_apply, r14 hx, r13 hx, Ideal.hostDivf_def,
    div_real (ms_pos _).ne', Ideal.mulf_def, mul_real]

theorem r231 (i : S4096x8x1.Idx) :
    val_main_v231 (F := Ideal) x0 x1 x2 x3 x4 x5 x6 x7 i = ((((∑ e, X.Q (i 0) (i 1) e * (X.dqn (i 0) (i 1) e * X.gq e)) * (-(1/2) * (rs (X.Q (i 0) (i 1)) / ms (X.Q (i 0) (i 1)))) / 128) : ℝ) : EReal) := by
  rw [val_main_v231_apply, val_main_v229_apply, r226 hx, r17 hx, val_main_v230_apply, val_main_cst_47_apply, k_128, Ideal.mulf_def, mul_real,
    Ideal.hostDivf_def, div_real (by norm_num)]

theorem r232 (i : S4096x8.Idx) :
    val_main_v232 (F := Ideal) x0 x1 x2 x3 x4 x5 x6 x7 i = ((((∑ e, X.Q (i 0) (i 1) e * (X.dqn (i 0) (i 1) e * X.gq e)) * (-(1/2) * (rs (X.Q (i 0) (i 1)) / ms (X.Q (i 0) (i 1)))) / 128) : ℝ) : EReal) := by
  have hs : ∀ k, val_main_v231 (F := Ideal) x0 x1 x2 x3 x4 x5 x6 x7 (idx_main_v232 i k) = ((((∑ e, X.Q (i 0) (i 1) e * (X.dqn (i 0) (i 1) e * X.gq e)) * (-(1/2) * (rs (X.Q (i 0) (i 1)) / ms (X.Q (i 0) (i 1)))) / 128) : ℝ) : EReal) := fun k => r231 hx _
  rw [val_main_v232_apply, sum_eq_real hs, val_main_cst_48_apply, k_zero, zero_add, Fin.sum_univ_one]

theorem r233 (i : S4096x8x128.Idx) :
    val_main_v233 (F := Ideal) x0 x1 x2 x3 x4 x5 x6 x7 i = ((((∑ e, X.Q (i 0) (i 1) e * (X.dqn (i 0) (i 1) e * X.gq e)) * (-(1/2) * (rs (X.Q (i 0) (i 1)) / ms (X.Q (i 0) (i 1)))) / 128) : ℝ) : EReal) := by
  rw [val_main_v233_apply, r232 hx]; rfl

theorem r237 (i : S4096x8x128.Idx) :
    val_main_v237 (F := Ideal) x0 x1 x2 x3 x4 x5 x6 x7 i = ((X.dq (i 0) (i 1) (i 2) : ℝ) : EReal) := by
  have hr : val_main_v227 (F := Ideal) x0 i = ((rs (X.Q (i 0) (i 1)) : ℝ) : EReal) := by rw [val_main_v227_apply, r14 hx]; rfl
  rw [val_main_v237_apply, val_main_v235_apply, val_main_v228_apply, hr, r222 hx, val_main_v234_apply, r6 hx, r233 hx, val_main_v236_apply,
    r233 hx, r6 hx, Ideal.mulf_def, mul_real, Ideal.mulf_def, mul_real, Ideal.mulf_def, mul_real, Ideal.addf_def, Ideal.addf_def, add_real, add_real]
  exact congrArg _ (nbw_chain X.gq (X.Q (i 0) (i 1)) (X.dqn (i 0) (i 1)) (i 2))

theorem r240 (i : S1024x4096.Idx) (t : T) (h : H) (e : E) (hi : (i 0).val * 4096 + (i 1).val = t.val * 1024 + (h.val * 128 + e.val)) :
    val_main_v240 (F := Ideal) x0 x1 x2 x3 x4 x5 x6 x7 i = ((X.dq t h e : ℝ) : EReal) := by
  have h0 : (i 0).val < 1024 := (i 0).isLt
  have h1 : (i 1).val < 4096 := (i 1).isLt
  have ht := t.isLt
  have hh := h.isLt
  have he := e.isLt
  rw [val_main_v240_apply, val_main_v239_apply, val_main_v238_apply, r237 hx, Ideal.truncf_def]
  have a0 : (idx_main_v238 (idx_main_v239 i) 0) = t := Fin.ext (by dsimp only [idx_main_v238, idx_main_v239]; omega)
  have a1 : (idx_main_v238 (idx_main_v239 i) 1) = h := Fin.ext (by dsimp only [idx_main_v238, idx_main_v239]; omega)
  have a2 : (idx_main_v238 (idx_main_v239 i) 2) = e := Fin.ext (by dsimp only [idx_main_v238, idx_main_v239]; omega)
  exact congrArg _ (congr (congrArg₂ X.dq a0 a1) a2)

theorem r242 (i : S1024x4096.Idx) (t : T) (h : H) (e : E) (hi : (i 0).val * 4096 + (i 1).val = t.val * 1024 + (h.val * 128 + e.val)) :
    val_main_v242 (F := Ideal) x0 x1 x2 x3 x4 x5 x6 x7 i = ((X.dk t h e : ℝ) : EReal) := by
  have h0 : (i 0).val < 1024 := (i 0).isLt
  have h1 : (i 1).val < 4096 := (i 1).isLt
  have ht := t.isLt
  have hh := h.isLt
  have he := e.isLt
  rw [val_main_v242_apply, val_main_v241_apply, val_main_v217_apply, r216 hx, Ideal.truncf_def]
  have a0 : (idx_main_v217 (idx_main_v241 i) 0) = t := Fin.ext (by dsimp only [idx_main_v217, idx_main_v241]; omega)
  have a1 : (idx_main_v217 (idx_main_v241 i) 1) = h := Fin.ext (by dsimp only [idx_main_v217, idx_main_v241]; omega)
  have a2 : (idx_main_v217 (idx_main_v241 i) 2) = e := Fin.ext (by dsimp only [idx_main_v217, idx_main_v241]; omega)
  exact congrArg _ (congr (congrArg₂ X.dk a0 a1) a2)

theorem r244 (i : S1024x4096.Idx) (t : T) (h : H) (e : E) (hi : (i 0).val * 4096 + (i 1).val = t.val * 1024 + (h.val * 128 + e.val)) :
    val_main_v244 (F := Ideal) x0 x2 x4 x5 x6 x7 i = ((X.dv t h e : ℝ) : EReal) := by
  have h0 : (i 0).val < 1024 := (i 0).isLt
  have h1 : (i 1).val < 4096 := (i 1).isLt
  have ht := t.isLt
  have hh := h.isLt
  have he := e.isLt
  rw [val_main_v244_apply, val_main_v243_apply, val_main_v196_apply, r178 hx, Ideal.truncf_def]
  have a0 : (idx_main_v196 (idx_main_v243 i) 0) = t := Fin.ext (by dsimp only [idx_main_v196, idx_main_v243]; omega)
  have a1 : (idx_main_v196 (idx_main_v243 i) 1) = h := Fin.ext (by dsimp only [idx_main_v196, idx_main_v243]; omega)
  have a2 : (idx_main_v196 (idx_main_v243 i) 2) = e := Fin.ext (by dsimp only [idx_main_v196, idx_main_v243]; omega)
  exact congrArg _ (congr (congrArg₂ X.dv a0 a1) a2)

theorem r245 (i : S1x128.Idx) :
    val_main_v245 (F := Ideal) x0 x1 x2 x3 x4 x5 x6 x7 i = ((X.dqg (i 1) : ℝ) : EReal) := by
  have h0 : (i 0).val < 1 := (i 0).isLt
  rw [val_main_v245_apply, r223 hx]
  exact congrArg _ (congrArg X.dqg (Fin.ext (by dsimp only [idx_main_v245]; omega)))

theorem r246 (i : S1x128.Idx) :
    val_main_v246 (F := Ideal) x0 x1 x2 x3 x4 x5 x6 x7 i = ((X.dkg (i 1) : ℝ) : EReal) := by
  have h0 : (i 0).val < 1 := (i 0).isLt
  rw [val_main_v246_apply, r202 hx]
  exact congrArg _ (congrArg X.dkg (Fin.ext (by dsimp only [idx_main_v246]; omega)))

end Attn
-- ==== Proof.Host.lean ====
module

public import Idealize.ShloMosaic.Lib.StableHlo.ReadAt
public import proofs.«01_k».proof.Proof.R2
public import proofs.«01_k».proof.Proof.Gen.KernelIdeal.Frame

/-! What the host lines before the kernel leave in the kernel's operands, named by the reference's forward values. -/

@[expose] public section

noncomputable section

namespace Attn

open Idealize.ShloMosaic Idealize.ShloMosaic.TcCoe Cert.KernelIdeal Cert.KernelIdeal.Gen Idealize.SL.Sem

theorem after_app (a b : List (HloOp τ sig (Elt Ideal))) (σ : Valuation τ sig (Elt Ideal)) :
    StableHlo.after (a ++ b) σ = StableHlo.after b (StableHlo.after a σ) := by
  induction a generalizing σ with
  | nil => rfl
  | cons o l ih => exact ih _

section Middle

variable (σ : Valuation τ sig (Elt Ideal)) (a0 : FVec Ideal S4096x12288 .bf16) (a1 a3 : FVec Ideal S4096x8x128 .f32)
  (a2 a4 : FVec Ideal S4096x8 .f32) (a5 : FVec Ideal S4096x1024 .f32) (a6 a7 : FVec Ideal S128 .f32)

/-- What the first lines leave. -/
structure Pre : Prop where
  h0 : σ (Proc.devRef .tc main_arg0) = a0
  h1 : σ (Proc.devRef .tc main_arg1) = a1
  h2 : σ (Proc.devRef .tc main_arg2) = a2
  h3 : σ (Proc.devRef .tc main_arg3) = a3
  h4 : σ (Proc.devRef .tc main_arg4) = a4
  h5 : σ (Proc.devRef .tc main_arg5) = a5
  h6 : σ (Proc.devRef .tc main_arg6) = a6
  h7 : σ (Proc.devRef .tc main_arg7) = a7
  h34 : σ (Proc.devRef .tc main_v34) = Cert.ReferenceIdeal.Read.val_main_v40 (F := Ideal) a0
  h69 : σ (Proc.devRef .tc main_v69) = Cert.ReferenceIdeal.Read.val_main_v75_0 (F := Ideal) a0 a6 a7

variable {σ a0 a1 a2 a3 a4 a5 a6 a7} (h : Pre σ a0 a1 a3 a2 a4 a5 a6 a7)
include h

theorem m86 : StableHlo.upto (hostOps0_2 (F := Ideal)) σ 21 (Proc.devRef .tc main_v86) = Cert.ReferenceIdeal.Read.val_main_v97 (F := Ideal) a2 := by
  after_reads_simp
  rw [h.h2]
  rfl

theorem m87 : StableHlo.upto (hostOps0_2 (F := Ideal)) σ 21 (Proc.devRef .tc main_v87) = Cert.ReferenceIdeal.Read.val_main_v98 (F := Ideal) a0 a6 a7 := by
  after_reads_simp
  rw [h.h69]
  sl_kernel_rfl

theorem m88 : StableHlo.upto (hostOps0_2 (F := Ideal)) σ 21 (Proc.devRef .tc main_v88) = Cert.ReferenceIdeal.Read.val_main_v99 (F := Ideal) a4 := by
  after_reads_simp
  rw [h.h4]
  rfl

theorem m102 : StableHlo.upto (hostOps0_2 (F := Ideal)) σ 40 (Proc.devRef .tc main_v102) = Cert.ReferenceIdeal.Read.val_main_v132 (F := Ideal) a1 := by
  after_reads_simp
  rw [h.h1]
  rfl

theorem m103 : StableHlo.upto (hostOps0_2 (F := Ideal)) σ 40 (Proc.devRef .tc main_v103) = Cert.ReferenceIdeal.Read.val_main_v133 (F := Ideal) a0 a6 a7 := by
  after_reads_simp
  rw [h.h34, h.h69]
  sl_kernel_rfl

theorem m104 : StableHlo.upto (hostOps0_2 (F := Ideal)) σ 40 (Proc.devRef .tc main_v104) = Cert.ReferenceIdeal.Read.val_main_v134 (F := Ideal) a3 := by
  after_reads_simp
  rw [h.h3]
  rfl

theorem m89_23 : StableHlo.upto (hostOps0_2 (F := Ideal)) σ 23 (no_index (Proc.devRef .tc main_v89)) = Cert.ReferenceIdeal.Read.val_main_v100 (F := Ideal) a0 a2 a4 a6 a7 := by
  after_reads_simp
  dsimp only [Matrix.cons_val_zero, Matrix.cons_val_one, Matrix.cons_val]
  rw [m86 h, m87 h, m88 h]
  rfl

theorem m89_29 : StableHlo.upto (hostOps0_2 (F := Ideal)) σ 29 (no_index (Proc.devRef .tc main_v89)) = Cert.ReferenceIdeal.Read.val_main_v100 (F := Ideal) a0 a2 a4 a6 a7 := by
  after_reads_simp
  dsimp only [Matrix.cons_val_zero, Matrix.cons_val_one, Matrix.cons_val]
  rw [m86 h, m87 h, m88 h]
  rfl

theorem m89_47 : StableHlo.upto (hostOps0_2 (F := Ideal)) σ 47 (no_index (Proc.devRef .tc main_v89)) = Cert.ReferenceIdeal.Read.val_main_v100 (F := Ideal) a0 a2 a4 a6 a7 := by
  after_reads_simp
  dsimp only [Matrix.cons_val_zero, Matrix.cons_val_one, Matrix.cons_val]
  rw [m86 h, m87 h, m88 h]
  rfl

theorem m89_50 : StableHlo.upto (hostOps0_2 (F := Ideal)) σ 50 (no_index (Proc.devRef .tc main_v89)) = Cert.ReferenceIdeal.Read.val_main_v100 (F := Ideal) a0 a2 a4 a6 a7 := by
  after_reads_simp
  dsimp only [Matrix.cons_val_zero, Matrix.cons_val_one, Matrix.cons_val]
  rw [m86 h, m87 h, m88 h]
  rfl

theorem m105 : StableHlo.upto (hostOps0_2 (F := Ideal)) σ 42 (no_index (Proc.devRef .tc main_v105)) = Cert.ReferenceIdeal.Read.val_main_v135 (F := Ideal) a0 a1 a3 a6 a7 := by
  after_reads_simp
  dsimp only [Matrix.cons_val_zero, Matrix.cons_val_one, Matrix.cons_val]
  rw [m102 h, m103 h, m104 h]
  rfl

theorem m109 : StableHlo.upto (hostOps0_2 (F := Ideal)) σ 57 (no_index (Proc.devRef .tc main_v109)) = Cert.ReferenceIdeal.Read.val_main_v141 (F := Ideal) a0 a1 a2 a3 a4 a6 a7 := by
  after_reads_simp [m105 h, m89_23 h, m89_29 h]
  sl_kernel_rfl

/-- The log denominator of the mix, off the three groups'. -/
def lseH (L : FVec Ideal S3x4096x8 .f32) : FVec Ideal S4096x8 .f32 :=
  addf (Host.log (Host.reduceAdd (Host.exp (subf L (broadcastInDim S3x4096x8 ![0, 1, 2] bcast_S1x4096x8_S3x4096x8_0_1_2
      (broadcastInDim S1x4096x8 ![1, 2] bcast_S4096x8_S1x4096x8_1_2
        (Host.reduce FloatOps.maximumf L (constant S_ .f32 0xFF800000#32) reducesTo_S3x4096x8_S4096x8_d0 h_S_)))))
      (constant S_ .f32 0x00000000#32) reducesTo_S3x4096x8_S4096x8_d0 h_S_))
    (shapeCast _ (broadcastInDim S1x4096x8 ![1, 2] bcast_S4096x8_S1x4096x8_1_2
        (Host.reduce FloatOps.maximumf L (constant S_ .f32 0xFF800000#32) reducesTo_S3x4096x8_S4096x8_d0 h_S_)) shapeCasts_S1x4096x8_S4096x8)

/-- The row sums of the incoming gradient times the mixed output. -/
def dltH (y dy : FVec Ideal S4096x1024 .f32) : FVec Ideal S4096x8 .f32 :=
  Host.reduceAdd (shapeCast S4096x8x128 (mulf dy y) shapeCasts_S4096x1024_S4096x8x128) (constant S_ .f32 0x00000000#32)
    reducesTo_S4096x8x128_S4096x8_d2 h_S_

theorem m118 : StableHlo.after (hostOps0_2 (F := Ideal)) σ (no_index (Proc.devRef .tc main_v118)) = lseH (Cert.ReferenceIdeal.Read.val_main_v100 (F := Ideal) a0 a2 a4 a6 a7) := by
  after_reads_simp [m89_47 h, m89_50 h]
  rfl

theorem m121 : StableHlo.after (hostOps0_2 (F := Ideal)) σ (no_index (Proc.devRef .tc main_v121)) = dltH (Cert.ReferenceIdeal.Read.val_main_v141 (F := Ideal) a0 a1 a2 a3 a4 a6 a7) a5 := by
  after_reads_simp [m109 h]
  rw [h.h5]
  rfl

theorem mc21 : StableHlo.after (hostOps0_2 (F := Ideal)) σ (no_index (Proc.devRef .tc main_c_21)) = constantI S_ 32 0#32 := by
  after_reads_simp

theorem m_a0 : StableHlo.after (hostOps0_2 (F := Ideal)) σ (no_index (Proc.devRef .tc main_arg0)) = a0 := by
  after_reads_simp
  exact h.h0

theorem m_a5 : StableHlo.after (hostOps0_2 (F := Ideal)) σ (no_index (Proc.devRef .tc main_arg5)) = a5 := by
  after_reads_simp
  exact h.h5

theorem m_a6 : StableHlo.after (hostOps0_2 (F := Ideal)) σ (no_index (Proc.devRef .tc main_arg6)) = a6 := by
  after_reads_simp
  exact h.h6

theorem m_a7 : StableHlo.after (hostOps0_2 (F := Ideal)) σ (no_index (Proc.devRef .tc main_arg7)) = a7 := by
  after_reads_simp
  exact h.h7

end Middle

variable (m : (ℓ : Loc nD τ sig) → Buf (Elt Ideal) ℓ) (c : Dev nD)

/-- The buffers before the middle lines. -/
abbrev first : Valuation τ sig (Elt Ideal) :=
  StableHlo.after (hostOps0_1 (F := Ideal)) (StableHlo.after (hostOps0 (F := Ideal)) fun b => m (c, b))

/-- The buffers before the last lines. -/
abbrev last (σ : Valuation τ sig (Elt Ideal)) : Valuation τ sig (Elt Ideal) :=
  StableHlo.after (hostOps0_5 (F := Ideal)) (StableHlo.after (hostOps0_4 (F := Ideal)) (StableHlo.after (hostOps0_3 (F := Ideal))
    (StableHlo.after (hostOps0_2 (F := Ideal)) σ)))

theorem V_cut (b : Ref sig .tc) : V m c b = StableHlo.after (hostOps0_6 (F := Ideal)) (last (first m c)) (Proc.devRef .tc b) := by
  unfold V last first
  rw [List.flatten_cons, List.flatten_cons, List.flatten_cons, List.flatten_cons, List.flatten_cons, List.flatten_cons, List.flatten_cons, List.flatten_nil,
    after_app, after_app, after_app, after_app, after_app, after_app, List.append_nil]

theorem pre : Pre (first m c) (m ((c : Thread nD τ).loc main_arg0)) (m ((c : Thread nD τ).loc main_arg1)) (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7)) where
  h0 := by after_reads_simp
  h1 := by after_reads_simp
  h2 := by after_reads_simp
  h3 := by after_reads_simp
  h4 := by after_reads_simp
  h5 := by after_reads_simp
  h6 := by after_reads_simp
  h7 := by after_reads_simp
  h34 := by
    after_reads_simp
    sl_kernel_rfl
  h69 := by
    after_reads_simp
    sl_kernel_rfl

theorem V_v126 : V m c main_v126 = shapeCast S1024x4096 (extractStridedSlice S4096x1024 ![0, 1024] (m ((c : Thread nD τ).loc main_arg0)) slices_S4096x12288_S4096x1024_0_1024 : FVec Ideal S4096x1024 .bf16) shapeCasts_S4096x1024_S1024x4096 := by
  rw [V_cut]
  after_reads_simp [m_a0 (pre m c)]
  rfl

theorem V_v128 : V m c main_v128 = shapeCast S1024x4096 (extractStridedSlice S4096x1024 ![0, 4096] (m ((c : Thread nD τ).loc main_arg0)) slices_S4096x12288_S4096x1024_0_4096 : FVec Ideal S4096x1024 .bf16) shapeCasts_S4096x1024_S1024x4096 := by
  rw [V_cut]
  after_reads_simp [m_a0 (pre m c)]
  rfl

theorem V_v130 : V m c main_v130 = shapeCast S1024x4096 (extractStridedSlice S4096x1024 ![0, 7168] (m ((c : Thread nD τ).loc main_arg0)) slices_S4096x12288_S4096x1024_0_7168 : FVec Ideal S4096x1024 .bf16) shapeCasts_S4096x1024_S1024x4096 := by
  rw [V_cut]
  after_reads_simp [m_a0 (pre m c)]
  rfl

theorem V_v131 : V m c main_v131 = shapeCast S1024x4096 (truncf .bf16 (m ((c : Thread nD τ).loc main_arg5)) bitsLt_bf16_f32 : FVec Ideal S4096x1024 .bf16) shapeCasts_S4096x1024_S1024x4096 := by
  rw [V_cut]
  after_reads_simp [m_a5 (pre m c)]
  rfl

theorem V_v132 : V m c main_v132 = shapeCast S1024x512 (pad S4096x128 ![0, 0] ![0, 120] ![0, 0] (lseH (Cert.ReferenceIdeal.Read.val_main_v100 (F := Ideal) (m ((c : Thread nD τ).loc main_arg0)) (m ((c : Thread nD τ).loc main_arg2)) (m ((c : Thread nD τ).loc main_arg4)) (m ((c : Thread nD τ).loc main_arg6)) (m ((c : Thread nD τ).loc main_arg7)))) (sitofp .f32 (constantI S_ 32 0#32)) pads_S4096x8_S4096x128_000_01200 h_S_ : FVec Ideal S4096x128 .f32) shapeCasts_S4096x128_S1024x512 := by
  rw [V_cut]
  after_reads_simp [m118 (pre m c), mc21 (pre m c)]
  rfl

theorem V_v133 : V m c main_v133 = shapeCast S1024x512 (pad S4096x128 ![0, 0] ![0, 120] ![0, 0] (dltH (Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) (m ((c : Thread nD τ).loc main_arg5))) (sitofp .f32 (constantI S_ 32 0#32)) pads_S4096x8_S4096x128_000_01200 h_S_ : FVec Ideal S4096x128 .f32) shapeCasts_S4096x128_S1024x512 := by
  rw [V_cut]
  after_reads_simp [m121 (pre m c), mc21 (pre m c)]
  rfl

theorem V_v134 : V m c main_v134 = shapeCast S1x128 (m ((c : Thread nD τ).loc main_arg6)) shapeCasts_S128_S1x128 := by
  rw [V_cut]
  after_reads_simp [m_a6 (pre m c)]
  rfl

theorem V_v135 : V m c main_v135 = shapeCast S1x128 (m ((c : Thread nD τ).loc main_arg7)) shapeCasts_S128_S1x128 := by
  rw [V_cut]
  after_reads_simp [m_a7 (pre m c)]
  rfl

end Attn
-- ==== Proof.Head.lean ====
module

public import proofs.«01_k».proof.Proof.Gen.KernelIdeal.Skeleton
public import Idealize.ShloMosaic.Lib.Pointwise
public import Idealize.ShloMosaic.Lib.ValueLayout
public import proofs.«01_k».proof.Proof.Coe

/-! What the kernel computes for one head of one block, operation by operation, and its value on real blocks. -/

@[expose] public section

noncomputable section

namespace Attn

open Cert.KernelIdeal Cert.KernelIdeal.Gen Idealize.ShloMosaic

abbrev MB := FVec Ideal S128x128 .bf16
abbrev MF := FVec Ideal S128x128 .f32
abbrev CF := FVec Ideal S128x1 .f32
abbrev GF := FVec Ideal S1x128 .f32

/-- A block is real, with these entries. -/
abbrev IsM (x : S128x128.Idx → EReal) (f : Fin 128 → Fin 128 → ℝ) : Prop := ∀ a b, x (ix2 a b) = ((f a b : ℝ) : EReal)
abbrev IsC (x : S128x1.Idx → EReal) (f : Fin 128 → ℝ) : Prop := ∀ a, x (ix2 a (0 : Fin 1)) = ((f a : ℝ) : EReal)
abbrev IsG (x : S1x128.Idx → EReal) (f : Fin 128 → ℝ) : Prop := ∀ b, x (ix2 (0 : Fin 1) b) = ((f b : ℝ) : EReal)
abbrev IsB (x : S128x128.Idx → BitVec 1) (p : Fin 128 → Fin 128 → Prop) : Prop := ∀ a b, x (ix2 a b) = 1 ↔ p a b

/-! ## Reading single operations -/

theorem rowSum (x : MF) (a : Fin 128) :
    shapeCast S128x1 (multiReduction .add [1] S128 x 0x00000000#32 reduces_S128x128_S128 (.inl rfl) rfl) shapeCasts_S128_S128x1
      (ix2 a (0 : Fin 1)) = ∑ e : Fin 128, x (ix2 a e) := by
  pointwise

theorem colSum (x : MF) (e : Fin 128) :
    shapeCast S1x128 (multiReduction .add [0] S128 x 0x00000000#32 reduces_S128x128_S128_2 (.inl rfl) rfl) shapeCasts_S128_S1x128
      (ix2 (0 : Fin 1) e) = ∑ a : Fin 128, x (ix2 a e) := by
  pointwise

theorem bcC {φ : FTy} (x : FVec Ideal S128x1 φ) (a e : Fin 128) :
    broadcastTo S128x128 x broadcasts_S128x1_S128x128 (ix2 a e) = x (ix2 a (0 : Fin 1)) := by
  pointwise

theorem bcG (x : GF) (a e : Fin 128) :
    broadcastTo S128x128 x broadcasts_S1x128_S128x128 (ix2 a e) = x (ix2 (0 : Fin 1) e) := by
  pointwise

theorem mmT (x y : MB) (a b : Fin 128) :
    matmul dot_S128x128_S128x128_S128x128_1_1_0_0_n_n none x y (constant S128x128 .f32 0x00000000#32) (ix2 a b)
      = ∑ e : Fin 128, (x (ix2 a e) * y (ix2 b e) : EReal) := by
  pointwise

theorem mmN (x y : MB) (a b : Fin 128) :
    matmul dot_S128x128_S128x128_S128x128_1_0_0_1_n_n none x y (constant S128x128 .f32 0x00000000#32) (ix2 a b)
      = ∑ e : Fin 128, (x (ix2 a e) * y (ix2 e b) : EReal) := by
  pointwise

theorem mmK (x y : MB) (a b : Fin 128) :
    matmul dot_S128x128_S128x128_S128x128_0_0_1_1_n_n none x y (constant S128x128 .f32 0x00000000#32) (ix2 a b)
      = ∑ e : Fin 128, (x (ix2 e a) * y (ix2 e b) : EReal) := by
  pointwise

/-! ## The steps -/

def gX (x : MB) : MF := extf .f32 (shapeCast S128x128 x shapeCasts_S128x128_S128x128) bitsLt_bf16_f32
def gRs (x : MB) : CF :=
  rsqrt (addf (divf (shapeCast S128x1 (multiReduction .add [1] S128 (mulf (gX x) (gX x)) 0x00000000#32 reduces_S128x128_S128 (.inl rfl) rfl)
    shapeCasts_S128_S128x1) (broadcast S128x1 (Scalar.ofBits .f32 0x43000000#32))) (broadcast S128x1 (Scalar.ofBits .f32 0x358637BD#32)))
def gHat (x : MB) : MF := mulf (gX x) (broadcastTo S128x128 (gRs x) broadcasts_S128x1_S128x128)
def gG (g : GF) : GF := shapeCast S1x128 g shapeCasts_S1x128_S1x128
def gN (g : GF) (x : MB) : MB :=
  truncf .bf16 (mulf (gHat x) (broadcastTo S128x128 (gG g) broadcasts_S1x128_S128x128)) bitsLt_bf16_f32
def gB (x : MB) : MB := shapeCast S128x128 x shapeCasts_S128x128_S128x128
def gLane (w : BitVec 32) (x : MF) : CF :=
  shapeCast S128x1 (multiReduction .add [1] S128
    (select (cmpi .eq (iota .tc S128x128 32 [1] iota_S128x128_d1_w32) (broadcast S128x128 w))
      (shapeCast S128x128 x shapeCasts_S128x128_S128x128) (broadcast S128x128 (Scalar.ofBits .f32 0x00000000#32)))
    0x00000000#32 reduces_S128x128_S128 (.inl rfl) rfl) shapeCasts_S128_S128x1
def gS (s : BitVec 32) (q k : MB) (d : MF) : MF :=
  subf (mulf (matmul dot_S128x128_S128x128_S128x128_1_1_0_0_n_n none q k (constant S128x128 .f32 0x00000000#32))
    (broadcast S128x128 (Scalar.ofBits .f32 0x3DB504F3#32))) (mulf (broadcast S128x128 (Scalar.ofBits .f32 s)) d)
def gP (m : IVec S128x128 1) (s : MF) (l : CF) : MF :=
  select m (exp (subf (select m s (broadcast S128x128 (Scalar.ofBits .f32 0xF149F2CA#32))) (broadcastTo S128x128 l broadcasts_S128x1_S128x128)))
    (broadcast S128x128 (Scalar.ofBits .f32 0x00000000#32))
def gT (x : MF) : MB := truncf .bf16 x bitsLt_bf16_f32
def gDs (p : MF) (dy v : MB) (d : CF) : MB :=
  gT (mulf p (subf (matmul dot_S128x128_S128x128_S128x128_1_1_0_0_n_n none dy v (constant S128x128 .f32 0x00000000#32))
    (broadcastTo S128x128 d broadcasts_S128x1_S128x128)))
def gDqn (d1 k1 d2 k2 : MB) : MF :=
  mulf (broadcast S128x128 (Scalar.ofBits .f32 0x3DB504F3#32)) (addf
    (matmul dot_S128x128_S128x128_S128x128_1_0_0_1_n_n none d1 k1 (constant S128x128 .f32 0x00000000#32))
    (matmul dot_S128x128_S128x128_S128x128_1_0_0_1_n_n none d2 k2 (constant S128x128 .f32 0x00000000#32)))
def gKK (d1 k1 d2 k2 : MB) : MF :=
  addf (matmul dot_S128x128_S128x128_S128x128_0_0_1_1_n_n none d1 k1 (constant S128x128 .f32 0x00000000#32))
    (matmul dot_S128x128_S128x128_S128x128_0_0_1_1_n_n none d2 k2 (constant S128x128 .f32 0x00000000#32))
def gDkn (d1 k1 d2 k2 : MB) : MF :=
  mulf (broadcast S128x128 (Scalar.ofBits .f32 0x3DB504F3#32)) (gKK d1 k1 d2 k2)
def gCol (dn : MF) (x : MB) : GF :=
  shapeCast S1x128 (multiReduction .add [0] S128 (mulf dn (gHat x)) 0x00000000#32 reduces_S128x128_S128_2 (.inl rfl) rfl)
    shapeCasts_S128_S1x128
def gU (g : GF) (dn : MF) : MF := mulf dn (broadcastTo S128x128 (gG g) broadcasts_S1x128_S128x128)
def gNb (g : GF) (x : MB) (dn : MF) : MB :=
  gT (mulf (broadcastTo S128x128 (gRs x) broadcasts_S128x1_S128x128) (subf (gU g dn) (mulf (gHat x)
    (broadcastTo S128x128 (divf (shapeCast S128x1 (multiReduction .add [1] S128 (mulf (gU g dn) (gHat x)) 0x00000000#32
      reduces_S128x128_S128 (.inl rfl) rfl) shapeCasts_S128_S128x1) (broadcast S128x1 (Scalar.ofBits .f32 0x43000000#32)))
      broadcasts_S128x1_S128x128))))

/-! ## Their values on real blocks -/

theorem isX {x : MB} {f} (h : IsM x f) : IsM (gX x) f := fun a b => by
  unfold gX; rw [shapeCast_self]; exact h a b
theorem isB {x : MB} {f} (h : IsM x f) : IsM (gB x) f := fun a b => by
  unfold gB; rw [shapeCast_self]; exact h a b
theorem isT {x : MF} {f} (h : IsM x f) : IsM (gT x) f := h
theorem isG {x : GF} {f} (h : IsG x f) : IsG (gG x) f := fun b => by
  unfold gG; rw [shapeCast_self]; exact h b

theorem isRs {x : MB} {f} (h : IsM x f) : IsC (gRs x) fun a => rs (f a) := fun a => by
  have hs : ∀ e, mulf (gX x) (gX x) (ix2 a e) = ((f a e * f a e : ℝ) : EReal) := fun e => by
    show gX x (ix2 a e) * gX x (ix2 a e) = _
    rw [isX h, mul_real]
  show Ideal.rsqrt (Ideal.div (shapeCast S128x1 _ _ (ix2 a (0 : Fin 1))) (Ideal.ofBits .f32 0x43000000#32) + Ideal.ofBits .f32 0x358637BD#32) = _
  rw [rowSum, sum_eq_real hs, c_128, c_eps, div_real (by norm_num), add_real]
  exact rsqrt_real (ms_pos (f a))

theorem isHat {x : MB} {f} (h : IsM x f) : IsM (gHat x) fun a => hat (f a) := fun a b => by
  show gX x (ix2 a b) * broadcastTo S128x128 _ _ (ix2 a b) = _
  rw [bcC, isX h, isRs h, mul_real]; rfl

theorem isN {x : MB} {g : GF} {f gg} (hg : IsG g gg) (h : IsM x f) : IsM (gN g x) fun a => nrm gg (f a) := fun a b => by
  show gHat x (ix2 a b) * broadcastTo S128x128 _ _ (ix2 a b) = _
  rw [bcG, isHat h, isG hg, mul_real]; rfl

theorem isLane {x : MF} {f : Fin 128 → ℝ} (k : Fin 128) (h : ∀ a, x (ix2 a k) = ((f a : ℝ) : EReal)) :
    IsC (gLane (BitVec.ofNat 32 k.val) x) f := fun a => by
  unfold gLane
  rw [rowSum, shapeCast_self]
  have hs : ∀ e : Fin 128, select (cmpi .eq (iota .tc S128x128 32 [1] iota_S128x128_d1_w32) (broadcast S128x128 (BitVec.ofNat 32 k.val)))
      x (broadcast S128x128 (Scalar.ofBits .f32 0x00000000#32)) (ix2 a e) = (((if e = k then f a else 0) : ℝ) : EReal) := fun e => by
    pointwise
    have he := e.isLt
    have hk := k.isLt
    by_cases hek : e = k
    · subst hek
      rw [if_pos rfl, ← h a]
      simp [Scalar.select, IntOp.cmpi]
    · have hne : ¬ BitVec.ofNat 32 e.val = BitVec.ofNat 32 k.val := fun hh => hek (Fin.ext (by
        have := congrArg BitVec.toNat hh
        simp only [BitVec.toNat_ofNat] at this
        omega))
      rw [if_neg hek]
      have hb : (BitVec.ofNat 32 e.val == BitVec.ofNat 32 k.val) = false := beq_eq_false_iff_ne.2 hne
      simp [Scalar.select, IntOp.cmpi, hb, Ideal.ofBits_zero_f32]
  rw [sum_eq_real hs]
  simp

theorem isS {q k : MB} {d : MF} {fq fk fd} {s : BitVec 32} {σ : ℝ} (hs : Ideal.ofBits .f32 s = ((σ : ℝ) : EReal)) (hq : IsM q fq)
    (hk : IsM k fk) (hd : IsM d fd) : IsM (gS s q k d) fun a b => (∑ e, fq a e * fk b e) * scl - σ * fd a b := fun a b => by
  have h : ∀ e, (q (ix2 a e) * k (ix2 b e) : EReal) = ((fq a e * fk b e : ℝ) : EReal) := fun e => by rw [hq, hk, mul_real]
  show matmul _ none q k _ (ix2 a b) * Ideal.ofBits .f32 0x3DB504F3#32 - Ideal.ofBits .f32 s * d (ix2 a b) = _
  rw [mmT, sum_eq_real h, c_scl, hs, hd, mul_real, mul_real, sub_real]

theorem isP {m : IVec S128x128 1} {s : MF} {l : CF} {p : Fin 128 → Fin 128 → Prop} [∀ a b, Decidable (p a b)] {fs fl} (hm : IsB m p) (hs : IsM s fs) (hl : IsC l fl) :
    IsM (gP m s l) fun a b => if p a b then Real.exp (fs a b - fl a) else 0 := fun a b => by
  show Scalar.select (m (ix2 a b)) (Ideal.exp (Scalar.select (m (ix2 a b)) (s (ix2 a b)) (Ideal.ofBits .f32 0xF149F2CA#32)
    - broadcastTo S128x128 l _ (ix2 a b))) (Ideal.ofBits .f32 0x00000000#32) = _
  rw [bcC, hs, hl]
  unfold Scalar.select
  show _ = (((if p a b then Real.exp (fs a b - fl a) else 0 : ℝ)) : EReal)
  by_cases h : m (ix2 a b) = 1
  · rw [if_pos h, if_pos h, if_pos ((hm a b).1 h), sub_real, Ideal.exp_coe]
  · rw [if_neg h, if_neg (fun h' => h ((hm a b).2 h')), Ideal.ofBits_zero_f32]; rfl

theorem isDs {p : MF} {dy v : MB} {d : CF} {fp fy fv fd} (hp : IsM p fp) (hy : IsM dy fy) (hv : IsM v fv) (hd : IsC d fd) :
    IsM (gDs p dy v d) fun a b => fp a b * ((∑ e, fy a e * fv b e) - fd a) := fun a b => by
  have h : ∀ e, (dy (ix2 a e) * v (ix2 b e) : EReal) = ((fy a e * fv b e : ℝ) : EReal) := fun e => by rw [hy, hv, mul_real]
  show p (ix2 a b) * (matmul _ none dy v _ (ix2 a b) - broadcastTo S128x128 d _ (ix2 a b)) = _
  rw [mmT, sum_eq_real h, bcC, hp, hd, sub_real, mul_real]

theorem isDqn {d1 k1 d2 k2 : MB} {f1 g1 f2 g2} (h1 : IsM d1 f1) (i1 : IsM k1 g1) (h2 : IsM d2 f2) (i2 : IsM k2 g2) :
    IsM (gDqn d1 k1 d2 k2) fun a e => scl * ((∑ c, f1 a c * g1 c e) + ∑ c, f2 a c * g2 c e) := fun a b => by
  have j1 : ∀ c, (d1 (ix2 a c) * k1 (ix2 c b) : EReal) = ((f1 a c * g1 c b : ℝ) : EReal) := fun e => by rw [h1, i1, mul_real]
  have j2 : ∀ c, (d2 (ix2 a c) * k2 (ix2 c b) : EReal) = ((f2 a c * g2 c b : ℝ) : EReal) := fun e => by rw [h2, i2, mul_real]
  show Ideal.ofBits .f32 0x3DB504F3#32 * (matmul _ none d1 k1 _ (ix2 a b) + matmul _ none d2 k2 _ (ix2 a b)) = _
  rw [mmN, mmN, sum_eq_real j1, sum_eq_real j2, c_scl, add_real, mul_real]

theorem isKK {d1 k1 d2 k2 : MB} {f1 g1 f2 g2} (h1 : IsM d1 f1) (i1 : IsM k1 g1) (h2 : IsM d2 f2) (i2 : IsM k2 g2) :
    IsM (gKK d1 k1 d2 k2) fun c e => (∑ a, f1 a c * g1 a e) + ∑ a, f2 a c * g2 a e := fun a b => by
  have j1 : ∀ c, (d1 (ix2 c a) * k1 (ix2 c b) : EReal) = ((f1 c a * g1 c b : ℝ) : EReal) := fun e => by rw [h1, i1, mul_real]
  have j2 : ∀ c, (d2 (ix2 c a) * k2 (ix2 c b) : EReal) = ((f2 c a * g2 c b : ℝ) : EReal) := fun e => by rw [h2, i2, mul_real]
  show (matmul _ none d1 k1 _ (ix2 a b) + matmul _ none d2 k2 _ (ix2 a b) : EReal) = _
  rw [mmK, mmK, sum_eq_real j1, sum_eq_real j2, add_real]

theorem isDkn {d1 k1 d2 k2 : MB} {f1 g1 f2 g2} (h1 : IsM d1 f1) (i1 : IsM k1 g1) (h2 : IsM d2 f2) (i2 : IsM k2 g2) :
    IsM (gDkn d1 k1 d2 k2) fun c e => scl * ((∑ a, f1 a c * g1 a e) + ∑ a, f2 a c * g2 a e) := fun a b => by
  show Ideal.ofBits .f32 0x3DB504F3#32 * gKK d1 k1 d2 k2 (ix2 a b) = _
  rw [isKK h1 i1 h2 i2, c_scl, mul_real]

theorem isCol {dn : MF} {x : MB} {fd fx} (hd : IsM dn fd) (hx : IsM x fx) : IsG (gCol dn x) fun e => ∑ a, fd a e * hat (fx a) e := fun e => by
  have hs : ∀ a, mulf dn (gHat x) (ix2 a e) = ((fd a e * hat (fx a) e : ℝ) : EReal) := fun a => by
    show dn (ix2 a e) * gHat x (ix2 a e) = _
    rw [hd, isHat hx, mul_real]
  unfold gCol
  rw [colSum, sum_eq_real hs]

theorem isU {g : GF} {dn : MF} {gg fd} (hg : IsG g gg) (hd : IsM dn fd) : IsM (gU g dn) fun a e => fd a e * gg e := fun a b => by
  show dn (ix2 a b) * broadcastTo S128x128 _ _ (ix2 a b) = _
  rw [bcG, hd, isG hg, mul_real]

theorem isNb {g : GF} {x : MB} {dn : MF} {gg fx fd} (hg : IsG g gg) (hx : IsM x fx) (hd : IsM dn fd) :
    IsM (gNb g x dn) fun a => nbw gg (fx a) (fd a) := fun a b => by
  have hs : ∀ e, mulf (gU g dn) (gHat x) (ix2 a e) = ((fd a e * gg e * hat (fx a) e : ℝ) : EReal) := fun e => by
    show gU g dn (ix2 a e) * gHat x (ix2 a e) = _
    rw [isU hg hd, isHat hx, mul_real]
  show broadcastTo S128x128 (gRs x) _ (ix2 a b) * (gU g dn (ix2 a b) - gHat x (ix2 a b) * broadcastTo S128x128 _ _ (ix2 a b)) = _
  rw [bcC, bcC, isRs hx, isU hg hd, isHat hx]
  show _ * (_ - _ * Ideal.div (shapeCast S128x1 _ _ (ix2 a (0 : Fin 1))) (Ideal.ofBits .f32 0x43000000#32)) = _
  rw [rowSum, sum_eq_real hs, c_128, div_real (by norm_num), mul_real, sub_real, mul_real]
  rfl

end Attn
-- ==== Proof.Block.lean ====
module

public import proofs.«01_k».proof.Proof.Head

/-! One head of one block of the kernel: what it computes, and that on the blocks of the problem these are the
    gradients. -/

@[expose] public section

noncomputable section

namespace Attn

open Cert.KernelIdeal Cert.KernelIdeal.Gen Idealize.ShloMosaic

/-- What the kernel loads for one head: the block's own rows (`c`), those of the block before (`p`) and of the block
    after (`N`), of the projections, the incoming gradient, the log denominators and the row sums, and the two gains. -/
structure Ld where
  (qc qN kp kc vp vc yc yN : MB)
  (lc lN dc dN : MF)
  (g gk : GF)

variable (i : grid0.Coords) (w s : BitVec 32) (L : Ld)

def hD1 : MB := gDs (gP (k0_pay5 i) (gS s (gN L.g L.qc) (gN L.gk L.kp) k0_pay7) (gLane w L.lc)) (gB L.yc) (gB L.vp) (gLane w L.dc)
def hP2 : MF := gP k0_pay4 (gS s (gN L.g L.qc) (gN L.gk L.kc) k0_pay8) (gLane w L.lc)
def hD2 : MB := gDs (hP2 w s L) (gB L.yc) (gB L.vc) (gLane w L.dc)
def hP3 : MF := gP (k0_pay6 i) (gS s (gN L.g L.qN) (gN L.gk L.kc) k0_pay7) (gLane w L.lN)
def hD3 : MB := gDs (hP3 i w s L) (gB L.yN) (gB L.vc) (gLane w L.dN)
def hDqn : MF := gDqn (hD1 i w s L) (gN L.gk L.kp) (hD2 w s L) (gN L.gk L.kc)
def hDkn : MF := gDkn (hD2 w s L) (gN L.g L.qc) (hD3 i w s L) (gN L.g L.qN)
def hDq : MB := gNb L.g L.qc (hDqn i w s L)
def hDk : MB := gNb L.gk L.kc (hDkn i w s L)
def hDv : MB := gT (gKK (gT (hP2 w s L)) (gB L.yc) (gT (hP3 i w s L)) (gB L.yN))
def hGq : GF := gCol (hDqn i w s L) L.qc
def hGk : GF := gCol (hDkn i w s L) L.kc

/-! ## Masks and distances -/

theorem ofNat_toInt (a : Fin 128) : (BitVec.ofNat 32 a.val).toInt = (a.val : ℤ) := by
  have := a.isLt
  rw [BitVec.toInt_ofNat']
  norm_num [Int.bmod_def]
  omega

theorem isPay3 : IsB k0_pay3 fun a c => a ≤ c := fun a c => by
  unfold k0_pay3
  pointwise
  show BitVec.ofBool (decide _) = 1#1 ↔ _
  rw [ofNat_toInt, ofNat_toInt, Fin.le_def]
  by_cases h : a.val ≤ c.val <;> simp [h]

theorem isPay4 : IsB k0_pay4 fun a c => c ≤ a := fun a c => by
  unfold k0_pay4
  pointwise
  show BitVec.ofBool (decide _) = 1#1 ↔ _
  rw [ofNat_toInt, ofNat_toInt, Fin.le_def]
  by_cases h : c.val ≤ a.val <;> simp [h]

theorem and_eq_one (a b : BitVec 1) : IntOp.andi a b = 1#1 ↔ a = 1#1 ∧ b = 1#1 := by
  revert a b; decide

theorem isPay5 {n : Fin 8} (hn : (i 1).val = n.val) : IsB (k0_pay5 i) fun a c => a ≤ c ∧ 0 < n.val := fun a c => by
  show IntOp.andi (k0_pay3 (ix2 a c)) (IntOp.cmpi .sgt (BitVec.ofNat 32 (i 1).val) 0#32) = 1#1 ↔ _
  rw [and_eq_one, hn]
  refine and_congr (isPay3 a c) ?_
  revert n; decide +revert

theorem isPay6 {n : Fin 8} (hn : (i 1).val = n.val) : IsB (k0_pay6 i) fun a c => a ≤ c ∧ n.val < 7 := fun a c => by
  show IntOp.andi (k0_pay3 (ix2 a c)) (IntOp.cmpi .slt (BitVec.ofNat 32 (i 1).val) 7#32) = 1#1 ↔ _
  rw [and_eq_one, hn]
  refine and_congr (isPay3 a c) ?_
  revert n; decide +revert

theorem isPay7 : IsM (k0_pay7 (F := Ideal)) fun a c => ((a.val : ℝ) + 128 - (c.val : ℝ)) * 4 := fun a c => by
  have ha := a.isLt
  have hc := c.isLt
  unfold k0_pay7
  pointwise
  show (((BitVec.ofNat 32 a.val + 128#32 - BitVec.ofNat 32 c.val).toInt : ℝ) : EReal) * Ideal.ofBits .f32 0x40800000#32 = _
  have h : (BitVec.ofNat 32 a.val + 128#32 - BitVec.ofNat 32 c.val).toInt = (a.val : ℤ) + 128 - (c.val : ℤ) := by
    rw [BitVec.toInt_sub, BitVec.toInt_add, ofNat_toInt, ofNat_toInt, show (128#32).toInt = 128 from by decide]
    norm_num [Int.bmod_def]
    omega
  rw [h, c_four, mul_real]
  push_cast
  rfl

theorem isPay8 : IsM (k0_pay8 (F := Ideal)) fun a c => ((a.val : ℝ) - (c.val : ℝ)) * 4 := fun a c => by
  have ha := a.isLt
  have hc := c.isLt
  unfold k0_pay8
  pointwise
  show (((BitVec.ofNat 32 a.val - BitVec.ofNat 32 c.val).toInt : ℝ) : EReal) * Ideal.ofBits .f32 0x40800000#32 = _
  have h : (BitVec.ofNat 32 a.val - BitVec.ofNat 32 c.val).toInt = (a.val : ℤ) - (c.val : ℤ) := by
    rw [BitVec.toInt_sub, ofNat_toInt, ofNat_toInt]
    norm_num [Int.bmod_def]
    omega
  rw [h, c_four, mul_real]
  push_cast
  rfl

/-! ## On the blocks of the problem -/

/-- What is loaded is the problem's: block `n` of the tokens of remainder `r`, the block before it (`p`, any when there is
    none) and the one after it (`x`, any when there is none), head `h`. -/
structure At (X : Inp) (n p x : Fin 8) (r : Fin 4) (h : H) (k : Fin 128) (L : Ld) : Prop where
  qc : IsM L.qc fun a => X.Q (tok n a r) h
  qN : IsM L.qN fun a => X.Q (tok x a r) h
  kp : IsM L.kp fun a => X.K (tok p a r) h
  kc : IsM L.kc fun a => X.K (tok n a r) h
  vp : IsM L.vp fun a => X.W (tok p a r) h
  vc : IsM L.vc fun a => X.W (tok n a r) h
  yc : IsM L.yc fun a => X.DY (tok n a r) h
  yN : IsM L.yN fun a => X.DY (tok x a r) h
  lc : ∀ a, L.lc (ix2 a k) = ((X.lse (tok n a r) h : ℝ) : EReal)
  lN : ∀ a, L.lN (ix2 a k) = ((X.lse (tok x a r) h : ℝ) : EReal)
  dc : ∀ a, L.dc (ix2 a k) = ((X.dlt (tok n a r) h : ℝ) : EReal)
  dN : ∀ a, L.dN (ix2 a k) = ((X.dlt (tok x a r) h : ℝ) : EReal)
  g : IsG L.g X.gq
  gk : IsG L.gk X.gk

theorem tok_sub_same (n : Fin 8) (a c : Fin 128) (r : Fin 4) :
    ((tok n a r).val : ℝ) - ((tok n c r).val : ℝ) = ((a.val : ℝ) - (c.val : ℝ)) * 4 := by
  unfold tok; push_cast; ring

theorem tok_sub_prev (n p : Fin 8) (hp : p.val + 1 = n.val) (a c : Fin 128) (r : Fin 4) :
    ((tok n a r).val : ℝ) - ((tok p c r).val : ℝ) = ((a.val : ℝ) + 128 - (c.val : ℝ)) * 4 := by
  have h : (n.val : ℝ) = (p.val : ℝ) + 1 := by rw [← hp]; push_cast; rfl
  unfold tok; push_cast; rw [h]; ring

section
variable {i s L}
variable {X : Inp} {n p x : Fin 8} {r : Fin 4} {h : H} {k : Fin 128}
variable (hn : (i 1).val = n.val) (hp : 0 < n.val → p.val + 1 = n.val) (hx : n.val < 7 → x.val = n.val + 1)
variable (hs : Ideal.ofBits .f32 s = ((slope h : ℝ) : EReal)) (A : At X n p x r h k L)
include hs A

theorem at_P2 : IsM (hP2 (BitVec.ofNat 32 k.val) s L) fun a c => if c ≤ a then X.P (tok n a r) h (tok n c r) else 0 := fun a c => by
  unfold hP2
  rw [isP isPay4 (isS hs (isN A.g A.qc) (isN A.gk A.kc) isPay8) (isLane k A.lc)]
  beta_reduce
  by_cases hc : c ≤ a
  · rw [if_pos hc, if_pos hc]
    unfold Inp.P Inp.ex
    rw [if_pos ((ok_tok ..).2 ⟨rfl, .inl ⟨rfl, hc⟩⟩)]
    unfold Inp.sc
    rw [tok_sub_same]
    rfl
  · rw [if_neg hc, if_neg hc]

include hn hp in
theorem at_P1 : IsM (gP (k0_pay5 i) (gS s (gN L.g L.qc) (gN L.gk L.kp) k0_pay7) (gLane (BitVec.ofNat 32 k.val) L.lc))
    fun a c => if a ≤ c ∧ 0 < n.val then X.P (tok n a r) h (tok p c r) else 0 := fun a c => by
  rw [isP (isPay5 i hn) (isS hs (isN A.g A.qc) (isN A.gk A.kp) isPay7) (isLane k A.lc)]
  beta_reduce
  by_cases hc : a ≤ c ∧ 0 < n.val
  · rw [if_pos hc, if_pos hc]
    unfold Inp.P Inp.ex
    rw [if_pos ((ok_tok ..).2 ⟨rfl, .inr ⟨hp hc.2, hc.1⟩⟩)]
    unfold Inp.sc
    rw [tok_sub_prev n p (hp hc.2)]
    rfl
  · rw [if_neg hc, if_neg hc]

include hn hx in
theorem at_P3 : IsM (hP3 i (BitVec.ofNat 32 k.val) s L)
    fun a c => if a ≤ c ∧ n.val < 7 then X.P (tok x a r) h (tok n c r) else 0 := fun a c => by
  unfold hP3
  rw [isP (isPay6 i hn) (isS hs (isN A.g A.qN) (isN A.gk A.kc) isPay7) (isLane k A.lN)]
  beta_reduce
  by_cases hc : a ≤ c ∧ n.val < 7
  · rw [if_pos hc, if_pos hc]
    unfold Inp.P Inp.ex
    rw [if_pos ((ok_tok ..).2 ⟨rfl, .inr ⟨(hx hc.2).symm, hc.1⟩⟩)]
    unfold Inp.sc
    rw [tok_sub_prev x n (hx hc.2).symm]
    rfl
  · rw [if_neg hc, if_neg hc]

theorem at_D2 : IsM (hD2 (BitVec.ofNat 32 k.val) s L) fun a c => if c ≤ a then X.ds (tok n a r) h (tok n c r) else 0 := fun a c => by
  unfold hD2
  rw [isDs (at_P2 hs A) (isB A.yc) (isB A.vc) (isLane k A.dc)]
  beta_reduce
  split <;> simp [Inp.ds, Inp.dp, *]

include hn hp in
theorem at_D1 : IsM (hD1 i (BitVec.ofNat 32 k.val) s L)
    fun a c => if a ≤ c ∧ 0 < n.val then X.ds (tok n a r) h (tok p c r) else 0 := fun a c => by
  unfold hD1
  rw [isDs (at_P1 hn hp hs A) (isB A.yc) (isB A.vp) (isLane k A.dc)]
  beta_reduce
  by_cases hc : a ≤ c ∧ 0 < n.val
  · rw [if_pos hc, if_pos hc]; rfl
  · rw [if_neg hc, if_neg hc, zero_mul]

include hn hx in
theorem at_D3 : IsM (hD3 i (BitVec.ofNat 32 k.val) s L)
    fun a c => if a ≤ c ∧ n.val < 7 then X.ds (tok x a r) h (tok n c r) else 0 := fun a c => by
  unfold hD3
  rw [isDs (at_P3 hn hx hs A) (isB A.yN) (isB A.vc) (isLane k A.dN)]
  beta_reduce
  by_cases hc : a ≤ c ∧ n.val < 7
  · rw [if_pos hc, if_pos hc]; rfl
  · rw [if_neg hc, if_neg hc, zero_mul]

include hn hp in
theorem at_dqn : IsM (hDqn i (BitVec.ofNat 32 k.val) s L) fun a => X.dqn (tok n a r) h := fun a e => by
  unfold hDqn
  rw [isDqn (at_D1 hn hp hs A) (isN A.gk A.kp) (at_D2 hs A) (isN A.gk A.kc)]
  unfold Inp.dqn
  beta_reduce
  rw [sum_band_q n a r _ (fun u hu => by rw [X.ds_of_not_ok h hu, zero_mul]) p hp]
  simp only [ite_mul, zero_mul]
  rfl

include hn hx in
theorem at_dkn : IsM (hDkn i (BitVec.ofNat 32 k.val) s L) fun a => X.dkn (tok n a r) h := fun a e => by
  unfold hDkn
  rw [isDkn (at_D2 hs A) (isN A.g A.qc) (at_D3 hn hx hs A) (isN A.g A.qN)]
  unfold Inp.dkn
  beta_reduce
  rw [sum_band_k n a r _ (fun u hu => by rw [X.ds_of_not_ok h hu, zero_mul]) x hx]
  simp only [ite_mul, zero_mul]
  rfl

include hn hx in
theorem at_dv : IsM (hDv i (BitVec.ofNat 32 k.val) s L) fun a => X.dv (tok n a r) h := fun a e => by
  unfold hDv
  rw [isT (isKK (isT (at_P2 hs A)) (isB A.yc) (isT (at_P3 hn hx hs A)) (isB A.yN))]
  unfold Inp.dv
  beta_reduce
  rw [sum_band_k n a r _ (fun u hu => by rw [X.P_of_not_ok h hu, zero_mul]) x hx]
  simp only [ite_mul, zero_mul]

include hn hp in
theorem at_dq : IsM (hDq i (BitVec.ofNat 32 k.val) s L) fun a => X.dq (tok n a r) h := fun a e => by
  unfold hDq
  rw [isNb A.g A.qc (at_dqn hn hp hs A)]; rfl

include hn hx in
theorem at_dk : IsM (hDk i (BitVec.ofNat 32 k.val) s L) fun a => X.dk (tok n a r) h := fun a e => by
  unfold hDk
  rw [isNb A.gk A.kc (at_dkn hn hx hs A)]; rfl

include hn hp in
theorem at_gq : IsG (hGq i (BitVec.ofNat 32 k.val) s L) fun e => ∑ a, hat (X.Q (tok n a r) h) e * X.dqn (tok n a r) h e := fun e => by
  unfold hGq
  rw [isCol (at_dqn hn hp hs A) A.qc]
  simp only [mul_comm]

include hn hx in
theorem at_gk : IsG (hGk i (BitVec.ofNat 32 k.val) s L) fun e => ∑ a, hat (X.K (tok n a r) h) e * X.dkn (tok n a r) h e := fun e => by
  unfold hGk
  rw [isCol (at_dkn hn hx hs A) A.kc]
  simp only [mul_comm]

end

end Attn
-- ==== Proof.Pieces.lean ====
module

public import proofs.«01_k».proof.Proof.Block
public import proofs.«01_k».proof.Proof.Gen.KernelIdeal.Value

/-! The stores of one grid point: for each head, the values `Block` names. -/

@[expose] public section

noncomputable section

namespace Attn

open Cert.KernelIdeal Cert.KernelIdeal.Gen Idealize.ShloMosaic Idealize.ShloMosaic.TcCoe Idealize.SL.Sem

/-- The columns of one head, read from a window. -/
abbrev rdM (a : Memref sig .tc .vmem S128x1024 .bf16) (ha : a.IsWhole) (x : Vec Ideal S128x1024 .bf16) (o : Nat)
    (hb : ∀ a : Fin 2, (![0, o] : Fin 2 → Nat) a + S128x128.size a ≤ S128x1024.size a) : MB :=
  View.readAt (Elt Ideal) a.view (Rect.unit (s := S128x1024) ![0, o] S128x128.size hb).toLoadRect (ha.unread x)
abbrev rdF (a : Memref sig .tc .vmem S128x128 .f32) (ha : a.IsWhole) (x : Vec Ideal S128x128 .f32) : MF :=
  View.readAt (Elt Ideal) a.view (Rect.unit (s := S128x128) ![0, 0] S128x128.size inb_S128x128_S128x128_0_0).toLoadRect (ha.unread x)
abbrev rdG (a : Memref sig .tc .vmem S1x128 .f32) (ha : a.IsWhole) (x : Vec Ideal S1x128 .f32) : GF :=
  View.readAt (Elt Ideal) a.view (Rect.unit (s := S1x128) ![0, 0] S1x128.size inb_S1x128_S1x128_0_0).toLoadRect (ha.unread x)

variable (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x1024 .bf16) (harg16 : arg16.IsWhole) (arg17 : Memref sig .tc .vmem S128x1024 .bf16) (harg17 : arg17.IsWhole) (arg18 : Memref sig .tc .vmem S128x1024 .bf16) (harg18 : arg18.IsWhole) (arg19 : Memref sig .tc .vmem S1x128 .f32) (harg19 : arg19.IsWhole) (arg20 : Memref sig .tc .vmem S1x128 .f32) (harg20 : arg20.IsWhole)
  (x0 : Vec Ideal S128x1024 .bf16) (x1 : Vec Ideal S128x1024 .bf16) (x2 : Vec Ideal S128x1024 .bf16) (x3 : Vec Ideal S128x1024 .bf16) (x4 : Vec Ideal S128x1024 .bf16) (x5 : Vec Ideal S128x1024 .bf16) (x6 : Vec Ideal S128x1024 .bf16) (x7 : Vec Ideal S128x1024 .bf16) (x8 : Vec Ideal S128x128 .f32) (x9 : Vec Ideal S128x128 .f32) (x10 : Vec Ideal S128x128 .f32) (x11 : Vec Ideal S128x128 .f32) (x12 : Vec Ideal S1x128 .f32) (x13 : Vec Ideal S1x128 .f32)

/-- What one head loads. -/
abbrev ldA (o : Nat) (hb : ∀ a : Fin 2, (![0, o] : Fin 2 → Nat) a + S128x128.size a ≤ S128x1024.size a) : Ld :=
  ⟨rdM arg2 harg2 x0 o hb, rdM arg3 harg3 x1 o hb, rdM arg4 harg4 x2 o hb, rdM arg5 harg5 x3 o hb, rdM arg6 harg6 x4 o hb,
    rdM arg7 harg7 x5 o hb, rdM arg8 harg8 x6 o hb, rdM arg9 harg9 x7 o hb, rdF arg10 harg10 x8, rdF arg11 harg11 x9,
    rdF arg12 harg12 x10, rdF arg13 harg13 x11, rdG arg14 harg14 x12, rdG arg15 harg15 x13⟩

theorem listA14 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).1
    = [⟨Rect.unit ![0, 896] ![128, 128] inb_S128x1024_S128x128_0_896, hDq i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDq i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDq i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDq i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDq i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDq i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDq i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDq i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listA15 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.1
    = [⟨Rect.unit ![0, 896] ![128, 128] inb_S128x1024_S128x128_0_896, hDk i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDk i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDk i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDk i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDk i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDk i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDk i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDk i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listA16 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.1
    = [⟨Rect.unit ![0, 896] ![128, 128] inb_S128x1024_S128x128_0_896, hDv i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDv i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDv i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDv i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDv i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDv i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDv i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDv i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listB14 (hc0 : ¬cond0_0 i) (hc1 : cond0_1 i) (xo17 xo18 : Vec Ideal S1x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18).1
    = [⟨Rect.unit ![0, 896] ![128, 128] inb_S128x1024_S128x128_0_896, hDq i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDq i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDq i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDq i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDq i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDq i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDq i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDq i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listB15 (hc0 : ¬cond0_0 i) (hc1 : cond0_1 i) (xo17 xo18 : Vec Ideal S1x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18).2.1
    = [⟨Rect.unit ![0, 896] ![128, 128] inb_S128x1024_S128x128_0_896, hDk i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDk i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDk i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDk i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDk i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDk i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDk i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDk i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listB16 (hc0 : ¬cond0_0 i) (hc1 : cond0_1 i) (xo17 xo18 : Vec Ideal S1x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18).2.2.1
    = [⟨Rect.unit ![0, 896] ![128, 128] inb_S128x1024_S128x128_0_896, hDv i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)⟩,
      ⟨Rect.unit ![0, 768] ![128, 128] inb_S128x1024_S128x128_0_768, hDv i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768)⟩,
      ⟨Rect.unit ![0, 640] ![128, 128] inb_S128x1024_S128x128_0_640, hDv i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640)⟩,
      ⟨Rect.unit ![0, 512] ![128, 128] inb_S128x1024_S128x128_0_512, hDv i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512)⟩,
      ⟨Rect.unit ![0, 384] ![128, 128] inb_S128x1024_S128x128_0_384, hDv i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384)⟩,
      ⟨Rect.unit ![0, 256] ![128, 128] inb_S128x1024_S128x128_0_256, hDv i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256)⟩,
      ⟨Rect.unit ![0, 128] ![128, 128] inb_S128x1024_S128x128_0_128, hDv i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128)⟩,
      ⟨Rect.unit ![0, 0] ![128, 128] inb_S128x1024_S128x128_0_0, hDv i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0)⟩] := by sl_kernel_rfl

theorem listA17 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.1
    = [⟨Rect.unit ![0, 0] S1x128.size inb_S1x128_S1x128_0_0, (addf (addf (addf (addf (addf (addf (addf (addf (broadcast S1x128 (Scalar.ofBits .f32 0x00000000#32)) (hGq i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0))) (hGq i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128))) (hGq i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256))) (hGq i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384))) (hGq i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512))) (hGq i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640))) (hGq i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768))) (hGq i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)))⟩] := by sl_kernel_rfl

theorem listA18 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1
    = [⟨Rect.unit ![0, 0] S1x128.size inb_S1x128_S1x128_0_0, (addf (addf (addf (addf (addf (addf (addf (addf (broadcast S1x128 (Scalar.ofBits .f32 0x00000000#32)) (hGk i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0))) (hGk i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128))) (hGk i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256))) (hGk i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384))) (hGk i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512))) (hGk i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640))) (hGk i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768))) (hGk i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896)))⟩] := by sl_kernel_rfl

theorem listB17 (hc0 : ¬cond0_0 i) (hc1 : cond0_1 i) (xo17 xo18 : Vec Ideal S1x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18).2.2.2.1
    = [⟨Rect.unit ![0, 0] S1x128.size inb_S1x128_S1x128_0_0, (addf (gG (rdG arg19 harg19 xo17)) (addf (addf (addf (addf (addf (addf (addf (addf (broadcast S1x128 (Scalar.ofBits .f32 0x00000000#32)) (hGq i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0))) (hGq i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128))) (hGq i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256))) (hGq i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384))) (hGq i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512))) (hGq i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640))) (hGq i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768))) (hGq i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896))))⟩] := by sl_kernel_rfl

theorem listB18 (hc0 : ¬cond0_0 i) (hc1 : cond0_1 i) (xo17 xo18 : Vec Ideal S1x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18).2.2.2.2.1
    = [⟨Rect.unit ![0, 0] S1x128.size inb_S1x128_S1x128_0_0, (addf (gG (rdG arg20 harg20 xo18)) (addf (addf (addf (addf (addf (addf (addf (addf (broadcast S1x128 (Scalar.ofBits .f32 0x00000000#32)) (hGk i 0#32 0x3F000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 0 inb_S128x1024_S128x128_0_0))) (hGk i 1#32 0x3E800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 128 inb_S128x1024_S128x128_0_128))) (hGk i 2#32 0x3E000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 256 inb_S128x1024_S128x128_0_256))) (hGk i 3#32 0x3D800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 384 inb_S128x1024_S128x128_0_384))) (hGk i 4#32 0x3D000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 512 inb_S128x1024_S128x128_0_512))) (hGk i 5#32 0x3C800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 640 inb_S128x1024_S128x128_0_640))) (hGk i 6#32 0x3C000000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 768 inb_S128x1024_S128x128_0_768))) (hGk i 7#32 0x3B800000#32 (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 896 inb_S128x1024_S128x128_0_896))))⟩] := by sl_kernel_rfl

end Attn
-- ==== Proof.Outs.lean ====
module

public import proofs.«01_k».proof.Proof.Pieces
public import Idealize.ShloMosaic.Lib.Pipeline.ValueKit.Tiles

/-! What one grid point leaves in each result's block: the gradients of its rows, and the sums of the gains' gradients. -/

@[expose] public section

noncomputable section

namespace Attn

open Cert.KernelIdeal Cert.KernelIdeal.Gen Idealize.ShloMosaic Idealize.ShloMosaic.TcCoe Idealize.SL.Sem

/-- The column of lane `e` of head `h`. -/
def col (h : H) (e : Fin 128) : Fin 1024 := ⟨h.val * 128 + e.val, by omega⟩
/-- The column of head `h` in a block of 128. -/
def hcol (h : H) : Fin 128 := ⟨h.val, by omega⟩

theorem rdM_apply (a : Memref sig .tc .vmem S128x1024 .bf16) (ha : a.IsWhole) (x : Vec Ideal S128x1024 .bf16) (h : H) (o : Nat)
    (hb : ∀ a : Fin 2, (![0, o] : Fin 2 → Nat) a + S128x128.size a ≤ S128x1024.size a) (ho : o = h.val * 128) (p e : Fin 128) :
    rdM a ha x o hb (ix2 p e) = x (ix2 p (col h e)) := by
  subst ho
  show View.ld (a.view.read (Elt Ideal) (ha.unread x)) (Rect.unit (s := S128x1024) ![0, h.val * 128] S128x128.size hb) (ix2 p e) = _
  rw [ha.read_unread]
  refine View.ld_unit_apply_of x _ _ hb _ _ fun q => ?_
  match q with
  | ⟨0, _⟩ => exact (Nat.zero_add _).symm
  | ⟨1, _⟩ => rfl

theorem zz : (![0, 0] : Fin 2 → Nat) = fun _ => 0 := by decide

theorem rdF_eq (a : Memref sig .tc .vmem S128x128 .f32) (ha : a.IsWhole) (x : Vec Ideal S128x128 .f32) : rdF a ha x = x := by
  show View.ld (a.view.read (Elt Ideal) (ha.unread x)) _ = _
  rw [ha.read_unread]
  exact View.ld_unit_zero (S := S128x128) zz _ x

theorem rdG_eq (a : Memref sig .tc .vmem S1x128 .f32) (ha : a.IsWhole) (x : Vec Ideal S1x128 .f32) : rdG a ha x = x := by
  show View.ld (a.view.read (Elt Ideal) (ha.unread x)) _ = _
  rw [ha.read_unread]
  exact View.ld_unit_zero (S := S1x128) zz _ x

/-- A store of one head's columns, read back at a column of head `h`. -/
theorem tile {w : MB} {g : H → Fin 128 → Fin 128 → ℝ} (k : H) (hw : IsM w (g k)) (o : Nat) (ho : o = k.val * 128)
    (a : Fin 128) (h : H) (e : Fin 128) :
    View.TileAt (Val := Elt Ideal) (e := .bf16) (S := S128x1024) (ix2 a (col h e)) ![0, o] ![128, 128] w ((g h a e : ℝ) : EReal) := by
  intro x hx
  have h0 : a.val = 0 + (x 0).val := hx 0
  have h1 : h.val * 128 + e.val = o + (x 1).val := hx 1
  have l1 : (x 1).val < 128 := (x 1).isLt
  have he := e.isLt
  have hk : h = k := Fin.ext (by omega)
  subst hk
  have hx' : x = ix2 a e := by
    funext q
    match q with
    | ⟨0, _⟩ => exact Fin.ext (by show (x 0).val = a.val; omega)
    | ⟨1, _⟩ => exact Fin.ext (by show (x 1).val = e.val; omega)
  rw [hx']
  exact hw a e

/-- The blocks a grid point works on are the problem's. -/
structure Blk (X : Inp) (n p x : Fin 8) (r : Fin 4)
    (x0 : Vec Ideal S128x1024 .bf16) (x1 : Vec Ideal S128x1024 .bf16) (x2 : Vec Ideal S128x1024 .bf16) (x3 : Vec Ideal S128x1024 .bf16) (x4 : Vec Ideal S128x1024 .bf16) (x5 : Vec Ideal S128x1024 .bf16) (x6 : Vec Ideal S128x1024 .bf16) (x7 : Vec Ideal S128x1024 .bf16) (x8 : Vec Ideal S128x128 .f32) (x9 : Vec Ideal S128x128 .f32) (x10 : Vec Ideal S128x128 .f32) (x11 : Vec Ideal S128x128 .f32) (x12 : Vec Ideal S1x128 .f32) (x13 : Vec Ideal S1x128 .f32) : Prop where
  q0 : ∀ a h e, x0 (ix2 a (col h e)) = ((X.Q (tok n a r) h e : ℝ) : EReal)
  q1 : ∀ a h e, x1 (ix2 a (col h e)) = ((X.Q (tok x a r) h e : ℝ) : EReal)
  k0 : ∀ a h e, x2 (ix2 a (col h e)) = ((X.K (tok p a r) h e : ℝ) : EReal)
  k1 : ∀ a h e, x3 (ix2 a (col h e)) = ((X.K (tok n a r) h e : ℝ) : EReal)
  v0 : ∀ a h e, x4 (ix2 a (col h e)) = ((X.W (tok p a r) h e : ℝ) : EReal)
  v1 : ∀ a h e, x5 (ix2 a (col h e)) = ((X.W (tok n a r) h e : ℝ) : EReal)
  y0 : ∀ a h e, x6 (ix2 a (col h e)) = ((X.DY (tok n a r) h e : ℝ) : EReal)
  y1 : ∀ a h e, x7 (ix2 a (col h e)) = ((X.DY (tok x a r) h e : ℝ) : EReal)
  l0 : ∀ a h, x8 (ix2 a (hcol h)) = ((X.lse (tok n a r) h : ℝ) : EReal)
  l1 : ∀ a h, x9 (ix2 a (hcol h)) = ((X.lse (tok x a r) h : ℝ) : EReal)
  d0 : ∀ a h, x10 (ix2 a (hcol h)) = ((X.dlt (tok n a r) h : ℝ) : EReal)
  d1 : ∀ a h, x11 (ix2 a (hcol h)) = ((X.dlt (tok x a r) h : ℝ) : EReal)
  gq : IsG x12 X.gq
  gk : IsG x13 X.gk

/-- A grid point's part of the gradient of a gain. -/
def Inp.gqPart (X : Inp) (n : Fin 8) (r : Fin 4) (e : Fin 128) : ℝ :=
  ∑ h, ∑ a, hat (X.Q (tok n a r) h) e * X.dqn (tok n a r) h e
def Inp.gkPart (X : Inp) (n : Fin 8) (r : Fin 4) (e : Fin 128) : ℝ :=
  ∑ h, ∑ a, hat (X.K (tok n a r) h) e * X.dkn (tok n a r) h e

theorem addG {x y : GF} {f g : Fin 128 → ℝ} (hx : IsG x f) (hy : IsG y g) : IsG (addf x y) fun e => f e + g e := fun e => by
  show (x _ + y _ : EReal) = _
  rw [hx, hy, add_real]

theorem zeroG : IsG (broadcast S1x128 (Scalar.ofBits (F := Ideal) .f32 0x00000000#32)) fun _ => 0 := fun e => by
  show Ideal.ofBits .f32 0x00000000#32 = _
  rw [Ideal.ofBits_zero_f32]; rfl

section
variable {c : Dev nD} {i : grid0.Coords} {arg2 : Memref sig .tc .vmem S128x1024 .bf16} {harg2 : arg2.IsWhole} {arg3 : Memref sig .tc .vmem S128x1024 .bf16} {harg3 : arg3.IsWhole} {arg4 : Memref sig .tc .vmem S128x1024 .bf16} {harg4 : arg4.IsWhole} {arg5 : Memref sig .tc .vmem S128x1024 .bf16} {harg5 : arg5.IsWhole} {arg6 : Memref sig .tc .vmem S128x1024 .bf16} {harg6 : arg6.IsWhole} {arg7 : Memref sig .tc .vmem S128x1024 .bf16} {harg7 : arg7.IsWhole} {arg8 : Memref sig .tc .vmem S128x1024 .bf16} {harg8 : arg8.IsWhole} {arg9 : Memref sig .tc .vmem S128x1024 .bf16} {harg9 : arg9.IsWhole} {arg10 : Memref sig .tc .vmem S128x128 .f32} {harg10 : arg10.IsWhole} {arg11 : Memref sig .tc .vmem S128x128 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S1x128 .f32} {harg14 : arg14.IsWhole} {arg15 : Memref sig .tc .vmem S1x128 .f32} {harg15 : arg15.IsWhole} {arg16 : Memref sig .tc .vmem S128x1024 .bf16} {harg16 : arg16.IsWhole} {arg17 : Memref sig .tc .vmem S128x1024 .bf16} {harg17 : arg17.IsWhole} {arg18 : Memref sig .tc .vmem S128x1024 .bf16} {harg18 : arg18.IsWhole} {arg19 : Memref sig .tc .vmem S1x128 .f32} {harg19 : arg19.IsWhole} {arg20 : Memref sig .tc .vmem S1x128 .f32} {harg20 : arg20.IsWhole}
  {x0 : Vec Ideal S128x1024 .bf16} {x1 : Vec Ideal S128x1024 .bf16} {x2 : Vec Ideal S128x1024 .bf16} {x3 : Vec Ideal S128x1024 .bf16} {x4 : Vec Ideal S128x1024 .bf16} {x5 : Vec Ideal S128x1024 .bf16} {x6 : Vec Ideal S128x1024 .bf16} {x7 : Vec Ideal S128x1024 .bf16} {x8 : Vec Ideal S128x128 .f32} {x9 : Vec Ideal S128x128 .f32} {x10 : Vec Ideal S128x128 .f32} {x11 : Vec Ideal S128x128 .f32} {x12 : Vec Ideal S1x128 .f32} {x13 : Vec Ideal S1x128 .f32}
variable {X : Inp} {n p x : Fin 8} {r : Fin 4}
variable (hn : (i 1).val = n.val) (hp : 0 < n.val → p.val + 1 = n.val) (hx : n.val < 7 → x.val = n.val + 1)
variable (B : Blk X n p x r x0 x1 x2 x3 x4 x5 x6 x7 x8 x9 x10 x11 x12 x13)
include hn hp hx B

omit hn hp hx in
theorem at_ld (h : H) (o : Nat) (hb : ∀ a : Fin 2, (![0, o] : Fin 2 → Nat) a + S128x128.size a ≤ S128x1024.size a)
    (ho : o = h.val * 128) : At X n p x r h (hcol h) (ldA arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 o hb) where
  qc a e := (rdM_apply _ _ _ h o hb ho a e).trans (B.q0 a h e)
  qN a e := (rdM_apply _ _ _ h o hb ho a e).trans (B.q1 a h e)
  kp a e := (rdM_apply _ _ _ h o hb ho a e).trans (B.k0 a h e)
  kc a e := (rdM_apply _ _ _ h o hb ho a e).trans (B.k1 a h e)
  vp a e := (rdM_apply _ _ _ h o hb ho a e).trans (B.v0 a h e)
  vc a e := (rdM_apply _ _ _ h o hb ho a e).trans (B.v1 a h e)
  yc a e := (rdM_apply _ _ _ h o hb ho a e).trans (B.y0 a h e)
  yN a e := (rdM_apply _ _ _ h o hb ho a e).trans (B.y1 a h e)
  lc a := (congrFun (rdF_eq _ _ _) _).trans (B.l0 a h)
  lN a := (congrFun (rdF_eq _ _ _) _).trans (B.l1 a h)
  dc a := (congrFun (rdF_eq _ _ _) _).trans (B.d0 a h)
  dN a := (congrFun (rdF_eq _ _ _) _).trans (B.d1 a h)
  g e := (congrFun (rdG_eq _ _ _) _).trans (B.gq e)
  gk e := (congrFun (rdG_eq _ _ _) _).trans (B.gk e)

omit hx in
theorem outA14 (hc0 : cond0_0 i) (hc1 : ¬cond0_1 i) (a : Fin 128) (h : H) (e : Fin 128) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e)) = ((X.dq (tok n a r) h e : ℝ) : EReal) := by
  have hcov := cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e))
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  rw [listA14] at hcov ⊢
  refine View.canon_eq_of_allAt _ _ _ hcov ?_
  refine View.allAt_cons_unit _ _ _ _ _ (tile (g := fun h a e => X.dq (tok n a r) h e) 7 (at_dq hn hp c_s7 (at_ld B 7 896 inb_S128x1024_S128x128_0_896 rfl)) 896 rfl a h e) ?_
  refine View.allAt_cons_unit _ _ _ _ _ (tile (g := fun h a e => X.dq (tok n a r) h e) 6 (at_dq hn hp c_s6 (at_ld B 6 768 inb_S128x1024_S128x128_0_768 rfl)) 768 rfl a h e) ?_
  refine View.allAt_cons_unit _ _ _ _ _ (tile (g := fun h a e => X.dq (tok n a r) h e) 5 (at_dq hn hp c_s5 (at_ld B 5 640 inb_S128x1024_S128x128_0_640 rfl)) 640 rfl a h e) ?_
  refine View.allAt_cons_unit _ _ _ _ _ (tile (g := fun h a e => X.dq (tok n a r) h e) 4 (at_dq hn hp c_s4 (at_ld B 4 512 inb_S128x1024_S128x128_0_512 rfl)) 512 rfl a h e) ?_
  refine View.allAt_cons_unit _ _ _ _ _ (tile (g := fun h a e => X.dq (tok n a r) h e) 3 (at_dq hn hp c_s3 (at_ld B 3 384 inb_S128x1024_S128x128_0_384 rfl)) 384 rfl a h e) ?_
  refine View.allAt_cons_unit _ _ _ _ _ (tile (g := fun h a e => X.dq (tok n a r) h e) 2 (at_dq hn hp c_s2 (at_ld B 2 256 inb_S128x1024_S128x128_0_256 rfl)) 256 rfl a h e) ?_
  refine View.allAt_cons_unit _ _ _ _ _ (tile (g := fun h a e => X.dq (tok n a r) h e) 1 (at_dq hn hp c_s1 (at_ld B 1 128 inb_S128x1024_S128x128_0_128 rfl)) 128 rfl a h e) ?_
  refine View.allAt_cons_unit _ _ _ _ _ (tile (g := fun h a e => X.dq (tok n a r) h e) 0 (at_dq hn hp c_s0 (at_ld B 0 0 inb_S128x1024_S128x128_0_0 rfl)) 0 rfl a h e) ?_
  exact View.allAt_nil _ _

omit hp in
theorem outA15 (hc0 : cond0_0 i) (hc1 : ¬cond0_1 i) (a : Fin 128) (h : H) (e : Fin 128) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e)) = ((X.dk (tok n a r) h e : ℝ) : EReal) := by
  have hcov := cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e))
  unfold out0_A_15
  rw [View.read_writes_eq_canon _ _ _ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  rw [listA15] at hcov ⊢
  refine View.canon_eq_of_allAt _ _ _ hcov ?_
  refine View.allAt_cons_unit _ _ _ _ _ (tile (g := fun h a e => X.dk (tok n a r) h e) 7 (at_dk hn hx c_s7 (at_ld B 7 896 inb_S128x1024_S128x128_0_896 rfl)) 896 rfl a h e) ?_
  refine View.allAt_cons_unit _ _ _ _ _ (tile (g := fun h a e => X.dk (tok n a r) h e) 6 (at_dk hn hx c_s6 (at_ld B 6 768 inb_S128x1024_S128x128_0_768 rfl)) 768 rfl a h e) ?_
  refine View.allAt_cons_unit _ _ _ _ _ (tile (g := fun h a e => X.dk (tok n a r) h e) 5 (at_dk hn hx c_s5 (at_ld B 5 640 inb_S128x1024_S128x128_0_640 rfl)) 640 rfl a h e) ?_
  refine View.allAt_cons_unit _ _ _ _ _ (tile (g := fun h a e => X.dk (tok n a r) h e) 4 (at_dk hn hx c_s4 (at_ld B 4 512 inb_S128x1024_S128x128_0_512 rfl)) 512 rfl a h e) ?_
  refine View.allAt_cons_unit _ _ _ _ _ (tile (g := fun h a e => X.dk (tok n a r) h e) 3 (at_dk hn hx c_s3 (at_ld B 3 384 inb_S128x1024_S128x128_0_384 rfl)) 384 rfl a h e) ?_
  refine View.allAt_cons_unit _ _ _ _ _ (tile (g := fun h a e => X.dk (tok n a r) h e) 2 (at_dk hn hx c_s2 (at_ld B 2 256 inb_S128x1024_S128x128_0_256 rfl)) 256 rfl a h e) ?_
  refine View.allAt_cons_unit _ _ _ _ _ (tile (g := fun h a e => X.dk (tok n a r) h e) 1 (at_dk hn hx c_s1 (at_ld B 1 128 inb_S128x1024_S128x128_0_128 rfl)) 128 rfl a h e) ?_
  refine View.allAt_cons_unit _ _ _ _ _ (tile (g := fun h a e => X.dk (tok n a r) h e) 0 (at_dk hn hx c_s0 (at_ld B 0 0 inb_S128x1024_S128x128_0_0 rfl)) 0 rfl a h e) ?_
  exact View.allAt_nil _ _

omit hp in
theorem outA16 (hc0 : cond0_0 i) (hc1 : ¬cond0_1 i) (a : Fin 128) (h : H) (e : Fin 128) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e)) = ((X.dv (tok n a r) h e : ℝ) : EReal) := by
  have hcov := cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 (ix2 a (col h e))
  unfold out0_A_16
  rw [View.read_writes_eq_canon _ _ _ (cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  rw [listA16] at hcov ⊢
  refine View.canon_eq_of_allAt _ _ _ hcov ?_
  refine View.allAt_cons_unit _ _ _ _ _ (tile (g := fun h a e => X.dv (tok n a r) h e) 7 (at_dv hn hx c_s7 (at_ld B 7 896 inb_S128x1024_S128x128_0_896 rfl)) 896 rfl a h e) ?_
  refine View.allAt_cons_unit _ _ _ _ _ (tile (g := fun h a e => X.dv (tok n a r) h e) 6 (at_dv hn hx c_s6 (at_ld B 6 768 inb_S128x1024_S128x128_0_768 rfl)) 768 rfl a h e) ?_
  refine View.allAt_cons_unit _ _ _ _ _ (tile (g := fun h a e => X.dv (tok n a r) h e) 5 (at_dv hn hx c_s5 (at_ld B 5 640 inb_S128x1024_S128x128_0_640 rfl)) 640 rfl a h e) ?_
  refine View.allAt_cons_unit _ _ _ _ _ (tile (g := fun h a e => X.dv (tok n a r) h e) 4 (at_dv hn hx c_s4 (at_ld B 4 512 inb_S128x1024_S128x128_0_512 rfl)) 512 rfl a h e) ?_
  refine View.allAt_cons_unit _ _ _ _ _ (tile (g := fun h a e => X.dv (tok n a r) h e) 3 (at_dv hn hx c_s3 (at_ld B 3 384 inb_S128x1024_S128x128_0_384 rfl)) 384 rfl a h e) ?_
  refine View.allAt_cons_unit _ _ _ _ _ (tile (g := fun h a e => X.dv (tok n a r) h e) 2 (at_dv hn hx c_s2 (at_ld B 2 256 inb_S128x1024_S128x128_0_256 rfl)) 256 rfl a h e) ?_
  refine View.allAt_cons_unit _ _ _ _ _ (tile (g := fun h a e => X.dv (tok n a r) h e) 1 (at_dv hn hx c_s1 (at_ld B 1 128 inb_S128x1024_S128x128_0_128 rfl)) 128 rfl a h e) ?_
  refine View.allAt_cons_unit _ _ _ _ _ (tile (g := fun h a e => X.dv (tok n a r) h e) 0 (at_dv hn hx c_s0 (at_ld B 0 0 inb_S128x1024_S128x128_0_0 rfl)) 0 rfl a h e) ?_
  exact View.allAt_nil _ _

omit hx in
theorem outA17 (hc0 : cond0_0 i) (hc1 : ¬cond0_1 i) : IsG (out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13) (fun e => X.gqPart n r e) := fun e => by
  unfold out0_A_17
  rw [View.read_writes_eq_canon _ _ _ (cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  rw [listA17, View.canon_unit_zero (S := S1x128) zz]
  refine ((addG (addG (addG (addG (addG (addG (addG (addG zeroG (at_gq hn hp c_s0 (at_ld B 0 0 inb_S128x1024_S128x128_0_0 rfl))) (at_gq hn hp c_s1 (at_ld B 1 128 inb_S128x1024_S128x128_0_128 rfl))) (at_gq hn hp c_s2 (at_ld B 2 256 inb_S128x1024_S128x128_0_256 rfl))) (at_gq hn hp c_s3 (at_ld B 3 384 inb_S128x1024_S128x128_0_384 rfl))) (at_gq hn hp c_s4 (at_ld B 4 512 inb_S128x1024_S128x128_0_512 rfl))) (at_gq hn hp c_s5 (at_ld B 5 640 inb_S128x1024_S128x128_0_640 rfl))) (at_gq hn hp c_s6 (at_ld B 6 768 inb_S128x1024_S128x128_0_768 rfl))) (at_gq hn hp c_s7 (at_ld B 7 896 inb_S128x1024_S128x128_0_896 rfl))) e).trans (congrArg _ ?_)
  unfold Inp.gqPart
  beta_reduce
  rw [Fin.sum_univ_eight]
  ring

omit hp in
theorem outA18 (hc0 : cond0_0 i) (hc1 : ¬cond0_1 i) : IsG (out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13) (fun e => X.gkPart n r e) := fun e => by
  unfold out0_A_18
  rw [View.read_writes_eq_canon _ _ _ (cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  rw [listA18, View.canon_unit_zero (S := S1x128) zz]
  refine ((addG (addG (addG (addG (addG (addG (addG (addG zeroG (at_gk hn hx c_s0 (at_ld B 0 0 inb_S128x1024_S128x128_0_0 rfl))) (at_gk hn hx c_s1 (at_ld B 1 128 inb_S128x1024_S128x128_0_128 rfl))) (at_gk hn hx c_s2 (at_ld B 2 256 inb_S128x1024_S128x128_0_256 rfl))) (at_gk hn hx c_s3 (at_ld B 3 384 inb_S128x1024_S128x128_0_384 rfl))) (at_gk hn hx c_s4 (at_ld B 4 512 inb_S128x1024_S128x128_0_512 rfl))) (at_gk hn hx c_s5 (at_ld B 5 640 inb_S128x1024_S128x128_0_640 rfl))) (at_gk hn hx c_s6 (at_ld B 6 768 inb_S128x1024_S128x128_0_768 rfl))) (at_gk hn hx c_s7 (at_ld B 7 896 inb_S128x1024_S128x128_0_896 rfl))) e).trans (congrArg _ ?_)
  unfold Inp.gkPart
  beta_reduce
  rw [Fin.sum_univ_eight]
  ring

omit hx in
theorem outB14 (hc0 : ¬cond0_0 i) (hc1 : cond0_1 i) (xo17 xo18 : Vec Ideal S1x128 .f32) (a : Fin 128) (h : H) (e : Fin 128) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e)) = ((X.dq (tok n a r) h e : ℝ) : EReal) := by
  have hcov := cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e))
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18)]
  rw [listB14] at hcov ⊢
  refine View.canon_eq_of_allAt _ _ _ hcov ?_
  refine View.allAt_cons_unit _ _ _ _ _ (tile (g := fun h a e => X.dq (tok n a r) h e) 7 (at_dq hn hp c_s7 (at_ld B 7 896 inb_S128x1024_S128x128_0_896 rfl)) 896 rfl a h e) ?_
  refine View.allAt_cons_unit _ _ _ _ _ (tile (g := fun h a e => X.dq (tok n a r) h e) 6 (at_dq hn hp c_s6 (at_ld B 6 768 inb_S128x1024_S128x128_0_768 rfl)) 768 rfl a h e) ?_
  refine View.allAt_cons_unit _ _ _ _ _ (tile (g := fun h a e => X.dq (tok n a r) h e) 5 (at_dq hn hp c_s5 (at_ld B 5 640 inb_S128x1024_S128x128_0_640 rfl)) 640 rfl a h e) ?_
  refine View.allAt_cons_unit _ _ _ _ _ (tile (g := fun h a e => X.dq (tok n a r) h e) 4 (at_dq hn hp c_s4 (at_ld B 4 512 inb_S128x1024_S128x128_0_512 rfl)) 512 rfl a h e) ?_
  refine View.allAt_cons_unit _ _ _ _ _ (tile (g := fun h a e => X.dq (tok n a r) h e) 3 (at_dq hn hp c_s3 (at_ld B 3 384 inb_S128x1024_S128x128_0_384 rfl)) 384 rfl a h e) ?_
  refine View.allAt_cons_unit _ _ _ _ _ (tile (g := fun h a e => X.dq (tok n a r) h e) 2 (at_dq hn hp c_s2 (at_ld B 2 256 inb_S128x1024_S128x128_0_256 rfl)) 256 rfl a h e) ?_
  refine View.allAt_cons_unit _ _ _ _ _ (tile (g := fun h a e => X.dq (tok n a r) h e) 1 (at_dq hn hp c_s1 (at_ld B 1 128 inb_S128x1024_S128x128_0_128 rfl)) 128 rfl a h e) ?_
  refine View.allAt_cons_unit _ _ _ _ _ (tile (g := fun h a e => X.dq (tok n a r) h e) 0 (at_dq hn hp c_s0 (at_ld B 0 0 inb_S128x1024_S128x128_0_0 rfl)) 0 rfl a h e) ?_
  exact View.allAt_nil _ _

omit hp in
theorem outB15 (hc0 : ¬cond0_0 i) (hc1 : cond0_1 i) (xo17 xo18 : Vec Ideal S1x128 .f32) (a : Fin 128) (h : H) (e : Fin 128) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e)) = ((X.dk (tok n a r) h e : ℝ) : EReal) := by
  have hcov := cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e))
  unfold out0_B_15
  rw [View.read_writes_eq_canon _ _ _ (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18)]
  rw [listB15] at hcov ⊢
  refine View.canon_eq_of_allAt _ _ _ hcov ?_
  refine View.allAt_cons_unit _ _ _ _ _ (tile (g := fun h a e => X.dk (tok n a r) h e) 7 (at_dk hn hx c_s7 (at_ld B 7 896 inb_S128x1024_S128x128_0_896 rfl)) 896 rfl a h e) ?_
  refine View.allAt_cons_unit _ _ _ _ _ (tile (g := fun h a e => X.dk (tok n a r) h e) 6 (at_dk hn hx c_s6 (at_ld B 6 768 inb_S128x1024_S128x128_0_768 rfl)) 768 rfl a h e) ?_
  refine View.allAt_cons_unit _ _ _ _ _ (tile (g := fun h a e => X.dk (tok n a r) h e) 5 (at_dk hn hx c_s5 (at_ld B 5 640 inb_S128x1024_S128x128_0_640 rfl)) 640 rfl a h e) ?_
  refine View.allAt_cons_unit _ _ _ _ _ (tile (g := fun h a e => X.dk (tok n a r) h e) 4 (at_dk hn hx c_s4 (at_ld B 4 512 inb_S128x1024_S128x128_0_512 rfl)) 512 rfl a h e) ?_
  refine View.allAt_cons_unit _ _ _ _ _ (tile (g := fun h a e => X.dk (tok n a r) h e) 3 (at_dk hn hx c_s3 (at_ld B 3 384 inb_S128x1024_S128x128_0_384 rfl)) 384 rfl a h e) ?_
  refine View.allAt_cons_unit _ _ _ _ _ (tile (g := fun h a e => X.dk (tok n a r) h e) 2 (at_dk hn hx c_s2 (at_ld B 2 256 inb_S128x1024_S128x128_0_256 rfl)) 256 rfl a h e) ?_
  refine View.allAt_cons_unit _ _ _ _ _ (tile (g := fun h a e => X.dk (tok n a r) h e) 1 (at_dk hn hx c_s1 (at_ld B 1 128 inb_S128x1024_S128x128_0_128 rfl)) 128 rfl a h e) ?_
  refine View.allAt_cons_unit _ _ _ _ _ (tile (g := fun h a e => X.dk (tok n a r) h e) 0 (at_dk hn hx c_s0 (at_ld B 0 0 inb_S128x1024_S128x128_0_0 rfl)) 0 rfl a h e) ?_
  exact View.allAt_nil _ _

omit hp in
theorem outB16 (hc0 : ¬cond0_0 i) (hc1 : cond0_1 i) (xo17 xo18 : Vec Ideal S1x128 .f32) (a : Fin 128) (h : H) (e : Fin 128) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e)) = ((X.dv (tok n a r) h e : ℝ) : EReal) := by
  have hcov := cover0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18 (ix2 a (col h e))
  unfold out0_B_16
  rw [View.read_writes_eq_canon _ _ _ (cover0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18)]
  rw [listB16] at hcov ⊢
  refine View.canon_eq_of_allAt _ _ _ hcov ?_
  refine View.allAt_cons_unit _ _ _ _ _ (tile (g := fun h a e => X.dv (tok n a r) h e) 7 (at_dv hn hx c_s7 (at_ld B 7 896 inb_S128x1024_S128x128_0_896 rfl)) 896 rfl a h e) ?_
  refine View.allAt_cons_unit _ _ _ _ _ (tile (g := fun h a e => X.dv (tok n a r) h e) 6 (at_dv hn hx c_s6 (at_ld B 6 768 inb_S128x1024_S128x128_0_768 rfl)) 768 rfl a h e) ?_
  refine View.allAt_cons_unit _ _ _ _ _ (tile (g := fun h a e => X.dv (tok n a r) h e) 5 (at_dv hn hx c_s5 (at_ld B 5 640 inb_S128x1024_S128x128_0_640 rfl)) 640 rfl a h e) ?_
  refine View.allAt_cons_unit _ _ _ _ _ (tile (g := fun h a e => X.dv (tok n a r) h e) 4 (at_dv hn hx c_s4 (at_ld B 4 512 inb_S128x1024_S128x128_0_512 rfl)) 512 rfl a h e) ?_
  refine View.allAt_cons_unit _ _ _ _ _ (tile (g := fun h a e => X.dv (tok n a r) h e) 3 (at_dv hn hx c_s3 (at_ld B 3 384 inb_S128x1024_S128x128_0_384 rfl)) 384 rfl a h e) ?_
  refine View.allAt_cons_unit _ _ _ _ _ (tile (g := fun h a e => X.dv (tok n a r) h e) 2 (at_dv hn hx c_s2 (at_ld B 2 256 inb_S128x1024_S128x128_0_256 rfl)) 256 rfl a h e) ?_
  refine View.allAt_cons_unit _ _ _ _ _ (tile (g := fun h a e => X.dv (tok n a r) h e) 1 (at_dv hn hx c_s1 (at_ld B 1 128 inb_S128x1024_S128x128_0_128 rfl)) 128 rfl a h e) ?_
  refine View.allAt_cons_unit _ _ _ _ _ (tile (g := fun h a e => X.dv (tok n a r) h e) 0 (at_dv hn hx c_s0 (at_ld B 0 0 inb_S128x1024_S128x128_0_0 rfl)) 0 rfl a h e) ?_
  exact View.allAt_nil _ _

omit hx in
theorem outB17 (hc0 : ¬cond0_0 i) (hc1 : cond0_1 i) (xo17 xo18 : Vec Ideal S1x128 .f32) {f : Fin 128 → ℝ} (hf : IsG xo17 f) : IsG (out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18) (fun e => f e + X.gqPart n r e) := fun e => by
  unfold out0_B_17
  rw [View.read_writes_eq_canon _ _ _ (cover0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18)]
  rw [listB17, View.canon_unit_zero (S := S1x128) zz, rdG_eq]
  refine ((addG (isG hf) (addG (addG (addG (addG (addG (addG (addG (addG zeroG (at_gq hn hp c_s0 (at_ld B 0 0 inb_S128x1024_S128x128_0_0 rfl))) (at_gq hn hp c_s1 (at_ld B 1 128 inb_S128x1024_S128x128_0_128 rfl))) (at_gq hn hp c_s2 (at_ld B 2 256 inb_S128x1024_S128x128_0_256 rfl))) (at_gq hn hp c_s3 (at_ld B 3 384 inb_S128x1024_S128x128_0_384 rfl))) (at_gq hn hp c_s4 (at_ld B 4 512 inb_S128x1024_S128x128_0_512 rfl))) (at_gq hn hp c_s5 (at_ld B 5 640 inb_S128x1024_S128x128_0_640 rfl))) (at_gq hn hp c_s6 (at_ld B 6 768 inb_S128x1024_S128x128_0_768 rfl))) (at_gq hn hp c_s7 (at_ld B 7 896 inb_S128x1024_S128x128_0_896 rfl)))) e).trans (congrArg _ ?_)
  unfold Inp.gqPart
  beta_reduce
  rw [Fin.sum_univ_eight]
  ring

omit hp in
theorem outB18 (hc0 : ¬cond0_0 i) (hc1 : cond0_1 i) (xo17 xo18 : Vec Ideal S1x128 .f32) {f : Fin 128 → ℝ} (hf : IsG xo18 f) : IsG (out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18) (fun e => f e + X.gkPart n r e) := fun e => by
  unfold out0_B_18
  rw [View.read_writes_eq_canon _ _ _ (cover0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo17 xo18)]
  rw [listB18, View.canon_unit_zero (S := S1x128) zz, rdG_eq]
  refine ((addG (isG hf) (addG (addG (addG (addG (addG (addG (addG (addG zeroG (at_gk hn hx c_s0 (at_ld B 0 0 inb_S128x1024_S128x128_0_0 rfl))) (at_gk hn hx c_s1 (at_ld B 1 128 inb_S128x1024_S128x128_0_128 rfl))) (at_gk hn hx c_s2 (at_ld B 2 256 inb_S128x1024_S128x128_0_256 rfl))) (at_gk hn hx c_s3 (at_ld B 3 384 inb_S128x1024_S128x128_0_384 rfl))) (at_gk hn hx c_s4 (at_ld B 4 512 inb_S128x1024_S128x128_0_512 rfl))) (at_gk hn hx c_s5 (at_ld B 5 640 inb_S128x1024_S128x128_0_640 rfl))) (at_gk hn hx c_s6 (at_ld B 6 768 inb_S128x1024_S128x128_0_768 rfl))) (at_gk hn hx c_s7 (at_ld B 7 896 inb_S128x1024_S128x128_0_896 rfl)))) e).trans (congrArg _ ?_)
  unfold Inp.gkPart
  beta_reduce
  rw [Fin.sum_univ_eight]
  ring

end

end Attn
-- ==== Proof.Prep.lean ====
module

public import Idealize.ShloMosaic.Lib.KernelVsHost
public import proofs.«01_k».proof.Proof.Host
public import proofs.«01_k».proof.Proof.Outs

/-! The kernel's operands at real arguments, and the blocks its windows read at a grid point. -/

@[expose] public section

noncomputable section

namespace Attn

open Idealize.ShloMosaic Idealize.ShloMosaic.TcCoe Cert.KernelIdeal Cert.KernelIdeal.Gen Idealize.SL.Sem

/-! ## The saved log-sum and the saved row sum -/

section Saved

variable {X : Inp}

theorem sum_first (y : FVec Ideal S3x4096x8 .f32) (i : S4096x8.Idx) :
    (Host.reduceAdd y (constant S_ .f32 0x00000000#32) reducesTo_S3x4096x8_S4096x8_d0 h_S_ : FVec Ideal S4096x8 .f32) i
      = ∑ k : Fin 3, y (ValueIdx.ix3 k (i 0) (i 1)) := by
  simp only [Host.reduceAdd, Ideal.hostReduceAdd_def]
  rw [Ideal.hostReduceAdd_single reducesTo_S3x4096x8_S4096x8_d0 (by decide)]
  refine (congrArg (fun z : EReal => z + _) c_zero).trans ((zero_add _).trans (Finset.sum_congr rfl fun k _ => ?_))
  exact congrArg y (funext fun a => Fin.ext (by match a with | ⟨0, _⟩ => rfl | ⟨1, _⟩ => rfl | ⟨2, _⟩ => rfl))

theorem sum_last (y : FVec Ideal S4096x8x128 .f32) (i : S4096x8.Idx) :
    (Host.reduceAdd y (constant S_ .f32 0x00000000#32) reducesTo_S4096x8x128_S4096x8_d2 h_S_ : FVec Ideal S4096x8 .f32) i
      = ∑ k : Fin 128, y (ValueIdx.ix3 (i 0) (i 1) k) := by
  simp only [Host.reduceAdd, Ideal.hostReduceAdd_def]
  rw [Ideal.hostReduceAdd_single reducesTo_S4096x8x128_S4096x8_d2 (by decide)]
  refine (congrArg (fun z : EReal => z + _) c_zero).trans ((zero_add _).trans (Finset.sum_congr rfl fun k _ => ?_))
  exact congrArg y (funext fun a => Fin.ext (by match a with | ⟨0, _⟩ => rfl | ⟨1, _⟩ => rfl | ⟨2, _⟩ => rfl))

theorem lift_at (y : FVec Ideal S4096x8 .f32) (j : S1x4096x8.Idx) :
    broadcastInDim S1x4096x8 ![1, 2] bcast_S4096x8_S1x4096x8_1_2 y j = y (ValueIdx.ix2 (j 1) (j 2)) :=
  broadcastInDim_apply _ bcast_S4096x8_S1x4096x8_1_2 y j _ (fun a => match a with
    | ⟨0, _⟩ => by show (j 1).val = if (4096 : Nat) = 1 then 0 else (j 1).val; rw [if_neg (by decide)]
    | ⟨1, _⟩ => by show (j 2).val = if (8 : Nat) = 1 then 0 else (j 2).val; rw [if_neg (by decide)])

theorem spread_at (y : FVec Ideal S1x4096x8 .f32) (j : S3x4096x8.Idx) :
    broadcastInDim S3x4096x8 ![0, 1, 2] bcast_S1x4096x8_S3x4096x8_0_1_2 y j = y (ValueIdx.ix3 0 (j 1) (j 2)) :=
  broadcastInDim_apply _ bcast_S1x4096x8_S3x4096x8_0_1_2 y j _ (fun a => match a with
    | ⟨0, _⟩ => by show 0 = if (1 : Nat) = 1 then 0 else (j 0).val; rw [if_pos rfl]
    | ⟨1, _⟩ => by show (j 1).val = if (4096 : Nat) = 1 then 0 else (j 1).val; rw [if_neg (by decide)]
    | ⟨2, _⟩ => by show (j 2).val = if (8 : Nat) = 1 then 0 else (j 2).val; rw [if_neg (by decide)])

theorem lseH_at (L : FVec Ideal S3x4096x8 .f32) (hL : ∀ i, L i = ((X.L (i 0) (i 1) (i 2) : ℝ) : EReal)) (i : S4096x8.Idx) :
    lseH L i = ((X.lse (i 0) (i 1) : ℝ) : EReal) := by
  have hM : ∃ M : ℝ, (Host.reduce FloatOps.maximumf L (constant S_ .f32 0xFF800000#32) reducesTo_S3x4096x8_S4096x8_d0 h_S_ : FVec Ideal S4096x8 .f32) i = (M : EReal) := by
    refine reduce_max_real _ _ _ _ _ ?_ (fun j => ?_) (ValueIdx.ix3 0 (i 0) (i 1)) ?_ ?_
    · show Ideal.ofBits .f32 0xFF800000#32 ≠ ⊤
      rw [c_ninf]; exact bot_ne_top
    · rw [hL]; exact EReal.coe_ne_top _
    · funext a; match a with
      | ⟨0, _⟩ => rfl
      | ⟨1, _⟩ => rfl
    · rw [hL]; exact EReal.coe_ne_bot _
  obtain ⟨M, hM⟩ := hM
  unfold lseH
  generalize (Host.reduce FloatOps.maximumf L (constant S_ .f32 0xFF800000#32) reducesTo_S3x4096x8_S4096x8_d0 h_S_ : FVec Ideal S4096x8 .f32) = y at hM ⊢
  have hi : y (ValueIdx.ix2 (i 0) (i 1)) = (M : EReal) := by
    refine (congrArg y ?_).trans hM
    funext a; match a with | ⟨0, _⟩ => rfl | ⟨1, _⟩ => rfl
  have hs : ∀ k : Fin 3, (Host.exp (subf L (broadcastInDim S3x4096x8 ![0, 1, 2] bcast_S1x4096x8_S3x4096x8_0_1_2 (broadcastInDim S1x4096x8 ![1, 2] bcast_S4096x8_S1x4096x8_1_2 y))) : FVec Ideal S3x4096x8 .f32) (ValueIdx.ix3 k (i 0) (i 1))
      = ((Real.exp (X.L k (i 0) (i 1) - M) : ℝ) : EReal) := fun k => by
    show Ideal.exp (L (ValueIdx.ix3 k (i 0) (i 1)) - broadcastInDim S3x4096x8 ![0, 1, 2] bcast_S1x4096x8_S3x4096x8_0_1_2 (broadcastInDim S1x4096x8 ![1, 2] bcast_S4096x8_S1x4096x8_1_2 y) (ValueIdx.ix3 k (i 0) (i 1))) = _
    rw [spread_at, lift_at]
    refine (congrArg Ideal.exp (congr (congrArg HSub.hSub (hL _)) hi)).trans ?_
    rw [sub_real, Ideal.exp_coe]
  have h1 := (sum_first _ i).trans (sum_eq_real hs)
  have h2 : (shapeCast S4096x8 (broadcastInDim S1x4096x8 ![1, 2] bcast_S4096x8_S1x4096x8_1_2 y) shapeCasts_S1x4096x8_S4096x8 : FVec Ideal S4096x8 .f32) i = (M : EReal) := by
    rw [shapeCast_apply _ shapeCasts_S1x4096x8_S4096x8 i (ValueIdx.ix3 0 (i 0) (i 1)) (by
      rewrite [Shape.rowMajor_val_three, Shape.rowMajor_val_two]
      show (0 * 4096 + (i 0).val) * 8 + (i 1).val = (i 0).val * 8 + (i 1).val
      omega), lift_at]
    exact hi
  refine (congr (congrArg HAdd.hAdd ((congrArg Ideal.log h1).trans (log_real (X.sum_exp_L_pos M _ _)))) h2).trans ?_
  exact (add_real _ _).trans (congrArg _ (X.log_sum_exp_L M _ _))

theorem dltH_at (y dy : FVec Ideal S4096x1024 .f32)
    (hy : ∀ (i : S4096x1024.Idx) (t : T) (h : H) (e : E), (i 0).val = t.val → (i 1).val = h.val * 128 + e.val → y i = ((X.y t h e : ℝ) : EReal))
    (hd : ∀ (i : S4096x1024.Idx) (t : T) (h : H) (e : E), (i 0).val = t.val → (i 1).val = h.val * 128 + e.val → dy i = ((X.DY t h e : ℝ) : EReal))
    (i : S4096x8.Idx) : dltH y dy i = ((X.dlt (i 0) (i 1) : ℝ) : EReal) := by
  unfold dltH
  refine (sum_last _ i).trans (sum_eq_real fun k => ?_)
  have h0 : (i 0).val < 4096 := (i 0).isLt
  have h1 : (i 1).val < 8 := (i 1).isLt
  have hk : k.val < 128 := k.isLt
  rw [shapeCast_apply _ shapeCasts_S4096x1024_S4096x8x128 (ValueIdx.ix3 (i 0) (i 1) k) (ValueIdx.ix2 (i 0) (⟨(i 1).val * 128 + k.val, by omega⟩ : Fin 1024)) (by
    rewrite [Shape.rowMajor_val_three, Shape.rowMajor_val_two]
    show (i 0).val * 1024 + ((i 1).val * 128 + k.val) = ((i 0).val * 8 + (i 1).val) * 128 + k.val
    omega)]
  refine (congr (congrArg HMul.hMul (hd _ (i 0) (i 1) k rfl rfl)) (hy _ (i 0) (i 1) k rfl rfl)).trans (mul_real _ _)

end Saved

/-! ## The operands -/

section Operands

variable {m : (ℓ : Loc nD τ sig) → Buf (Elt Ideal) ℓ} {c : Dev nD} {X : Inp}

/-- The arguments a device was launched with stand for the real arrays. -/
abbrev Holds (X : Inp) (m : (ℓ : Loc nD τ sig) → Buf (Elt Ideal) ℓ) (c : Dev nD) : Prop :=
  Rel X (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable (hm : Holds X m c)
include hm

theorem at_126 (i : S1024x4096.Idx) (t : T) (h : H) (e : E)
    (hi : (i 0).val * 4096 + (i 1).val = t.val * 1024 + (h.val * 128 + e.val)) :
    V m c main_v126 i = ((X.Q t h e : ℝ) : EReal) := by
  have he : e.val < 128 := e.isLt
  have hh : h.val < 8 := h.isLt
  have ht : t.val < 4096 := t.isLt
  rw [V_v126]
  rw [shapeCast_apply _ shapeCasts_S4096x1024_S1024x4096 i (ValueIdx.ix2 t (⟨h.val * 128 + e.val, by omega⟩ : Fin 1024)) (by
    rewrite [Shape.rowMajor_val_two, Shape.rowMajor_val_two]
    show t.val * 1024 + (h.val * 128 + e.val) = (i 0).val * 4096 + (i 1).val
    omega)]
  rw [extractStridedSlice_apply ![0, 1024] _ slices_S4096x12288_S4096x1024_0_1024 _ (ValueIdx.ix2 t (⟨1024 + (h.val * 128 + e.val), by omega⟩ : Fin 12288)) (fun a => match a with
    | ⟨0, _⟩ => by show t.val = 0 + t.val; omega
    | ⟨1, _⟩ => by show 1024 + (h.val * 128 + e.val) = 1024 + (h.val * 128 + e.val); omega)]
  exact hm.q _ t h e rfl rfl

theorem at_128 (i : S1024x4096.Idx) (t : T) (h : H) (e : E)
    (hi : (i 0).val * 4096 + (i 1).val = t.val * 1024 + (h.val * 128 + e.val)) :
    V m c main_v128 i = ((X.K t h e : ℝ) : EReal) := by
  have he : e.val < 128 := e.isLt
  have hh : h.val < 8 := h.isLt
  have ht : t.val < 4096 := t.isLt
  rw [V_v128]
  rw [shapeCast_apply _ shapeCasts_S4096x1024_S1024x4096 i (ValueIdx.ix2 t (⟨h.val * 128 + e.val, by omega⟩ : Fin 1024)) (by
    rewrite [Shape.rowMajor_val_two, Shape.rowMajor_val_two]
    show t.val * 1024 + (h.val * 128 + e.val) = (i 0).val * 4096 + (i 1).val
    omega)]
  rw [extractStridedSlice_apply ![0, 4096] _ slices_S4096x12288_S4096x1024_0_4096 _ (ValueIdx.ix2 t (⟨4096 + (h.val * 128 + e.val), by omega⟩ : Fin 12288)) (fun a => match a with
    | ⟨0, _⟩ => by show t.val = 0 + t.val; omega
    | ⟨1, _⟩ => by show 4096 + (h.val * 128 + e.val) = 4096 + (h.val * 128 + e.val); omega)]
  exact hm.k _ t h e rfl rfl

theorem at_130 (i : S1024x4096.Idx) (t : T) (h : H) (e : E)
    (hi : (i 0).val * 4096 + (i 1).val = t.val * 1024 + (h.val * 128 + e.val)) :
    V m c main_v130 i = ((X.W t h e : ℝ) : EReal) := by
  have he : e.val < 128 := e.isLt
  have hh : h.val < 8 := h.isLt
  have ht : t.val < 4096 := t.isLt
  rw [V_v130]
  rw [shapeCast_apply _ shapeCasts_S4096x1024_S1024x4096 i (ValueIdx.ix2 t (⟨h.val * 128 + e.val, by omega⟩ : Fin 1024)) (by
    rewrite [Shape.rowMajor_val_two, Shape.rowMajor_val_two]
    show t.val * 1024 + (h.val * 128 + e.val) = (i 0).val * 4096 + (i 1).val
    omega)]
  rw [extractStridedSlice_apply ![0, 7168] _ slices_S4096x12288_S4096x1024_0_7168 _ (ValueIdx.ix2 t (⟨7168 + (h.val * 128 + e.val), by omega⟩ : Fin 12288)) (fun a => match a with
    | ⟨0, _⟩ => by show t.val = 0 + t.val; omega
    | ⟨1, _⟩ => by show 7168 + (h.val * 128 + e.val) = 7168 + (h.val * 128 + e.val); omega)]
  exact hm.w _ t h e rfl rfl

theorem at_131 (i : S1024x4096.Idx) (t : T) (h : H) (e : E)
    (hi : (i 0).val * 4096 + (i 1).val = t.val * 1024 + (h.val * 128 + e.val)) :
    V m c main_v131 i = ((X.DY t h e : ℝ) : EReal) := by
  have he : e.val < 128 := e.isLt
  have hh : h.val < 8 := h.isLt
  have ht : t.val < 4096 := t.isLt
  rw [V_v131]
  rw [shapeCast_apply _ shapeCasts_S4096x1024_S1024x4096 i (ValueIdx.ix2 t (⟨h.val * 128 + e.val, by omega⟩ : Fin 1024)) (by
    rewrite [Shape.rowMajor_val_two, Shape.rowMajor_val_two]
    show t.val * 1024 + (h.val * 128 + e.val) = (i 0).val * 4096 + (i 1).val
    omega)]
  exact hm.dy _ t h e rfl rfl

omit hm in
theorem padded_at (y : FVec Ideal S4096x8 .f32) (f : T → H → ℝ) (hy : ∀ i, y i = ((f (i 0) (i 1) : ℝ) : EReal))
    (i : S1024x512.Idx) (t : T) (h : H) (hi : (i 0).val * 512 + (i 1).val = t.val * 128 + h.val) :
    (shapeCast S1024x512 (pad S4096x128 ![0, 0] ![0, 120] ![0, 0] y (sitofp .f32 (constantI S_ 32 0#32)) pads_S4096x8_S4096x128_000_01200 h_S_) shapeCasts_S4096x128_S1024x512 : FVec Ideal S1024x512 .f32) i
      = ((f t h : ℝ) : EReal) := by
  have hh : h.val < 8 := h.isLt
  have ht : t.val < 4096 := t.isLt
  rw [shapeCast_apply _ shapeCasts_S4096x128_S1024x512 i (ValueIdx.ix2 t (⟨h.val, by omega⟩ : Fin 128)) (by
    rewrite [Shape.rowMajor_val_two, Shape.rowMajor_val_two]
    show t.val * 128 + h.val = (i 0).val * 512 + (i 1).val
    omega)]
  rw [pad_apply_of_inside _ _ _ y _ pads_S4096x8_S4096x128_000_01200 h_S_ _ (ValueIdx.ix2 t h) (fun a => match a with
    | ⟨0, _⟩ => by show t.val = 0 + t.val * (0 + 1); omega
    | ⟨1, _⟩ => by show h.val = 0 + h.val * (0 + 1); omega)]
  exact hy _

theorem at_132 (i : S1024x512.Idx) (t : T) (h : H) (hi : (i 0).val * 512 + (i 1).val = t.val * 128 + h.val) :
    V m c main_v132 i = ((X.lse t h : ℝ) : EReal) := by
  rw [V_v132]
  exact padded_at _ X.lse (lseH_at _ fun i => r100 hm i) i t h hi

theorem at_133 (i : S1024x512.Idx) (t : T) (h : H) (hi : (i 0).val * 512 + (i 1).val = t.val * 128 + h.val) :
    V m c main_v133 i = ((X.dlt t h : ℝ) : EReal) := by
  rw [V_v133]
  exact padded_at _ X.dlt (dltH_at _ _ (fun i t h e => r141 hm i t h e) (fun i t h e => hm.dy i t h e)) i t h hi

theorem at_134 (b : Fin 128) : V m c main_v134 (ix2 (0 : Fin 1) b) = ((X.gq b : ℝ) : EReal) := by
  rw [V_v134]
  rw [shapeCast_apply _ shapeCasts_S128_S1x128 (ix2 (0 : Fin 1) b) (fun a => match a with | ⟨0, _⟩ => b) (by
    rewrite [Shape.rowMajor_val_one, Shape.rowMajor_val_two]
    show b.val = 0 * 128 + b.val
    omega)]
  exact hm.gq _

theorem at_135 (b : Fin 128) : V m c main_v135 (ix2 (0 : Fin 1) b) = ((X.gk b : ℝ) : EReal) := by
  rw [V_v135]
  rw [shapeCast_apply _ shapeCasts_S128_S1x128 (ix2 (0 : Fin 1) b) (fun a => match a with | ⟨0, _⟩ => b) (by
    rewrite [Shape.rowMajor_val_one, Shape.rowMajor_val_two]
    show b.val = 0 * 128 + b.val
    omega)]
  exact hm.gk _

end Operands

/-! ## A grid point's blocks -/

section Points

theorem lt32 (t : Fin cfg0.N) : t.val < 32 := Nat.lt_of_lt_of_eq t.isLt N_0

/-- A point's block of rows, the one before it and the one after it, and its residue class. -/
def nOf (t : Fin cfg0.N) : Fin 8 := ⟨t.val % 8, by omega⟩
def pOf (t : Fin cfg0.N) : Fin 8 := ⟨t.val % 8 - 1, by omega⟩
def xOf (t : Fin cfg0.N) : Fin 8 := ⟨min (t.val % 8 + 1) 7, by omega⟩
def rOf (t : Fin cfg0.N) : Fin 4 := ⟨t.val / 8, by have := lt32 t; omega⟩

theorem hp_of (t : Fin cfg0.N) : 0 < (nOf t).val → (pOf t).val + 1 = (nOf t).val := by
  show 0 < t.val % 8 → t.val % 8 - 1 + 1 = t.val % 8
  omega
theorem hx_of (t : Fin cfg0.N) : (nOf t).val < 7 → (xOf t).val = (nOf t).val + 1 := by
  show t.val % 8 < 7 → min (t.val % 8 + 1) 7 = t.val % 8 + 1
  omega
theorem hn_of (t : Fin cfg0.N) : (grid0.coords t 1).val = (nOf t).val := by
  have e1 : (grid0.coords t 1).val = t.val / 1 % 8 := Pipeline.Grid.coords_val t 1 (by decide) rfl
  show _ = t.val % 8
  omega

theorem idx_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx_1 : ∀ t : Fin cfg0.N, win0_1.index t 0 = min (t.val % 8 + 1) 7 ∧ win0_1.index t 1 = t.val / 8 :=
  (by decide +kernel : ∀ t : Fin grid0.N, win0_1.index t 0 = min (t.val % 8 + 1) 7 ∧ win0_1.index t 1 = t.val / 8)
theorem idx_2 : ∀ t : Fin cfg0.N, win0_2.index t 0 = t.val % 8 - 1 ∧ win0_2.index t 1 = t.val / 8 :=
  (by decide +kernel : ∀ t : Fin grid0.N, win0_2.index t 0 = t.val % 8 - 1 ∧ win0_2.index t 1 = t.val / 8)
theorem idx_3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem idx_4 : ∀ t : Fin cfg0.N, win0_4.index t 0 = t.val % 8 - 1 ∧ win0_4.index t 1 = t.val / 8 :=
  (by decide +kernel : ∀ t : Fin grid0.N, win0_4.index t 0 = t.val % 8 - 1 ∧ win0_4.index t 1 = t.val / 8)
theorem idx_5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem idx_6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)
theorem idx_7 : ∀ t : Fin cfg0.N, win0_7.index t 0 = min (t.val % 8 + 1) 7 ∧ win0_7.index t 1 = t.val / 8 :=
  (by decide +kernel : ∀ t : Fin grid0.N, win0_7.index t 0 = min (t.val % 8 + 1) 7 ∧ win0_7.index t 1 = t.val / 8)
theorem idx_8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)
theorem idx_9 : ∀ t : Fin cfg0.N, win0_9.index t 0 = min (t.val % 8 + 1) 7 ∧ win0_9.index t 1 = t.val / 8 :=
  (by decide +kernel : ∀ t : Fin grid0.N, win0_9.index t 0 = min (t.val % 8 + 1) 7 ∧ win0_9.index t 1 = t.val / 8)
theorem idx_10 : ∀ t : Fin cfg0.N, win0_10.index t 0 = t.val % 8 ∧ win0_10.index t 1 = t.val / 8 :=
  (by decide +kernel : ∀ t : Fin grid0.N, win0_10.index t 0 = t.val % 8 ∧ win0_10.index t 1 = t.val / 8)
theorem idx_11 : ∀ t : Fin cfg0.N, win0_11.index t 0 = min (t.val % 8 + 1) 7 ∧ win0_11.index t 1 = t.val / 8 :=
  (by decide +kernel : ∀ t : Fin grid0.N, win0_11.index t 0 = min (t.val % 8 + 1) 7 ∧ win0_11.index t 1 = t.val / 8)
theorem idx_12 : ∀ t : Fin cfg0.N, win0_12.index t 0 = 0 ∧ win0_12.index t 1 = 0 :=
  (by decide +kernel : ∀ t : Fin grid0.N, win0_12.index t 0 = 0 ∧ win0_12.index t 1 = 0)
theorem idx_13 : ∀ t : Fin cfg0.N, win0_13.index t 0 = 0 ∧ win0_13.index t 1 = 0 :=
  (by decide +kernel : ∀ t : Fin grid0.N, win0_13.index t 0 = 0 ∧ win0_13.index t 1 = 0)

variable {m : (ℓ : Loc nD τ sig) → Buf (Elt Ideal) ℓ} {c : Dev nD} {X : Inp} (hm : Holds X m c)
include hm

theorem blk_0 (t : Fin cfg0.N) (a : Fin 128) (h : H) (e : E) :
    (iblk m c 0 t : FVec Ideal S128x1024 .bf16) (ix2 a (col h e)) = ((X.Q (tok (nOf t) a (rOf t)) h e : ℝ) : EReal) := by
  have hi := idx_0 t
  have h32 := lt32 t
  unfold iblk
  rw [View.read_apply]
  refine at_126 hm _ (tok (nOf t) a (rOf t)) h e ?_
  show (win0_0.index t 0 * 128 + 1 * a.val) * 4096 + (win0_0.index t 1 * 1024 + 1 * (h.val * 128 + e.val))
    = (((t.val % 8) * 128 + a.val) * 4 + t.val / 8) * 1024 + (h.val * 128 + e.val)
  rw [hi.1, hi.2]
  omega

theorem blk_1 (t : Fin cfg0.N) (a : Fin 128) (h : H) (e : E) :
    (iblk m c 1 t : FVec Ideal S128x1024 .bf16) (ix2 a (col h e)) = ((X.Q (tok (xOf t) a (rOf t)) h e : ℝ) : EReal) := by
  have hi := idx_1 t
  have h32 := lt32 t
  unfold iblk
  rw [View.read_apply]
  refine at_126 hm _ (tok (xOf t) a (rOf t)) h e ?_
  show (win0_1.index t 0 * 128 + 1 * a.val) * 4096 + (win0_1.index t 1 * 1024 + 1 * (h.val * 128 + e.val))
    = (((min (t.val % 8 + 1) 7) * 128 + a.val) * 4 + t.val / 8) * 1024 + (h.val * 128 + e.val)
  rw [hi.1, hi.2]
  omega

theorem blk_2 (t : Fin cfg0.N) (a : Fin 128) (h : H) (e : E) :
    (iblk m c 2 t : FVec Ideal S128x1024 .bf16) (ix2 a (col h e)) = ((X.K (tok (pOf t) a (rOf t)) h e : ℝ) : EReal) := by
  have hi := idx_2 t
  have h32 := lt32 t
  unfold iblk
  rw [View.read_apply]
  refine at_128 hm _ (tok (pOf t) a (rOf t)) h e ?_
  show (win0_2.index t 0 * 128 + 1 * a.val) * 4096 + (win0_2.index t 1 * 1024 + 1 * (h.val * 128 + e.val))
    = (((t.val % 8 - 1) * 128 + a.val) * 4 + t.val / 8) * 1024 + (h.val * 128 + e.val)
  rw [hi.1, hi.2]
  omega

theorem blk_3 (t : Fin cfg0.N) (a : Fin 128) (h : H) (e : E) :
    (iblk m c 3 t : FVec Ideal S128x1024 .bf16) (ix2 a (col h e)) = ((X.K (tok (nOf t) a (rOf t)) h e : ℝ) : EReal) := by
  have hi := idx_3 t
  have h32 := lt32 t
  unfold iblk
  rw [View.read_apply]
  refine at_128 hm _ (tok (nOf t) a (rOf t)) h e ?_
  show (win0_3.index t 0 * 128 + 1 * a.val) * 4096 + (win0_3.index t 1 * 1024 + 1 * (h.val * 128 + e.val))
    = (((t.val % 8) * 128 + a.val) * 4 + t.val / 8) * 1024 + (h.val * 128 + e.val)
  rw [hi.1, hi.2]
  omega

theorem blk_4 (t : Fin cfg0.N) (a : Fin 128) (h : H) (e : E) :
    (iblk m c 4 t : FVec Ideal S128x1024 .bf16) (ix2 a (col h e)) = ((X.W (tok (pOf t) a (rOf t)) h e : ℝ) : EReal) := by
  have hi := idx_4 t
  have h32 := lt32 t
  unfold iblk
  rw [View.read_apply]
  refine at_130 hm _ (tok (pOf t) a (rOf t)) h e ?_
  show (win0_4.index t 0 * 128 + 1 * a.val) * 4096 + (win0_4.index t 1 * 1024 + 1 * (h.val * 128 + e.val))
    = (((t.val % 8 - 1) * 128 + a.val) * 4 + t.val / 8) * 1024 + (h.val * 128 + e.val)
  rw [hi.1, hi.2]
  omega

theorem blk_5 (t : Fin cfg0.N) (a : Fin 128) (h : H) (e : E) :
    (iblk m c 5 t : FVec Ideal S128x1024 .bf16) (ix2 a (col h e)) = ((X.W (tok (nOf t) a (rOf t)) h e : ℝ) : EReal) := by
  have hi := idx_5 t
  have h32 := lt32 t
  unfold iblk
  rw [View.read_apply]
  refine at_130 hm _ (tok (nOf t) a (rOf t)) h e ?_
  show (win0_5.index t 0 * 128 + 1 * a.val) * 4096 + (win0_5.index t 1 * 1024 + 1 * (h.val * 128 + e.val))
    = (((t.val % 8) * 128 + a.val) * 4 + t.val / 8) * 1024 + (h.val * 128 + e.val)
  rw [hi.1, hi.2]
  omega

theorem blk_6 (t : Fin cfg0.N) (a : Fin 128) (h : H) (e : E) :
    (iblk m c 6 t : FVec Ideal S128x1024 .bf16) (ix2 a (col h e)) = ((X.DY (tok (nOf t) a (rOf t)) h e : ℝ) : EReal) := by
  have hi := idx_6 t
  have h32 := lt32 t
  unfold iblk
  rw [View.read_apply]
  refine at_131 hm _ (tok (nOf t) a (rOf t)) h e ?_
  show (win0_6.index t 0 * 128 + 1 * a.val) * 4096 + (win0_6.index t 1 * 1024 + 1 * (h.val * 128 + e.val))
    = (((t.val % 8) * 128 + a.val) * 4 + t.val / 8) * 1024 + (h.val * 128 + e.val)
  rw [hi.1, hi.2]
  omega

theorem blk_7 (t : Fin cfg0.N) (a : Fin 128) (h : H) (e : E) :
    (iblk m c 7 t : FVec Ideal S128x1024 .bf16) (ix2 a (col h e)) = ((X.DY (tok (xOf t) a (rOf t)) h e : ℝ) : EReal) := by
  have hi := idx_7 t
  have h32 := lt32 t
  unfold iblk
  rw [View.read_apply]
  refine at_131 hm _ (tok (xOf t) a (rOf t)) h e ?_
  show (win0_7.index t 0 * 128 + 1 * a.val) * 4096 + (win0_7.index t 1 * 1024 + 1 * (h.val * 128 + e.val))
    = (((min (t.val % 8 + 1) 7) * 128 + a.val) * 4 + t.val / 8) * 1024 + (h.val * 128 + e.val)
  rw [hi.1, hi.2]
  omega

theorem blk_8 (t : Fin cfg0.N) (a : Fin 128) (h : H) :
    (iblk m c 8 t : FVec Ideal S128x128 .f32) (ix2 a (hcol h)) = ((X.lse (tok (nOf t) a (rOf t)) h : ℝ) : EReal) := by
  have hi := idx_8 t
  have h32 := lt32 t
  unfold iblk
  rw [View.read_apply]
  refine at_132 hm _ (tok (nOf t) a (rOf t)) h ?_
  show (win0_8.index t 0 * 128 + 1 * a.val) * 512 + (win0_8.index t 1 * 128 + 1 * h.val)
    = (((t.val % 8) * 128 + a.val) * 4 + t.val / 8) * 128 + h.val
  rw [hi.1, hi.2]
  omega

theorem blk_9 (t : Fin cfg0.N) (a : Fin 128) (h : H) :
    (iblk m c 9 t : FVec Ideal S128x128 .f32) (ix2 a (hcol h)) = ((X.lse (tok (xOf t) a (rOf t)) h : ℝ) : EReal) := by
  have hi := idx_9 t
  have h32 := lt32 t
  unfold iblk
  rw [View.read_apply]
  refine at_132 hm _ (tok (xOf t) a (rOf t)) h ?_
  show (win0_9.index t 0 * 128 + 1 * a.val) * 512 + (win0_9.index t 1 * 128 + 1 * h.val)
    = (((min (t.val % 8 + 1) 7) * 128 + a.val) * 4 + t.val / 8) * 128 + h.val
  rw [hi.1, hi.2]
  omega

theorem blk_10 (t : Fin cfg0.N) (a : Fin 128) (h : H) :
    (iblk m c 10 t : FVec Ideal S128x128 .f32) (ix2 a (hcol h)) = ((X.dlt (tok (nOf t) a (rOf t)) h : ℝ) : EReal) := by
  have hi := idx_10 t
  have h32 := lt32 t
  unfold iblk
  rw [View.read_apply]
  refine at_133 hm _ (tok (nOf t) a (rOf t)) h ?_
  show (win0_10.index t 0 * 128 + 1 * a.val) * 512 + (win0_10.index t 1 * 128 + 1 * h.val)
    = (((t.val % 8) * 128 + a.val) * 4 + t.val / 8) * 128 + h.val
  rw [hi.1, hi.2]
  omega

theorem blk_11 (t : Fin cfg0.N) (a : Fin 128) (h : H) :
    (iblk m c 11 t : FVec Ideal S128x128 .f32) (ix2 a (hcol h)) = ((X.dlt (tok (xOf t) a (rOf t)) h : ℝ) : EReal) := by
  have hi := idx_11 t
  have h32 := lt32 t
  unfold iblk
  rw [View.read_apply]
  refine at_133 hm _ (tok (xOf t) a (rOf t)) h ?_
  show (win0_11.index t 0 * 128 + 1 * a.val) * 512 + (win0_11.index t 1 * 128 + 1 * h.val)
    = (((min (t.val % 8 + 1) 7) * 128 + a.val) * 4 + t.val / 8) * 128 + h.val
  rw [hi.1, hi.2]
  omega

theorem blk_12 (t : Fin cfg0.N) (b : Fin 128) :
    (iblk m c 12 t : FVec Ideal S1x128 .f32) (ix2 (0 : Fin 1) b) = ((X.gq b : ℝ) : EReal) := by
  have hi := idx_12 t
  unfold iblk
  rw [View.read_apply]
  refine (congrArg (V m c main_v134) (funext fun a => Fin.ext ?_)).trans (at_134 hm b)
  match a with
  | ⟨0, _⟩ => show win0_12.index t 0 * 1 + 1 * 0 = 0; rw [hi.1]
  | ⟨1, _⟩ => show win0_12.index t 1 * 128 + 1 * b.val = b.val; rw [hi.2]; omega

theorem blk_13 (t : Fin cfg0.N) (b : Fin 128) :
    (iblk m c 13 t : FVec Ideal S1x128 .f32) (ix2 (0 : Fin 1) b) = ((X.gk b : ℝ) : EReal) := by
  have hi := idx_13 t
  unfold iblk
  rw [View.read_apply]
  refine (congrArg (V m c main_v135) (funext fun a => Fin.ext ?_)).trans (at_135 hm b)
  match a with
  | ⟨0, _⟩ => show win0_13.index t 0 * 1 + 1 * 0 = 0; rw [hi.1]
  | ⟨1, _⟩ => show win0_13.index t 1 * 128 + 1 * b.val = b.val; rw [hi.2]; omega

theorem blk_at (t : Fin cfg0.N) : Blk X (nOf t) (pOf t) (xOf t) (rOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  q0 := blk_0 hm t
  q1 := blk_1 hm t
  k0 := blk_2 hm t
  k1 := blk_3 hm t
  v0 := blk_4 hm t
  v1 := blk_5 hm t
  y0 := blk_6 hm t
  y1 := blk_7 hm t
  l0 := blk_8 hm t
  l1 := blk_9 hm t
  d0 := blk_10 hm t
  d1 := blk_11 hm t
  gq := blk_12 hm t
  gk := blk_13 hm t

end Points

end Attn

end
-- ==== Proof.Final.lean ====
module

public import proofs.«01_k».proof.Proof.Prep
public import proofs.«01_k».proof.Proof.Gen.KernelIdeal.Value
public import proofs.«01_k».proof.Proof.Gen.ReferenceIdeal.Run

/-! The kernel's five results are the reference's. -/

@[expose] public section

noncomputable section

namespace Attn

open Idealize.ShloMosaic Idealize.ShloMosaic.TcCoe Cert.KernelIdeal Cert.KernelIdeal.Gen Idealize.SL.Sem

section Points

variable {m : (ℓ : Loc nD τ sig) → Buf (Elt Ideal) ℓ} {c : Dev nD} {X : Inp} (hm : Holds X m c)
include hm

/-! ## What a grid point leaves -/

theorem left_14 (t : Fin cfg0.N) (a : Fin 128) (h : H) (e : E) :
    (outsAt0 m c t.val t.isLt).1 (ix2 a (col h e)) = ((X.dq (tok (nOf t) a (rOf t)) h e : ℝ) : EReal) := by
  have h32 := lt32 t
  by_cases h0 : t.val = 0
  · rw [outsAt0_A m c t (by omega) (by omega)]
    exact outA14 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hp_of t) (blk_at hm t) ((hcond0_0 t).mpr (by omega)) (fun h => absurd ((hcond0_1 t).mp h) (by omega)) a h e
  · rw [outsAt0_B m c t (by omega) (by omega)]
    exact outB14 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hp_of t) (blk_at hm t) (fun h => absurd ((hcond0_0 t).mp h) (by omega)) ((hcond0_1 t).mpr (by omega)) (outsAt0 m c (t.val - 1) (Nat.lt_of_le_of_lt (Nat.sub_le _ _) t.isLt)).2.2.2.1 (outsAt0 m c (t.val - 1) (Nat.lt_of_le_of_lt (Nat.sub_le _ _) t.isLt)).2.2.2.2 a h e

theorem left_15 (t : Fin cfg0.N) (a : Fin 128) (h : H) (e : E) :
    (outsAt0 m c t.val t.isLt).2.1 (ix2 a (col h e)) = ((X.dk (tok (nOf t) a (rOf t)) h e : ℝ) : EReal) := by
  have h32 := lt32 t
  by_cases h0 : t.val = 0
  · rw [outsAt0_A m c t (by omega) (by omega)]
    exact outA15 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) ((hcond0_0 t).mpr (by omega)) (fun h => absurd ((hcond0_1 t).mp h) (by omega)) a h e
  · rw [outsAt0_B m c t (by omega) (by omega)]
    exact outB15 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) (fun h => absurd ((hcond0_0 t).mp h) (by omega)) ((hcond0_1 t).mpr (by omega)) (outsAt0 m c (t.val - 1) (Nat.lt_of_le_of_lt (Nat.sub_le _ _) t.isLt)).2.2.2.1 (outsAt0 m c (t.val - 1) (Nat.lt_of_le_of_lt (Nat.sub_le _ _) t.isLt)).2.2.2.2 a h e

theorem left_16 (t : Fin cfg0.N) (a : Fin 128) (h : H) (e : E) :
    (outsAt0 m c t.val t.isLt).2.2.1 (ix2 a (col h e)) = ((X.dv (tok (nOf t) a (rOf t)) h e : ℝ) : EReal) := by
  have h32 := lt32 t
  by_cases h0 : t.val = 0
  · rw [outsAt0_A m c t (by omega) (by omega)]
    exact outA16 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) ((hcond0_0 t).mpr (by omega)) (fun h => absurd ((hcond0_1 t).mp h) (by omega)) a h e
  · rw [outsAt0_B m c t (by omega) (by omega)]
    exact outB16 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) (fun h => absurd ((hcond0_0 t).mp h) (by omega)) ((hcond0_1 t).mpr (by omega)) (outsAt0 m c (t.val - 1) (Nat.lt_of_le_of_lt (Nat.sub_le _ _) t.isLt)).2.2.2.1 (outsAt0 m c (t.val - 1) (Nat.lt_of_le_of_lt (Nat.sub_le _ _) t.isLt)).2.2.2.2 a h e

end Points

/-! ## The gradients of the gains, summed over the grid -/

section Gains

/-- The part of the `s`-th point. -/
def Inp.gqAt (X : Inp) (s : ℕ) (e : Fin 128) : ℝ := X.gqPart ⟨s % 8, by omega⟩ ⟨s / 8 % 4, by omega⟩ e
def Inp.gkAt (X : Inp) (s : ℕ) (e : Fin 128) : ℝ := X.gkPart ⟨s % 8, by omega⟩ ⟨s / 8 % 4, by omega⟩ e

theorem sum_points (f : Fin 8 → Fin 4 → ℝ) :
    ∑ s ∈ Finset.range 32, f ⟨s % 8, by omega⟩ ⟨s / 8 % 4, by omega⟩ = ∑ n, ∑ r, f n r := by
  rw [Finset.sum_range, Finset.sum_comm, ← Fintype.sum_prod_type', ← Equiv.sum_comp (finProdFinEquiv (m := 4) (n := 8))]
  refine Finset.sum_congr rfl fun x _ => ?_
  obtain ⟨r, n⟩ := x
  show f ⟨(n.val + 8 * r.val) % 8, _⟩ ⟨(n.val + 8 * r.val) / 8 % 4, _⟩ = f n r
  exact congr (congrArg f (Fin.ext (by show (n.val + 8 * r.val) % 8 = n.val; omega)))
    (Fin.ext (by show (n.val + 8 * r.val) / 8 % 4 = r.val; omega))

theorem sum_tok_heads (g : T → H → ℝ) :
    ∑ t, ∑ h, g t h = ∑ n, ∑ r, ∑ h, ∑ a, g (tok n a r) h := by
  rw [sum_tok]
  refine Finset.sum_congr rfl fun n _ => ?_
  rw [Finset.sum_comm]
  refine Finset.sum_congr rfl fun r _ => ?_
  rw [Finset.sum_comm]

theorem gq_all (X : Inp) (e : Fin 128) : ∑ s ∈ Finset.range 32, X.gqAt s e = X.dqg e := by
  unfold Inp.dqg
  rw [sum_tok_heads]
  exact sum_points fun n r => X.gqPart n r e

theorem gk_all (X : Inp) (e : Fin 128) : ∑ s ∈ Finset.range 32, X.gkAt s e = X.dkg e := by
  unfold Inp.dkg
  rw [sum_tok_heads]
  exact sum_points fun n r => X.gkPart n r e

variable {m : (ℓ : Loc nD τ sig) → Buf (Elt Ideal) ℓ} {c : Dev nD} {X : Inp} (hm : Holds X m c)
include hm

theorem left_17 (k : ℕ) : ∀ hk : k < cfg0.N, IsG (outsAt0 m c k hk).2.2.2.1 fun e => ∑ s ∈ Finset.range (k + 1), X.gqAt s e := by
  induction k with
  | zero =>
    intro hk
    obtain ⟨t, ht⟩ : ∃ t : Fin cfg0.N, t = ⟨0, hk⟩ := ⟨_, rfl⟩
    have h0 : t.val = 0 := by rw [ht]
    have hA := outA17 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hp_of t) (blk_at hm t) ((hcond0_0 t).mpr (by omega)) (fun h => absurd ((hcond0_1 t).mp h) (by omega))
    have hl : IsG (outsAt0 m c t.val t.isLt).2.2.2.1 fun e => X.gqPart (nOf t) (rOf t) e := by
      rw [outsAt0_A m c t (by omega) (by omega)]
      exact hA
    have hp : ∀ e, X.gqPart (nOf t) (rOf t) e = X.gqAt 0 e := fun e => by
      unfold Inp.gqAt
      rw [show nOf t = ⟨0 % 8, by omega⟩ from Fin.ext (by show t.val % 8 = 0 % 8; omega),
        show rOf t = ⟨0 / 8 % 4, by omega⟩ from Fin.ext (by show t.val / 8 = 0 / 8 % 4; omega)]
    subst ht
    intro e
    refine (hl e).trans ?_
    beta_reduce
    rw [Finset.sum_range_succ, Finset.sum_range_zero, zero_add, hp]
  | succ k ih =>
    intro hk
    have hN : cfg0.N = 32 := N_0
    obtain ⟨t, ht⟩ : ∃ t : Fin cfg0.N, t = ⟨k + 1, hk⟩ := ⟨_, rfl⟩
    have h0 : t.val = k + 1 := by rw [ht]
    have hprev : ∀ (j : ℕ) (hj : j < cfg0.N), j = k → IsG (outsAt0 m c j hj).2.2.2.1 fun e => ∑ s ∈ Finset.range (k + 1), X.gqAt s e := by
      intro j hj hjk
      subst hjk
      exact ih hj
    have hB := outB17 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hp_of t) (blk_at hm t) (fun h => absurd ((hcond0_0 t).mp h) (by omega)) ((hcond0_1 t).mpr (by omega))
      (outsAt0 m c (t.val - 1) (by omega)).2.2.2.1 (outsAt0 m c (t.val - 1) (by omega)).2.2.2.2
      (hprev (t.val - 1) (by omega) (by omega))
    have hl : IsG (outsAt0 m c t.val t.isLt).2.2.2.1 fun e => (∑ s ∈ Finset.range (k + 1), X.gqAt s e) + X.gqPart (nOf t) (rOf t) e := by
      rw [outsAt0_B m c t (by omega) (by omega)]
      exact hB
    have hp : ∀ e, X.gqPart (nOf t) (rOf t) e = X.gqAt (k + 1) e := fun e => by
      unfold Inp.gqAt
      rw [show nOf t = ⟨(k + 1) % 8, by omega⟩ from Fin.ext (by show t.val % 8 = (k + 1) % 8; omega),
        show rOf t = ⟨(k + 1) / 8 % 4, by omega⟩ from Fin.ext (by show t.val / 8 = (k + 1) / 8 % 4; omega)]
    subst ht
    intro e
    refine (hl e).trans ?_
    beta_reduce
    rw [Finset.sum_range_succ _ (k + 1), hp]

theorem left_18 (k : ℕ) : ∀ hk : k < cfg0.N, IsG (outsAt0 m c k hk).2.2.2.2 fun e => ∑ s ∈ Finset.range (k + 1), X.gkAt s e := by
  induction k with
  | zero =>
    intro hk
    obtain ⟨t, ht⟩ : ∃ t : Fin cfg0.N, t = ⟨0, hk⟩ := ⟨_, rfl⟩
    have h0 : t.val = 0 := by rw [ht]
    have hA := outA18 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) ((hcond0_0 t).mpr (by omega)) (fun h => absurd ((hcond0_1 t).mp h) (by omega))
    have hl : IsG (outsAt0 m c t.val t.isLt).2.2.2.2 fun e => X.gkPart (nOf t) (rOf t) e := by
      rw [outsAt0_A m c t (by omega) (by omega)]
      exact hA
    have hp : ∀ e, X.gkPart (nOf t) (rOf t) e = X.gkAt 0 e := fun e => by
      unfold Inp.gkAt
      rw [show nOf t = ⟨0 % 8, by omega⟩ from Fin.ext (by show t.val % 8 = 0 % 8; omega),
        show rOf t = ⟨0 / 8 % 4, by omega⟩ from Fin.ext (by show t.val / 8 = 0 / 8 % 4; omega)]
    subst ht
    intro e
    refine (hl e).trans ?_
    beta_reduce
    rw [Finset.sum_range_succ, Finset.sum_range_zero, zero_add, hp]
  | succ k ih =>
    intro hk
    have hN : cfg0.N = 32 := N_0
    obtain ⟨t, ht⟩ : ∃ t : Fin cfg0.N, t = ⟨k + 1, hk⟩ := ⟨_, rfl⟩
    have h0 : t.val = k + 1 := by rw [ht]
    have hprev : ∀ (j : ℕ) (hj : j < cfg0.N), j = k → IsG (outsAt0 m c j hj).2.2.2.2 fun e => ∑ s ∈ Finset.range (k + 1), X.gkAt s e := by
      intro j hj hjk
      subst hjk
      exact ih hj
    have hB := outB18 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t)
      (hn_of t) (hx_of t) (blk_at hm t) (fun h => absurd ((hcond0_0 t).mp h) (by omega)) ((hcond0_1 t).mpr (by omega))
      (outsAt0 m c (t.val - 1) (by omega)).2.2.2.1 (outsAt0 m c (t.val - 1) (by omega)).2.2.2.2
      (hprev (t.val - 1) (by omega) (by omega))
    have hl : IsG (outsAt0 m c t.val t.isLt).2.2.2.2 fun e => (∑ s ∈ Finset.range (k + 1), X.gkAt s e) + X.gkPart (nOf t) (rOf t) e := by
      rw [outsAt0_B m c t (by omega) (by omega)]
      exact hB
    have hp : ∀ e, X.gkPart (nOf t) (rOf t) e = X.gkAt (k + 1) e := fun e => by
      unfold Inp.gkAt
      rw [show nOf t = ⟨(k + 1) % 8, by omega⟩ from Fin.ext (by show t.val % 8 = (k + 1) % 8; omega),
        show rOf t = ⟨(k + 1) / 8 % 4, by omega⟩ from Fin.ext (by show t.val / 8 = (k + 1) / 8 % 4; omega)]
    subst ht
    intro e
    refine (hl e).trans ?_
    beta_reduce
    rw [Finset.sum_range_succ _ (k + 1), hp]

end Gains

/-! ## The arrays -/

section Arrays

variable {m : (ℓ : Loc nD τ sig) → Buf (Elt Ideal) ℓ} {c : Dev nD} {X : Inp} (hm : Holds X m c)

theorem idx_14 : ∀ t : Fin cfg0.N, win0_14.index t 0 = t.val % 8 ∧ win0_14.index t 1 = t.val / 8 :=
  (by decide +kernel : ∀ t : Fin grid0.N, win0_14.index t 0 = t.val % 8 ∧ win0_14.index t 1 = t.val / 8)
theorem idx_15 : ∀ t : Fin cfg0.N, win0_15.index t 0 = t.val % 8 ∧ win0_15.index t 1 = t.val / 8 :=
  (by decide +kernel : ∀ t : Fin grid0.N, win0_15.index t 0 = t.val % 8 ∧ win0_15.index t 1 = t.val / 8)
theorem idx_16 : ∀ t : Fin cfg0.N, win0_16.index t 0 = t.val % 8 ∧ win0_16.index t 1 = t.val / 8 :=
  (by decide +kernel : ∀ t : Fin grid0.N, win0_16.index t 0 = t.val % 8 ∧ win0_16.index t 1 = t.val / 8)
theorem idx_17 : ∀ t : Fin cfg0.N, win0_17.index t 0 = 0 ∧ win0_17.index t 1 = 0 :=
  (by decide +kernel : ∀ t : Fin grid0.N, win0_17.index t 0 = 0 ∧ win0_17.index t 1 = 0)
theorem idx_18 : ∀ t : Fin cfg0.N, win0_18.index t 0 = 0 ∧ win0_18.index t 1 = 0 :=
  (by decide +kernel : ∀ t : Fin grid0.N, win0_18.index t 0 = 0 ∧ win0_18.index t 1 = 0)

include hm

theorem final_14 : ((dats m 0 c).arrAt 14 cfg0.N : FVec Ideal S1024x4096 .bf16) = Cert.ReferenceIdeal.Read.val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  have h0 : (i 0).val < 1024 := (i 0).isLt
  have h1 : (i 1).val < 4096 := (i 1).isLt
  have hN : cfg0.N = 32 := N_0
  obtain ⟨t, ht⟩ : ∃ t : Fin cfg0.N, t.val = (i 1).val / 1024 * 8 + (i 0).val / 128 := ⟨⟨(i 1).val / 1024 * 8 + (i 0).val / 128, by omega⟩, rfl⟩
  obtain ⟨a, ha⟩ : ∃ a : Fin 128, a.val = (i 0).val % 128 := ⟨⟨(i 0).val % 128, by omega⟩, rfl⟩
  obtain ⟨h, hh⟩ : ∃ h : H, h.val = (i 1).val % 1024 / 128 := ⟨⟨(i 1).val % 1024 / 128, by omega⟩, rfl⟩
  obtain ⟨e, he⟩ : ∃ e : E, e.val = (i 1).val % 128 := ⟨⟨(i 1).val % 128, by omega⟩, rfl⟩
  have hi := idx_14 t
  have hr := r240 hm i (tok (nOf t) a (rOf t)) h e (by
    show (i 0).val * 4096 + (i 1).val = ((t.val % 8 * 128 + a.val) * 4 + t.val / 8) * 1024 + (h.val * 128 + e.val)
    omega)
  refine Eq.trans ?_ hr.symm
  have hb := congrFun (Value.blocks14 m c t (flush0_14 t)) (ix2 a (col h e))
  rw [View.read_apply] at hb
  refine Eq.trans ?_ (hb.trans ?_)
  · refine congrArg ((dats m 0 c).arrAt 14 cfg0.N) (funext fun b => Fin.ext ?_)
    match b with
    | ⟨0, _⟩ =>
      show (i 0).val = win0_14.index t 0 * 128 + 1 * a.val
      rw [hi.1]; omega
    | ⟨1, _⟩ =>
      show (i 1).val = win0_14.index t 1 * 1024 + 1 * (h.val * 128 + e.val)
      rw [hi.2]; omega
  · rw [Value.flushed14]
    exact left_14 hm t a h e

theorem final_15 : ((dats m 0 c).arrAt 15 cfg0.N : FVec Ideal S1024x4096 .bf16) = Cert.ReferenceIdeal.Read.val_main_v242 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  have h0 : (i 0).val < 1024 := (i 0).isLt
  have h1 : (i 1).val < 4096 := (i 1).isLt
  have hN : cfg0.N = 32 := N_0
  obtain ⟨t, ht⟩ : ∃ t : Fin cfg0.N, t.val = (i 1).val / 1024 * 8 + (i 0).val / 128 := ⟨⟨(i 1).val / 1024 * 8 + (i 0).val / 128, by omega⟩, rfl⟩
  obtain ⟨a, ha⟩ : ∃ a : Fin 128, a.val = (i 0).val % 128 := ⟨⟨(i 0).val % 128, by omega⟩, rfl⟩
  obtain ⟨h, hh⟩ : ∃ h : H, h.val = (i 1).val % 1024 / 128 := ⟨⟨(i 1).val % 1024 / 128, by omega⟩, rfl⟩
  obtain ⟨e, he⟩ : ∃ e : E, e.val = (i 1).val % 128 := ⟨⟨(i 1).val % 128, by omega⟩, rfl⟩
  have hi := idx_15 t
  have hr := r242 hm i (tok (nOf t) a (rOf t)) h e (by
    show (i 0).val * 4096 + (i 1).val = ((t.val % 8 * 128 + a.val) * 4 + t.val / 8) * 1024 + (h.val * 128 + e.val)
    omega)
  refine Eq.trans ?_ hr.symm
  have hb := congrFun (Value.blocks15 m c t (flush0_15 t)) (ix2 a (col h e))
  rw [View.read_apply] at hb
  refine Eq.trans ?_ (hb.trans ?_)
  · refine congrArg ((dats m 0 c).arrAt 15 cfg0.N) (funext fun b => Fin.ext ?_)
    match b with
    | ⟨0, _⟩ =>
      show (i 0).val = win0_15.index t 0 * 128 + 1 * a.val
      rw [hi.1]; omega
    | ⟨1, _⟩ =>
      show (i 1).val = win0_15.index t 1 * 1024 + 1 * (h.val * 128 + e.val)
      rw [hi.2]; omega
  · rw [Value.flushed15]
    exact left_15 hm t a h e

theorem final_16 : ((dats m 0 c).arrAt 16 cfg0.N : FVec Ideal S1024x4096 .bf16) = Cert.ReferenceIdeal.Read.val_main_v244 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  funext i
  have h0 : (i 0).val < 1024 := (i 0).isLt
  have h1 : (i 1).val < 4096 := (i 1).isLt
  have hN : cfg0.N = 32 := N_0
  obtain ⟨t, ht⟩ : ∃ t : Fin cfg0.N, t.val = (i 1).val / 1024 * 8 + (i 0).val / 128 := ⟨⟨(i 1).val / 1024 * 8 + (i 0).val / 128, by omega⟩, rfl⟩
  obtain ⟨a, ha⟩ : ∃ a : Fin 128, a.val = (i 0).val % 128 := ⟨⟨(i 0).val % 128, by omega⟩, rfl⟩
  obtain ⟨h, hh⟩ : ∃ h : H, h.val = (i 1).val % 1024 / 128 := ⟨⟨(i 1).val % 1024 / 128, by omega⟩, rfl⟩
  obtain ⟨e, he⟩ : ∃ e : E, e.val = (i 1).val % 128 := ⟨⟨(i 1).val % 128, by omega⟩, rfl⟩
  have hi := idx_16 t
  have hr := r244 hm i (tok (nOf t) a (rOf t)) h e (by
    show (i 0).val * 4096 + (i 1).val = ((t.val % 8 * 128 + a.val) * 4 + t.val / 8) * 1024 + (h.val * 128 + e.val)
    omega)
  refine Eq.trans ?_ hr.symm
  have hb := congrFun (Value.blocks16 m c t (flush0_16 t)) (ix2 a (col h e))
  rw [View.read_apply] at hb
  refine Eq.trans ?_ (hb.trans ?_)
  · refine congrArg ((dats m 0 c).arrAt 16 cfg0.N) (funext fun b => Fin.ext ?_)
    match b with
    | ⟨0, _⟩ =>
      show (i 0).val = win0_16.index t 0 * 128 + 1 * a.val
      rw [hi.1]; omega
    | ⟨1, _⟩ =>
      show (i 1).val = win0_16.index t 1 * 1024 + 1 * (h.val * 128 + e.val)
      rw [hi.2]; omega
  · rw [Value.flushed16]
    exact left_16 hm t a h e

theorem final_17 : ((dats m 0 c).arrAt 17 cfg0.N : FVec Ideal S1x128 .f32) = Cert.ReferenceIdeal.Read.val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hN : cfg0.N = 32 := N_0
  refine (dats m 0 c).arrAt_eq_of_cover 17 _ (fun t hf => ?_) (fun i => ?_)
  · have ht : t.val = 31 := by have := (flush0_17 t).mp hf; have := t.isLt; omega
    have hi := idx_17 t
    rw [Value.flushed17]
    funext j
    rw [View.read_apply]
    have hj : j = ix2 (0 : Fin 1) (j 1) := by
      funext b; apply Fin.ext
      match b with
      | ⟨0, _⟩ => have h : (j 0).val < 1 := (j 0).isLt; show (j 0).val = 0; omega
      | ⟨1, _⟩ => rfl
    have hl := left_17 hm t.val t.isLt (j 1)
    refine Eq.trans ?_ ((hl.trans (congrArg (fun z : ℝ => (z : EReal)) ?_)).trans (r245 hm _).symm)
    · exact congrArg (outsAt0 m c t.val t.isLt).2.2.2.1 hj
    · beta_reduce
      rw [ht]
      refine (gq_all X (j 1)).trans (congrArg X.dqg (Fin.ext ?_))
      show (j 1).val = win0_17.index t 1 * 128 + 1 * (j 1).val
      rw [hi.2]; omega
  · obtain ⟨t, ht⟩ : ∃ t : Fin cfg0.N, t.val = 31 := ⟨⟨31, by omega⟩, rfl⟩
    refine ⟨t, (flush0_17 t).mpr (by omega), ?_⟩
    have hi := idx_17 t
    show i ∈ ((View.whole main_v136_3).slice (win0_17.rect t)).set
    rw [View.set_slice_whole, Rect.mem_set_unit]
    intro b
    have h0 : (i 0 : Nat) < 1 := (i 0).isLt
    have h1 : (i 1 : Nat) < 128 := (i 1).isLt
    match b with
    | ⟨0, _⟩ =>
      show win0_17.index t 0 * 1 ≤ (i 0 : Nat) ∧ (i 0 : Nat) < win0_17.index t 0 * 1 + 1
      rw [hi.1]; omega
    | ⟨1, _⟩ =>
      show win0_17.index t 1 * 128 ≤ (i 1 : Nat) ∧ (i 1 : Nat) < win0_17.index t 1 * 128 + 128
      rw [hi.2]; omega

theorem final_18 : ((dats m 0 c).arrAt 18 cfg0.N : FVec Ideal S1x128 .f32) = Cert.ReferenceIdeal.Read.val_main_v246 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hN : cfg0.N = 32 := N_0
  refine (dats m 0 c).arrAt_eq_of_cover 18 _ (fun t hf => ?_) (fun i => ?_)
  · have ht : t.val = 31 := by have := (flush0_18 t).mp hf; have := t.isLt; omega
    have hi := idx_18 t
    rw [Value.flushed18]
    funext j
    rw [View.read_apply]
    have hj : j = ix2 (0 : Fin 1) (j 1) := by
      funext b; apply Fin.ext
      match b with
      | ⟨0, _⟩ => have h : (j 0).val < 1 := (j 0).isLt; show (j 0).val = 0; omega
      | ⟨1, _⟩ => rfl
    have hl := left_18 hm t.val t.isLt (j 1)
    refine Eq.trans ?_ ((hl.trans (congrArg (fun z : ℝ => (z : EReal)) ?_)).trans (r246 hm _).symm)
    · exact congrArg (outsAt0 m c t.val t.isLt).2.2.2.2 hj
    · beta_reduce
      rw [ht]
      refine (gk_all X (j 1)).trans (congrArg X.dkg (Fin.ext ?_))
      show (j 1).val = win0_18.index t 1 * 128 + 1 * (j 1).val
      rw [hi.2]; omega
  · obtain ⟨t, ht⟩ : ∃ t : Fin cfg0.N, t.val = 31 := ⟨⟨31, by omega⟩, rfl⟩
    refine ⟨t, (flush0_18 t).mpr (by omega), ?_⟩
    have hi := idx_18 t
    show i ∈ ((View.whole main_v136_4).slice (win0_18.rect t)).set
    rw [View.set_slice_whole, Rect.mem_set_unit]
    intro b
    have h0 : (i 0 : Nat) < 1 := (i 0).isLt
    have h1 : (i 1 : Nat) < 128 := (i 1).isLt
    match b with
    | ⟨0, _⟩ =>
      show win0_18.index t 0 * 1 ≤ (i 0 : Nat) ∧ (i 0 : Nat) < win0_18.index t 0 * 1 + 1
      rw [hi.1]; omega
    | ⟨1, _⟩ =>
      show win0_18.index t 1 * 128 ≤ (i 1 : Nat) ∧ (i 1 : Nat) < win0_18.index t 1 * 128 + 128
      rw [hi.2]; omega

end Arrays

end Attn

end
-- ==== Proof.Dxn.lean ====
module

public import proofs.«01_k».proof.Proof.Gen.Kernel2Ideal.Value
public import proofs.«01_k».proof.Proof.Gen.Reference2Ideal.Read
public import Idealize.ShloMosaic.Lib.Pointwise
public import Idealize.ShloMosaic.Lib.ValueLayout
public import Idealize.ShloMosaic.Lib.Pipeline.ValueKit
public import Idealize.ShloMosaic.Lib.Pipeline.ReadBack

/-! The gradient at the normalised input: a run of eleven grid points adds up, in a scratch array, the two products
    over eleven slices of the hidden width, and its last point stores the sum; the blocks together are the reference's
    array, whose two products run over the whole width. -/

@[expose] public section

set_option maxRecDepth 16384

noncomputable section

namespace Dxn

open Cert.Kernel2Ideal Cert.Kernel2Ideal.Gen Idealize.ShloMosaic Idealize.ShloMosaic.TcCoe Idealize.SL.Sem

variable (m : (ℓ : Loc nD τ sig) → Buf (Elt Ideal) ℓ)

/-- One slice's contribution: a row of a gradient's block against a row of a weight's block, for both pairs. -/
def part (x0 : FVec Ideal S1024x512 .bf16) (x1 : FVec Ideal S2048x512 .bf16) (x2 : FVec Ideal S1024x512 .bf16)
    (x3 : FVec Ideal S2048x512 .bf16) (j : S1024x2048.Idx) : EReal :=
  (∑ k : Fin 512, x0 (ix2 (j 0) k) * x1 (ix2 (j 1) k)) + ∑ k : Fin 512, x2 (ix2 (j 0) k) * x3 (ix2 (j 1) k)

theorem pay1_apply (x0 : FVec Ideal S1024x512 .bf16) (x1 : FVec Ideal S2048x512 .bf16) (x2 : FVec Ideal S1024x512 .bf16)
    (x3 : FVec Ideal S2048x512 .bf16) (j : S1024x2048.Idx) :
    k0_pay1 (F := Ideal) x0 x1 x2 x3 j = part x0 x1 x2 x3 j := by
  unfold part
  pointwise [k0_pay1]

theorem pay2_apply (acc : FVec Ideal S1024x2048 .f32) (x0 : FVec Ideal S1024x512 .bf16) (x1 : FVec Ideal S2048x512 .bf16)
    (x2 : FVec Ideal S1024x512 .bf16) (x3 : FVec Ideal S2048x512 .bf16) (j : S1024x2048.Idx) :
    k0_pay2 (F := Ideal) acc x0 x1 x2 x3 j = acc j + part x0 x1 x2 x3 j := by
  unfold part
  pointwise [k0_pay2]

theorem pay3_apply (acc : FVec Ideal S1024x2048 .f32) (z : FVec Ideal S1x1 .f32) (j : S1024x2048.Idx) :
    k0_pay3 (F := Ideal) acc z j = acc j + z (ix2 ⟨0, by decide⟩ ⟨0, by decide⟩) := by
  pointwise [k0_pay3]

/-- Which block of its array each window holds at each grid point. -/
theorem idx : ∀ t : Fin cfg0.N, win0_0.index t = ![t.val / 11, t.val % 11] ∧ win0_1.index t = ![0, t.val % 11]
    ∧ win0_2.index t = ![t.val / 11, t.val % 11] ∧ win0_3.index t = ![0, t.val % 11] ∧ win0_4.index t = ![0, 0]
    ∧ win0_5.index t = ![t.val / 11, 0] :=
  (by decide +kernel : ∀ t : Fin grid0.N, _)

/-- The number added to the sum is zero. -/
theorem added (c : Dev nD) (t : Fin cfg0.N) (j : S8x128.Idx) : @Eq EReal (iblk m c 4 t j) (Ideal.ofBits .f32 0x00000000#32) := by
  unfold iblk
  rw [View.read_apply]
  entry_read
  rfl

/-- What a grid point leaves in the scratch array. -/
def acc (c : Dev nD) (n : Nat) (h : n < cfg0.N) : S1024x2048.Idx → EReal := (outsAt0 m c n h).2

theorem acc_first (c : Dev nD) (t : Fin cfg0.N) (h : t.val % 11 = 0) (j : S1024x2048.Idx) :
    acc m c t.val t.isLt j = 0 + part (iblk m c 0 t) (iblk m c 1 t) (iblk m c 2 t) (iblk m c 3 t) j := by
  unfold acc
  rw [outsAt0_A m c t h (by omega) (by omega)]
  frame_out
  rw [pay1_apply, zero_add]

theorem acc_next (c : Dev nD) (t : Fin cfg0.N) (h : ¬t.val % 11 = 0) (j : S1024x2048.Idx) :
    acc m c t.val t.isLt j = acc m c (t.val - 1) (Nat.lt_of_le_of_lt (Nat.sub_le _ _) t.isLt) j
      + part (iblk m c 0 t) (iblk m c 1 t) (iblk m c 2 t) (iblk m c 3 t) j := by
  unfold acc
  by_cases h2 : t.val % 11 = 10
  · rw [outsAt0_C m c t h (by omega) h2]
    frame_out
    rw [pay2_apply]
    exact congrArg (· + _) (congrFun (read_unread_whole cc0_scratch0 _ _) j)
  · rw [outsAt0_B m c t h (by omega) h2]
    frame_out
    rw [pay2_apply]
    exact congrArg (· + _) (congrFun (read_unread_whole cc0_scratch0 _ _) j)

/-- What the last point of a run stores is what it leaves in the scratch array. -/
theorem stored (c : Dev nD) (t : Fin cfg0.N) (h : t.val % 11 = 10) (j : S1024x2048.Idx) :
    @Eq EReal ((outsAt0 m c t.val t.isLt).1 j) (acc m c t.val t.isLt j) := by
  unfold acc
  rw [outsAt0_C m c t (by omega) (by omega) h]
  frame_out
  rw [pay3_apply]
  refine (congrArg (_ + ·) ((added m c t _).trans (by simp [Ideal.ofBits, Ideal.ieee] : Ideal.ofBits .f32 0x00000000#32 = (0 : EReal)))).trans (add_zero _)

/-- One pair's product over the whole width. -/
def whole (X : FVec Ideal S4096x5632 .bf16) (W : FVec Ideal S2048x5632 .bf16) (i : S4096x2048.Idx) : EReal :=
  ∑ k : Fin 5632, X (ix2 (i 0) k) * W (ix2 (i 1) k)

theorem ref9 (X0 X1 : FVec Ideal S4096x5632 .bf16) (X2 X3 : FVec Ideal S2048x5632 .bf16) (i : S4096x2048.Idx) :
    Cert.Reference2Ideal.Read.val_main_v9 (F := Ideal) X0 X1 X2 X3 i = whole X0 X2 i + whole X1 X3 i := by
  have e : @Eq EReal (Cert.Reference2Ideal.Read.val_main_v9 (F := Ideal) X0 X1 X2 X3 i)
      (Cert.Reference2Ideal.Read.val_main_v7 (F := Ideal) X1 X3 i + Cert.Reference2Ideal.Read.val_main_v8 (F := Ideal) X0 X2 i) := rfl
  refine e.trans ((add_comm _ _).trans ?_)
  refine congrArg₂ (· + ·) ((Cert.Reference2Ideal.Read.val_main_v8_apply X0 X2 i).trans ?_)
    ((Cert.Reference2Ideal.Read.val_main_v7_apply X1 X3 i).trans ?_)
  · refine Finset.sum_congr rfl fun k _ => congrArg₂ (· * ·) (congrArg X0 ?_) (congrArg X2 ?_)
    · funext a; match a with | ⟨0, _⟩ => rfl | ⟨1, _⟩ => rfl
    · funext a; match a with | ⟨0, _⟩ => rfl | ⟨1, _⟩ => rfl
  · refine Finset.sum_congr rfl fun k _ => congrArg₂ (· * ·) (congrArg X1 ?_) (congrArg X3 ?_)
    · funext a; match a with | ⟨0, _⟩ => rfl | ⟨1, _⟩ => rfl
    · funext a; match a with | ⟨0, _⟩ => rfl | ⟨1, _⟩ => rfl

theorem final (c : Dev nD) : (dats m 0 c).arrAt 5 cfg0.N
    = Cert.Reference2Ideal.Read.val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hr : t.val % 11 = 10 := (flush0_5 t).mp hf
  blk_simp
  rw [after0_5]
  refine (stored m c t hr y).trans ((Pipeline.eq_sum_fin_of_reset_step_apply_of_flush (acc m c) 11 (fun _ => 0)
    (fun p j => part (iblk m c 0 p) (iblk m c 1 p) (iblk m c 2 p) (iblk m c 3 p) j)
    (acc_first m c) (acc_next m c) t hr y).trans ((zero_add _).trans (Eq.trans ?_ (ref9 _ _ _ _ _).symm)))
  unfold part whole
  rw [Finset.sum_add_distrib]
  refine congrArg₂ (· + ·) ?_ ?_
  · refine Fin.sum_mul_add_congr fun s k hl => ?_
    blk_point [iblk, V, idx t, idx ⟨_, Pipeline.run_point_lt_of_flush t hr s⟩]
  · refine Fin.sum_mul_add_congr fun s k hl => ?_
    blk_point [iblk, V, idx t, idx ⟨_, Pipeline.run_point_lt_of_flush t hr s⟩]

end Dxn

end
-- ==== Proof.Dh.lean ====
module

public import proofs.«01_k».proof.Proof.Gen.Kernel3Ideal.Value
public import proofs.«01_k».proof.Proof.Gen.Reference3Ideal.Read
public import proofs.«01_k».proof.Proof.Coe
public import Idealize.ShloMosaic.Lib.Pointwise
public import Idealize.ShloMosaic.Lib.ValueLayout
public import Idealize.ShloMosaic.Lib.Pipeline.ValueKit

/-! The gradients at the gate: every block holds the hidden gradient times the two partial derivatives of the gate,
    written in two column halves; at finite arguments the blocks together are the reference's two arrays. -/

@[expose] public section

set_option maxRecDepth 16384

noncomputable section

namespace Dh

open Cert.Kernel3Ideal Cert.Kernel3Ideal.Gen Idealize.ShloMosaic Idealize.ShloMosaic.TcCoe Idealize.SL.Sem

variable (m : (ℓ : Loc nD τ sig) → Buf (Elt Ideal) ℓ)

/-- The logistic function as the kernel forms it. -/
def lgt (a : EReal) : EReal :=
  Ideal.div (Ideal.ofBits .f32 0x3F800000#32) (Ideal.ofBits .f32 0x3F800000#32 + Ideal.exp (Ideal.ofBits .f32 0x00000000#32 - a))

/-- The gradient at the first projection, of the hidden gradient and the two projections. -/
def toA (d a b : EReal) : EReal :=
  d * b * (lgt a * (Ideal.ofBits .f32 0x3F800000#32 + a * (Ideal.ofBits .f32 0x3F800000#32 - lgt a)))

/-- The gradient at the second projection, of the hidden gradient and the first projection. -/
def toB (d a : EReal) : EReal := d * (a * lgt a)

/-- Half the product of a row of one block and a row of another, and the number added to it. -/
def part (x : FVec Ideal S1024x2048 .bf16) (w : FVec Ideal S512x2048 .bf16) (z : FVec Ideal S8x128 .f32) (y : S1024x512.Idx) : EReal :=
  Ideal.ofBits .f32 0x3F000000#32 * (∑ k : Fin 2048, x (ix2 (y 0) k) * w (ix2 (y 1) k)) + z (ix2 ⟨0, by decide⟩ ⟨0, by decide⟩)

/-- Half the product of a row of one array and a row of another. -/
def whole (x : FVec Ideal S4096x2048 .bf16) (w : FVec Ideal S5632x2048 .bf16) (i : S4096x5632.Idx) : EReal :=
  Ideal.ofBits .f32 0x3F000000#32 * (∑ k : Fin 2048, x (ix2 (i 0) k) * w (ix2 (i 1) k))

theorem out5 (x0 : FVec Ideal S1024x2048 .bf16) (x1 : FVec Ideal S512x2048 .bf16) (x2 x3 : FVec Ideal S1024x512 .bf16)
    (x4 : FVec Ideal S8x128 .f32) (y : S1024x512.Idx) :
    out0_5 (F := Ideal) x0 x1 x2 x3 x4 y = toA (part x0 x1 x4 y) (x2 y) (x3 y) := by
  unfold toA lgt part
  canon_tiles x h
  all_goals (open_payloads; pointwise; blk_point)

theorem out6 (x0 : FVec Ideal S1024x2048 .bf16) (x1 : FVec Ideal S512x2048 .bf16) (x2 x3 : FVec Ideal S1024x512 .bf16)
    (x4 : FVec Ideal S8x128 .f32) (y : S1024x512.Idx) :
    out0_6 (F := Ideal) x0 x1 x2 x3 x4 y = toB (part x0 x1 x4 y) (x2 y) := by
  unfold toB lgt part
  canon_tiles x h
  all_goals (open_payloads; pointwise; blk_point)

/-- Which block of its array each window holds at each grid point. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11] ∧ win0_4.index t = ![0, 0]
    ∧ win0_5.index t = ![t.val / 11, t.val % 11] ∧ win0_6.index t = ![t.val / 11, t.val % 11] :=
  (by decide +kernel : ∀ t : Fin grid0.N, _)

/-- The number added to every product is zero. -/
theorem added (c : Dev nD) (t : Fin cfg0.N) (j : S8x128.Idx) : @Eq EReal (iblk m c 4 t j) (Ideal.ofBits .f32 0x00000000#32) := by
  unfold iblk
  rw [View.read_apply]
  entry_read
  rfl

theorem part_eq (c : Dev nD) (t : Fin cfg0.N) (y : S1024x512.Idx) (i : S4096x5632.Idx)
    (h0 : (i 0 : ℕ) = t.val / 11 * 1024 + y 0) (h1 : (i 1 : ℕ) = t.val % 11 * 512 + y 1) :
    part (iblk m c 0 t) (iblk m c 1 t) (iblk m c 4 t) y = whole (m ((c : Thread nD τ).loc main_arg0)) (m ((c : Thread nD τ).loc main_arg1)) i := by
  unfold part whole
  refine Eq.trans (congrArg (_ + ·) ((added m c t _).trans Attn.c_zero)) ?_
  rw [EReal.coe_zero, add_zero]
  blk_point [iblk, V, idx t]

theorem at2 (c : Dev nD) (t : Fin cfg0.N) (y : S1024x512.Idx) (i : S4096x5632.Idx)
    (h0 : (i 0 : ℕ) = t.val / 11 * 1024 + y 0) (h1 : (i 1 : ℕ) = t.val % 11 * 512 + y 1) :
    (show FVec Ideal S1024x512 .bf16 from iblk m c 2 t) y = m ((c : Thread nD τ).loc main_arg2) i := by
  blk_point [iblk, V, idx t]

theorem at3 (c : Dev nD) (t : Fin cfg0.N) (y : S1024x512.Idx) (i : S4096x5632.Idx)
    (h0 : (i 0 : ℕ) = t.val / 11 * 1024 + y 0) (h1 : (i 1 : ℕ) = t.val % 11 * 512 + y 1) :
    (show FVec Ideal S1024x512 .bf16 from iblk m c 3 t) y = m ((c : Thread nD τ).loc main_arg3) i := by
  blk_point [iblk, V, idx t]

theorem c_half : Ideal.ofBits .f32 0x3F000000#32 = (((1 / 2 : ℝ) : ℝ) : EReal) := by
  refine Attn.c_s0.trans (congrArg _ ?_)
  norm_num [Attn.slope]

theorem lgt_neg (a : EReal) : lgt a
    = Ideal.div (Ideal.ofBits .f32 0x3F800000#32) (Ideal.ofBits .f32 0x3F800000#32 + Ideal.exp (-a)) := by
  unfold lgt
  rw [Attn.c_zero, EReal.coe_zero, sub_eq_add_neg, zero_add]

theorem lgt_real (a : ℝ) : ∃ s : ℝ, lgt (a : EReal) = (s : EReal) := by
  refine ⟨1 / (1 + Real.exp (-a)), ?_⟩
  rw [lgt_neg, Attn.neg_real, Ideal.exp_coe, Attn.c_one, Attn.add_real, Attn.div_real]
  positivity

section Reference

variable {X : FVec Ideal S4096x2048 .bf16} {W : FVec Ideal S5632x2048 .bf16} {A B : FVec Ideal S4096x5632 .bf16}

theorem whole_real (hX : ∀ i, X i = (((X i).toReal : ℝ) : EReal)) (hW : ∀ i, W i = (((W i).toReal : ℝ) : EReal))
    (i : S4096x5632.Idx) :
    whole X W i = ((1 / 2 * ∑ k : Fin 2048, (X (ix2 (i 0) k)).toReal * (W (ix2 (i 1) k)).toReal : ℝ) : EReal) := by
  unfold whole
  rw [c_half, Attn.sum_eq_real (g := fun k : Fin 2048 => (X (ix2 (i 0) k)).toReal * (W (ix2 (i 1) k)).toReal), Attn.mul_real]
  intro k
  rw [← Attn.mul_real, ← hX, ← hW]

theorem ref11 (hX : ∀ i, X i = (((X i).toReal : ℝ) : EReal)) (hW : ∀ i, W i = (((W i).toReal : ℝ) : EReal))
    (i : S4096x5632.Idx) :
    Cert.Reference3Ideal.Read.val_main_v11 (F := Ideal) X W i = whole X W i := by
  have hl : ∀ k : Fin 2048, Cert.Reference3Ideal.Read.lidx_main_v11 i k = ix2 (i 0) k := fun k => by
    funext a; match a with | ⟨0, _⟩ => rfl | ⟨1, _⟩ => rfl
  have hr : ∀ k : Fin 2048, Cert.Reference3Ideal.Read.ridx_main_v11 i k = ix2 (i 1) k := fun k => by
    funext a; match a with | ⟨0, _⟩ => rfl | ⟨1, _⟩ => rfl
  refine (Cert.Reference3Ideal.Read.val_main_v11_apply X W i).trans ?_
  rw [whole_real hX hW, Finset.mul_sum]
  refine Attn.sum_eq_real fun k => ?_
  rw [hl, hr, ← Attn.mul_real, ← Attn.mul_real, ← hX, ← hW, ← c_half, ← mul_assoc]
  refine congrArg₂ (· * ·) ?_ rfl
  exact congrArg (fun z : EReal => z * X (ix2 (i 0) k)) (Cert.Reference3Ideal.Read.val_main_v9_apply (F := Ideal) (ix2 (i 0) k))

theorem ref15 (hX : ∀ i, X i = (((X i).toReal : ℝ) : EReal)) (hW : ∀ i, W i = (((W i).toReal : ℝ) : EReal))
    (hA : ∀ i, A i = (((A i).toReal : ℝ) : EReal)) (hB : ∀ i, B i = (((B i).toReal : ℝ) : EReal)) (i : S4096x5632.Idx) :
    Cert.Reference3Ideal.Read.val_main_v15 (F := Ideal) X W A B i = toA (whole X W i) (A i) (B i) := by
  have e : Cert.Reference3Ideal.Read.val_main_v15 (F := Ideal) X W A B i
      = Cert.Reference3Ideal.Read.val_main_v11 (F := Ideal) X W i * B i * lgt (A i)
        + A i * (Cert.Reference3Ideal.Read.val_main_v11 (F := Ideal) X W i * B i)
          * (lgt (A i) * (Ideal.ofBits .f32 0x3F800000#32 - lgt (A i))) := by
    rw [lgt_neg]
    rfl
  obtain ⟨s, hs⟩ := lgt_real (A i).toReal
  rw [e, ref11 hX hW, whole_real hX hW]
  unfold toA
  rw [hA i, hB i, hs, Attn.c_one]
  simp only [Attn.mul_real, Attn.add_real, Attn.sub_real]
  congr 1
  ring

theorem ref16 (hX : ∀ i, X i = (((X i).toReal : ℝ) : EReal)) (hW : ∀ i, W i = (((W i).toReal : ℝ) : EReal))
    (i : S4096x5632.Idx) :
    Cert.Reference3Ideal.Read.val_main_v16 (F := Ideal) X W A i = toB (whole X W i) (A i) := by
  unfold toB
  rw [← ref11 hX hW, mul_comm, lgt_neg]
  rfl

end Reference

theorem final5 (c : Dev nD)
    (h0 : ∀ i, (show FVec Ideal S4096x2048 .bf16 from m ((c : Thread nD τ).loc main_arg0)) i = ((((show FVec Ideal S4096x2048 .bf16 from m ((c : Thread nD τ).loc main_arg0)) i).toReal : ℝ) : EReal))
    (h1 : ∀ i, (show FVec Ideal S5632x2048 .bf16 from m ((c : Thread nD τ).loc main_arg1)) i = ((((show FVec Ideal S5632x2048 .bf16 from m ((c : Thread nD τ).loc main_arg1)) i).toReal : ℝ) : EReal))
    (h2 : ∀ i, (show FVec Ideal S4096x5632 .bf16 from m ((c : Thread nD τ).loc main_arg2)) i = ((((show FVec Ideal S4096x5632 .bf16 from m ((c : Thread nD τ).loc main_arg2)) i).toReal : ℝ) : EReal))
    (h3 : ∀ i, (show FVec Ideal S4096x5632 .bf16 from m ((c : Thread nD τ).loc main_arg3)) i = ((((show FVec Ideal S4096x5632 .bf16 from m ((c : Thread nD τ).loc main_arg3)) i).toReal : ℝ) : EReal)) :
    (dats m 0 c).arrAt 5 cfg0.N
    = Cert.Reference3Ideal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out5]
  refine Eq.trans ?_ (ref15 h0 h1 h2 h3 _).symm
  refine congr (congrArg₂ toA (part_eq m c t y _ ?_ ?_) (at2 m c t y _ ?_ ?_)) (at3 m c t y _ ?_ ?_)
  all_goals (blk_simp [idx t] <;> try omega)

theorem final6 (c : Dev nD)
    (h0 : ∀ i, (show FVec Ideal S4096x2048 .bf16 from m ((c : Thread nD τ).loc main_arg0)) i = ((((show FVec Ideal S4096x2048 .bf16 from m ((c : Thread nD τ).loc main_arg0)) i).toReal : ℝ) : EReal))
    (h1 : ∀ i, (show FVec Ideal S5632x2048 .bf16 from m ((c : Thread nD τ).loc main_arg1)) i = ((((show FVec Ideal S5632x2048 .bf16 from m ((c : Thread nD τ).loc main_arg1)) i).toReal : ℝ) : EReal)) :
    (dats m 0 c).arrAt 6 cfg0.N
    = Cert.Reference3Ideal.Read.val_main_v16 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, out6]
  refine Eq.trans ?_ (ref16 h0 h1 _).symm
  refine congrArg₂ toB (part_eq m c t y _ ?_ ?_) (at2 m c t y _ ?_ ?_)
  all_goals (blk_simp [idx t] <;> try omega)

end Dh

end
-- ==== Proof.Up.lean ====
module

public import proofs.«01_k».proof.Proof.Gen.Kernel4Ideal.Value
public import proofs.«01_k».proof.Proof.Gen.Reference4Ideal.Read
public import Idealize.ShloMosaic.Lib.Pointwise
public import Idealize.ShloMosaic.Lib.ValueLayout
public import Idealize.ShloMosaic.Lib.Pipeline.ValueKit

/-! The up projections: every block holds two products and their gate, written in two column halves; the blocks
    together are the reference's three arrays. -/

@[expose] public section

set_option maxRecDepth 16384

noncomputable section

namespace Up

open Cert.Kernel4Ideal Cert.Kernel4Ideal.Gen Idealize.ShloMosaic Idealize.ShloMosaic.TcCoe Idealize.SL.Sem

variable (m : (ℓ : Loc nD τ sig) → Buf (Elt Ideal) ℓ)

/-- The gate the kernel forms of two projections. -/
def gate (a b : EReal) : EReal :=
  a * (Ideal.div (Ideal.ofBits .f32 0x3F800000#32) (Ideal.ofBits .f32 0x3F800000#32 + Ideal.exp (Ideal.ofBits .f32 0x00000000#32 - a))) * b

/-- The row of one block against the column of another. -/
def part (x : FVec Ideal S1024x2048 .bf16) (w : FVec Ideal S2048x512 .bf16) (y : S1024x512.Idx) : EReal :=
  ∑ k : Fin 2048, x (ix2 (y 0) k) * w (ix2 k (y 1))

/-- The row of one array against the column of another. -/
def whole (x : FVec Ideal S4096x2048 .bf16) (w : FVec Ideal S2048x5632 .bf16) (i : S4096x5632.Idx) : EReal :=
  ∑ k : Fin 2048, x (ix2 (i 0) k) * w (ix2 k (i 1))

theorem half_apply (x : FVec Ideal S1024x2048 .bf16) (w : FVec Ideal S2048x256 .bf16) (j : S1024x256.Idx) :
    k0_pay2 (F := Ideal) x w j = ∑ k : Fin 2048, x (ix2 (j 0) k) * w (ix2 k (j 1)) := by
  pointwise [k0_pay2]

theorem c_zero_sub (a : EReal) : Ideal.ofBits .f32 0x00000000#32 - a = -a := by
  rw [show Ideal.ofBits .f32 0x00000000#32 = (0 : EReal) by simp [Ideal.ofBits, Ideal.ieee], sub_eq_add_neg, zero_add]

theorem out3 (x0 : FVec Ideal S1024x2048 .bf16) (x1 x2 : FVec Ideal S2048x512 .bf16) (y : S1024x512.Idx) :
    out0_3 (F := Ideal) x0 x1 x2 y = part x0 x1 y := by
  unfold part
  canon_tiles x h
  all_goals (open_payloads; pointwise; blk_point)

theorem out4 (x0 : FVec Ideal S1024x2048 .bf16) (x1 x2 : FVec Ideal S2048x512 .bf16) (y : S1024x512.Idx) :
    out0_4 (F := Ideal) x0 x1 x2 y = part x0 x2 y := by
  unfold part
  canon_tiles x h
  all_goals (open_payloads; pointwise; blk_point)

theorem out5 (x0 : FVec Ideal S1024x2048 .bf16) (x1 x2 : FVec Ideal S2048x512 .bf16) (y : S1024x512.Idx) :
    out0_5 (F := Ideal) x0 x1 x2 y = gate (part x0 x1 y) (part x0 x2 y) := by
  unfold gate part
  canon_tiles x h
  all_goals (open_payloads; pointwise; blk_point)

/-- Which block of its array each window holds at each grid point. -/
theorem idx : ∀ t : Fin cfg0.N, win0_0.index t = ![t.val / 11, 0] ∧ win0_1.index t = ![0, t.val % 11]
    ∧ win0_2.index t = ![0, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

theorem ref2 (X : FVec Ideal S4096x2048 .bf16) (W : FVec Ideal S2048x5632 .bf16) (i : S4096x5632.Idx) :
    Cert.Reference4Ideal.Read.val_main_v2 (F := Ideal) X W i = whole X W i := by
  refine (Cert.Reference4Ideal.Read.val_main_v2_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem ref5 (X : FVec Ideal S4096x2048 .bf16) (W : FVec Ideal S2048x5632 .bf16) (i : S4096x5632.Idx) :
    Cert.Reference4Ideal.Read.val_main_v5 (F := Ideal) X W i = whole X W i := ref2 X W i

theorem ref10 (X : FVec Ideal S4096x2048 .bf16) (W V : FVec Ideal S2048x5632 .bf16) (i : S4096x5632.Idx) :
    Cert.Reference4Ideal.Read.val_main_v10 (F := Ideal) X W V i = gate (whole X W i) (whole X V i) := by
  unfold gate
  rw [c_zero_sub, ← ref2, ← ref5]
  rfl

theorem part_eq (c : Dev nD) (t : Fin cfg0.N) (y : S1024x512.Idx) (i : S4096x5632.Idx)
    (h0 : (i 0 : ℕ) = t.val / 11 * 1024 + y 0) (h1 : (i 1 : ℕ) = t.val % 11 * 512 + y 1) :
    part (iblk m c 0 t) (iblk m c 1 t) y = whole (m ((c : Thread nD τ).loc main_arg0)) (m ((c : Thread nD τ).loc main_arg1)) i := by
  unfold part whole
  blk_point [iblk, V, idx t]

theorem part_eq' (c : Dev nD) (t : Fin cfg0.N) (y : S1024x512.Idx) (i : S4096x5632.Idx)
    (h0 : (i 0 : ℕ) = t.val / 11 * 1024 + y 0) (h1 : (i 1 : ℕ) = t.val % 11 * 512 + y 1) :
    part (iblk m c 0 t) (iblk m c 2 t) y = whole (m ((c : Thread nD τ).loc main_arg0)) (m ((c : Thread nD τ).loc main_arg2)) i := by
  unfold part whole
  blk_point [iblk, V, idx t]

theorem final3 (c : Dev nD) : (dats m 0 c).arrAt 3 cfg0.N
    = Cert.Reference4Ideal.Read.val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3, out3]
  refine (part_eq m c t y _ ?_ ?_).trans (ref2 _ _ _).symm
  all_goals (blk_simp [idx t] <;> try omega)

theorem final4 (c : Dev nD) : (dats m 0 c).arrAt 4 cfg0.N
    = Cert.Reference4Ideal.Read.val_main_v7 (F := Ideal) (m ((c : Thread nD τ).loc main_arg0)) (m ((c : Thread nD τ).loc main_arg2)) := by
  refine (dats m 0 c).arrAt_eq_of_covers 4 _ (by decide +kernel) fun t _ y => ?_
  blk_simp
  rw [after0_4, out4]
  refine (part_eq' m c t y _ ?_ ?_).trans (ref5 _ _ _).symm
  all_goals (blk_simp [idx t] <;> try omega)

theorem final5 (c : Dev nD) : (dats m 0 c).arrAt 5 cfg0.N
    = Cert.Reference4Ideal.Read.val_main_v10 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, out5]
  refine (congrArg₂ gate (part_eq m c t y _ ?_ ?_) (part_eq' m c t y _ ?_ ?_)).trans (ref10 _ _ _ _).symm
  all_goals (blk_simp [idx t] <;> try omega)

end Up

end
-- ==== Proof.Down.lean ====
module

public import proofs.«01_k».proof.Proof.Gen.Kernel5Ideal.Value
public import proofs.«01_k».proof.Proof.Gen.Reference5Ideal.Read
public import Idealize.ShloMosaic.Lib.Pointwise
public import Idealize.ShloMosaic.Lib.ValueLayout
public import Idealize.ShloMosaic.Lib.Pipeline.ValueKit

/-! The down projection: every block of the result is the residual plus half a product of a row block and a column
    block, so the blocks together are the reference's array. -/

@[expose] public section

set_option maxRecDepth 16384

noncomputable section

namespace Down

open Cert.Kernel5Ideal Cert.Kernel5Ideal.Gen Idealize.ShloMosaic Idealize.ShloMosaic.TcCoe Idealize.SL.Sem

variable (m : (ℓ : Loc nD τ sig) → Buf (Elt Ideal) ℓ)

/-- What the down projection is to return. -/
abbrev goal (H : FVec Ideal S4096x5632 .bf16) (W : FVec Ideal S5632x2048 .bf16) (X : FVec Ideal S4096x2048 .f32) :
    FVec Ideal S4096x2048 .f32 :=
  Cert.Reference5Ideal.Read.val_main_v5 (F := Ideal) H W X

theorem goal_apply (H : FVec Ideal S4096x5632 .bf16) (W : FVec Ideal S5632x2048 .bf16) (X : FVec Ideal S4096x2048 .f32)
    (i : S4096x2048.Idx) :
    goal H W X i = X i + (∑ k : Fin 5632, H (ix2 (i 0) k) * W (ix2 k (i 1))) * Ideal.ofBits .f32 0x3F000000#32 := by
  refine (congrArg (X i + ·) ((mul_comm _ _).trans (congrArg (· * _) ((Cert.Reference5Ideal.Read.val_main_v2_apply H W i).trans ?_))))
  refine Finset.sum_congr rfl fun k _ => congrArg₂ (· * ·) (congrArg H ?_) (congrArg W ?_)
  · funext a; match a with | ⟨0, _⟩ => rfl | ⟨1, _⟩ => rfl
  · funext a; match a with | ⟨0, _⟩ => rfl | ⟨1, _⟩ => rfl

theorem pay_apply (x0 : FVec Ideal S1024x5632 .bf16) (x1 : FVec Ideal S5632x512 .bf16) (x2 : FVec Ideal S1024x512 .f32)
    (j : S1024x512.Idx) :
    k0_pay1 (F := Ideal) x0 x1 x2 j = x2 j + (∑ k : Fin 5632, x0 (ix2 (j 0) k) * x1 (ix2 k (j 1))) * Ideal.ofBits .f32 0x3F000000#32 := by
  pointwise [k0_pay1]

/-- Which block of its array each window holds at each grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_apply, goal_apply]
  blk_point [iblk, V, idx t]

end Down

end
-- ==== Proof.Half.lean ====
module

public import Idealize.ShloMosaic.Lib.Pointwise

/-! Halving a sum of products is halving a factor of each. -/

@[expose] public section

noncomputable section

namespace Half

open Idealize.ShloMosaic

theorem eq_real : Ideal.ofBits .f32 0x3F000000#32 = ((1 / 2 : ℝ) : EReal) := by
  simp [Ideal.ofBits, Ideal.ieee, -EReal.coe_mul]; norm_num

theorem mul_sum {n : Nat} (f : Fin n → EReal) :
    Ideal.ofBits .f32 0x3F000000#32 * ∑ k, f k = ∑ k, Ideal.ofBits .f32 0x3F000000#32 * f k := by
  rw [eq_real]
  induction n with
  | zero => simp
  | succ n ih =>
    rw [Fin.sum_univ_succ, Fin.sum_univ_succ,
      EReal.left_distrib_of_nonneg_of_ne_top (EReal.coe_nonneg.mpr (by norm_num)) (EReal.coe_ne_top _), ih]

theorem sum_mul {n : Nat} (f g : Fin n → EReal) :
    (∑ k, f k * g k) * Ideal.ofBits .f32 0x3F000000#32 = ∑ k, (Ideal.ofBits .f32 0x3F000000#32 * g k) * f k := by
  rw [mul_comm, mul_sum]
  exact Finset.sum_congr rfl fun k _ => by rw [mul_assoc, mul_comm (g k)]

end Half

end
-- ==== Proof.Dw1Sib.lean ====
module

public import proofs.«01_k».proof.Proof.Gen.Kernel6.Frame
public import proofs.«01_k».proof.Proof.Gen.Kernel6Ideal.Frame
public import proofs.«01_k».proof.Proof.Gen.Reference6Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The sibling's half of the first weight's gradient: the prefetched table selects the right half of the operand's columns,
    and the blocks together are the lower half of the reference's rows. -/

@[expose] public section

set_option maxRecDepth 16384

noncomputable section

namespace Dw1Sib.Machine

open Cert.Kernel6 Cert.Kernel6.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Dw1Sib.Machine

namespace Dw1Sib

open Cert.Kernel6Ideal Cert.Kernel6Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x5632 .bf16) : FVec Ideal S1024x5632 .bf16 :=
  Cert.Reference6Ideal.Read.val_main_v7 (F := Ideal) X D

theorem goal_apply (X : FVec Ideal S4096x2048 .bf16) (D : FVec Ideal S4096x5632 .bf16) (i : S1024x5632.Idx) :
    goal X D i = ∑ k : Fin 4096, X (ix2 k ⟨1024 + (i 0).val, by have h : (i 0).val < 1024 := (i 0).isLt; omega⟩) * D (ix2 k (i 1)) := by
  refine (Cert.Reference6Ideal.Read.val_main_v6_apply (F := Ideal) X D i).trans ?_
  refine (Cert.Reference6Ideal.Read.val_main_v5_apply (F := Ideal) X D _).trans ?_
  refine (Cert.Reference6Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (y : S1024x512.Idx) :
    k0_pay1 (F := Ideal) x0 x1 y = ∑ k : Fin 4096, x0 (ix2 k (y 0)) * x1 (ix2 k (y 1)) := by
  pointwise [k0_pay1]

/-- Which block of its array each window holds at each grid point. -/
theorem idx (t : Fin (cfgM m (ok m)).N) : ((cfgM m (ok m)).win 0).index t = ![0, 1]
    ∧ ((cfgM m (ok m)).win 1).index t = ![0, t.val]
    ∧ ((cfgM m (ok m)).win 2).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (x0 : FVec Ideal S4096x1024 .bf16) (x1 : FVec Ideal S4096x512 .bf16) (w : TbBuf0 (F := Ideal) c tbM0_0) (y : S1024x512.Idx) :
    out0_A_2 (F := Ideal) c i b0 h0 b1 h1 b2 h2 x0 x1 w y = ∑ k : Fin 4096, x0 (ix2 k (y 0)) * x1 (ix2 k (y 1)) := by
  unfold out0_A_2
  frame_out
  exact pay_apply x0 x1 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = 1 * 1024 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from rfl

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2 (1 : Fin 2)
  refine (Pipeline.Window.rect_emb_val ((cfgM m (ok m)).win 2) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = 1 * 1024 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x5632.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem covers : ((cfgM m (ok m)).win 2).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (5632 + 512 - 1) / 512 := (β (1 : Fin 2)).isLt
  refine ⟨⟨(β (1 : Fin 2)).val, N_0.symm ▸ (by omega : _ < 11)⟩, flush0_2 _ _, fun a => ⟨?_, Or.inl rfl⟩⟩
  refine (congrFun (idx m _).2.2 a).trans ?_
  match a with
  | ⟨0, _⟩ => show 0 = (β (0 : Fin 2)).val; omega
  | ⟨1, _⟩ => rfl

theorem final (c : Dev nD) : (dats m (ok m) 0 c).arrAt 2 (cfgM m (ok m)).N
    = goal (m ((c : Thread nD τ).loc main_arg0)) (m ((c : Thread nD τ).loc main_arg1)) := by
  refine (dats m (ok m) 0 c).arrAt_eq_of_covers 2 _ (covers m) fun t _ y => ?_
  refine (congrFun (after0_2 m (ok m) c t) y).trans ((out_eq c _ _ _ _ _ _ _ _ _ _ y).trans
    (Eq.trans ?_ (goal_apply _ _ _).symm))
  refine Finset.sum_congr rfl fun k _ => congrArg₂ (HMul.hMul (α := Ideal .bf16) (β := Ideal .bf16))
    (in0 m c t _ _ ?_ ?_) (in1 m c t _ _ ?_ ?_)
  · rfl
  · exact congrArg (1024 + ·) (e20 m t y)
  · rfl
  · exact e21 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end Dw1Sib

end
-- ==== Proof.Dw1.lean ====
module

public import proofs.«01_k».proof.Proof.Gen.Kernel7.Frame
public import proofs.«01_k».proof.Proof.Gen.Kernel7Ideal.Frame
public import proofs.«01_k».proof.Proof.Gen.Reference7Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The core's own half of the first weight's gradient, added to the received half: the prefetched table selects the left
    half of the operand's columns, and the blocks together are the upper half of the reference's rows. -/

@[expose] public section

set_option maxRecDepth 16384

noncomputable section

namespace Dw1.Machine

open Cert.Kernel7 Cert.Kernel7.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Dw1.Machine

namespace Dw1

open Cert.Kernel7Ideal Cert.Kernel7Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x5632 .bf16) (G : FVec Ideal S1024x5632 .bf16) : FVec Ideal S1024x5632 .bf16 :=
  Cert.Reference7Ideal.Read.val_main_v9 (F := Ideal) X D G

theorem goal_apply (X : FVec Ideal S4096x2048 .bf16) (D : FVec Ideal S4096x5632 .bf16) (G : FVec Ideal S1024x5632 .bf16) (i : S1024x5632.Idx) :
    goal X D G i = G i + (∑ k : Fin 4096, X (ix2 k ⟨(i 0).val, by have h : (i 0).val < 1024 := (i 0).isLt; omega⟩) * D (ix2 k (i 1))) := by
  refine congrArg (G i + ·) ?_
  refine (Cert.Reference7Ideal.Read.val_main_v7_apply (F := Ideal) X D i).trans ?_
  refine (Cert.Reference7Ideal.Read.val_main_v5_apply (F := Ideal) X D _).trans ?_
  refine (Cert.Reference7Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (x2 : FVec Ideal S1024x512 .bf16) (y : S1024x512.Idx) :
    k0_pay1 (F := Ideal) x0 x1 x2 y = x2 y + (∑ k : Fin 4096, x0 (ix2 k (y 0)) * x1 (ix2 k (y 1))) := by
  pointwise [k0_pay1]

/-- Which block of its array each window holds at each grid point. -/
theorem idx (t : Fin (cfgM m (ok m)).N) : ((cfgM m (ok m)).win 0).index t = ![0, 0]
    ∧ ((cfgM m (ok m)).win 1).index t = ![0, t.val]
    ∧ ((cfgM m (ok m)).win 2).index t = ![0, t.val]
    ∧ ((cfgM m (ok m)).win 3).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t,
    (by decide +kernel : ∀ t : Fin grid0.N, cc0_transform_3 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (b3 : Memref sig .tc .vmem S1024x512 .bf16) (h3 : b3.IsWhole)
    (x0 : FVec Ideal S4096x1024 .bf16) (x1 : FVec Ideal S4096x512 .bf16) (x2 : FVec Ideal S1024x512 .bf16) (w : TbBuf0 (F := Ideal) c tbM0_0) (y : S1024x512.Idx) :
    out0_A_3 (F := Ideal) c i b0 h0 b1 h1 b2 h2 b3 h3 x0 x1 x2 w y = x2 y + (∑ k : Fin 4096, x0 (ix2 k (y 0)) * x1 (ix2 k (y 1))) := by
  unfold out0_A_3
  frame_out
  exact pay_apply x0 x1 x2 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from (congrArg (· + _) (Nat.zero_mul _)).trans (Nat.zero_add _)

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2.1 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2.1 (1 : Fin 2)
  refine (Pipeline.Window.rect_emb_val ((cfgM m (ok m)).win 2) t x (1 : Fin 2) rfl).trans ?_
  rw [e]
  exact show _ * 512 + _ = _ from rfl

theorem e30 (t : Fin (cfgM m (ok m)).N) (x : S1024x512.Idx) :
    ((((cfgM m (ok m)).win 3).blk t).view.emb x (0 : Fin 2)).val = (x 0).val := by
  have e : ((cfgM m (ok m)).win 3).index t (0 : Fin 2) = _ := congrFun (idx m t).2.2.2 (0 : Fin 2)
  refine (Pipeline.Window.rect_emb_val ((cfgM m (ok m)).win 3) t x (0 : Fin 2) rfl).trans ?_
  rw [e]
  exact show _ * 1024 + _ = _ from (congrArg (· + _) (Nat.zero_mul _)).trans (Nat.zero_add _)

theorem e31 (t : Fin (cfgM m (ok m)).N) (x : S1024x512.Idx) :
    ((((cfgM m (ok m)).win 3).blk t).view.emb x (1 : Fin 2)).val = t.val * 512 + (x 1).val := by
  have e : ((cfgM m (ok m)).win 3).index t (1 : Fin 2) = _ := congrFun (idx m t).2.2.2 (1 : Fin 2)
  refine (Pipeline.Window.rect_emb_val ((cfgM m (ok m)).win 3) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x5632.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem in2 (c : Dev nD) (t : Fin (cfgM m (ok m)).N) (x : S1024x512.Idx) (z : S1024x5632.Idx)
    (h0 : (z 0).val = (x 0).val) (h1 : (z 1).val = t.val * 512 + (x 1).val) :
    iblk m (ok m) c 2 t x = m ((c : Thread nD τ).loc main_arg2) z := by
  refine (congrFun (V_main_arg2 m c) _).trans (congrArg _ (funext fun a => Fin.ext ?_))
  match a with
  | ⟨0, _⟩ => exact (e20 m t x).trans h0.symm
  | ⟨1, _⟩ => exact (e21 m t x).trans h1.symm

theorem covers : ((cfgM m (ok m)).win 3).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (5632 + 512 - 1) / 512 := (β (1 : Fin 2)).isLt
  refine ⟨⟨(β (1 : Fin 2)).val, N_0.symm ▸ (by omega : _ < 11)⟩, flush0_3 _ _, fun a => ⟨?_, Or.inl rfl⟩⟩
  refine (congrFun (idx m _).2.2.2 a).trans ?_
  match a with
  | ⟨0, _⟩ => show 0 = (β (0 : Fin 2)).val; omega
  | ⟨1, _⟩ => rfl

theorem final (c : Dev nD) : (dats m (ok m) 0 c).arrAt 3 (cfgM m (ok m)).N
    = goal (m ((c : Thread nD τ).loc main_arg0)) (m ((c : Thread nD τ).loc main_arg1)) (m ((c : Thread nD τ).loc main_arg2)) := by
  refine (dats m (ok m) 0 c).arrAt_eq_of_covers 3 _ (covers m) fun t _ y => ?_
  refine (congrFun (after0_3 m (ok m) c t) y).trans ((out_eq c _ _ _ _ _ _ _ _ _ _ _ _ _ y).trans
    (Eq.trans ?_ (goal_apply _ _ _ _).symm))
  refine congrArg₂ (HAdd.hAdd (α := Ideal .bf16) (β := Ideal .bf16)) (in2 m c t _ _ (e30 m t y) (e31 m t y)) ?_
  refine Finset.sum_congr rfl fun k _ => congrArg₂ (HMul.hMul (α := Ideal .bf16) (β := Ideal .bf16))
    (in0 m c t _ _ ?_ ?_) (in1 m c t _ _ ?_ ?_)
  · rfl
  · exact e30 m t y
  · rfl
  · exact e31 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))

end Dw1

end
-- ==== Proof.Dw2Sib.lean ====
module

public import proofs.«01_k».proof.Proof.Gen.Kernel8.Frame
public import proofs.«01_k».proof.Proof.Gen.Kernel8Ideal.Frame
public import proofs.«01_k».proof.Proof.Gen.Reference8Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The sibling's half of the second weight's gradient: the prefetched table selects the right half of the gradient's
    columns, and the blocks together are the right half of the reference's columns. -/

@[expose] public section

set_option maxRecDepth 16384

noncomputable section

namespace Dw2Sib.Machine

open Cert.Kernel8 Cert.Kernel8.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Dw2Sib.Machine

namespace Dw2Sib

open Cert.Kernel8Ideal Cert.Kernel8Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x5632 .bf16) (D : FVec Ideal S4096x2048 .bf16) : FVec Ideal S5632x1024 .bf16 :=
  Cert.Reference8Ideal.Read.val_main_v11 (F := Ideal) X D

theorem goal_apply (X : FVec Ideal S4096x5632 .bf16) (D : FVec Ideal S4096x2048 .bf16) (i : S5632x1024.Idx) :
    goal X D i = (∑ k : Fin 4096, X (ix2 k (i 0)) * D (ix2 k ⟨1024 + (i 1).val, by have h : (i 1).val < 1024 := (i 1).isLt; omega⟩)) * Ideal.ofBits .f32 0x3F000000#32 := by
  refine (Cert.Reference8Ideal.Read.val_main_v10_apply (F := Ideal) X D i).trans ?_
  refine (Cert.Reference8Ideal.Read.val_main_v9_apply (F := Ideal) X D _).trans ?_
  refine (Cert.Reference8Ideal.Read.val_main_v8_apply X D _).trans ?_
  refine Eq.trans (Finset.sum_congr rfl fun k _ => congrArg₂ (· * ·) (congrArg (_ * ·) (congrArg D ?_)) (congrArg X ?_)) (Half.sum_mul _ _).symm
  · funext a; match a with | ⟨0, _⟩ => rfl | ⟨1, _⟩ => rfl
  · funext a; match a with | ⟨0, _⟩ => rfl | ⟨1, _⟩ => rfl

theorem pay_apply (x0 : FVec Ideal S4096x512 .bf16) (x1 : FVec Ideal S4096x1024 .bf16) (y : S512x1024.Idx) :
    k0_pay1 (F := Ideal) x0 x1 y = (∑ k : Fin 4096, x0 (ix2 k (y 0)) * x1 (ix2 k (y 1))) * Ideal.ofBits .f32 0x3F000000#32 := by
  pointwise [k0_pay1]

/-- Which block of its array each window holds at each grid point. -/
theorem idx (t : Fin (cfgM m (ok m)).N) : ((cfgM m (ok m)).win 0).index t = ![0, t.val]
    ∧ ((cfgM m (ok m)).win 1).index t = ![0, 1]
    ∧ ((cfgM m (ok m)).win 2).index t = ![t.val, 0] :=
  ⟨(by decide +kernel : ∀ t : Fin grid0.N, cc0_transform_0 (grid0.coords t) = ![0, t.val]) t,
    half m _,
    (by decide +kernel : ∀ t : Fin grid0.N, cc0_transform_2 (grid0.coords t) = ![t.val, 0]) t⟩

/-- What a point leaves in its block of the result, on any staging memrefs. -/
theorem out_eq (c : Dev nD) (i : grid0.Coords) (b0 : Memref sig .tc .vmem S4096x512 .bf16) (h0 : b0.IsWhole)
    (b1 : Memref sig .tc .vmem S4096x1024 .bf16) (h1 : b1.IsWhole)
    (b2 : Memref sig .tc .vmem S512x1024 .bf16) (h2 : b2.IsWhole)
    (x0 : FVec Ideal S4096x512 .bf16) (x1 : FVec Ideal S4096x1024 .bf16) (w : TbBuf0 (F := Ideal) c tbM0_0) (y : S512x1024.Idx) :
    out0_A_2 (F := Ideal) c i b0 h0 b1 h1 b2 h2 x0 x1 w y = (∑ k : Fin 4096, x0 (ix2 k (y 0)) * x1 (ix2 k (y 1))) * Ideal.ofBits .f32 0x3F000000#32 := by
  unfold out0_A_2
  frame_out
  exact pay_apply x0 x1 y

/-- Where an index of a block lies in its array. -/
theorem e00 (t : Fin (cfgM m (ok m)).N) (x : S4096x512.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x512.Idx) :
    ((((cfgM m (ok m)).win 0).blk t).view.emb x (1 : Fin 2)).val = t.val * 512 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 512 + _ = _ from rfl

theorem e10 (t : Fin (cfgM m (ok m)).N) (x : S4096x1024.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x1024.Idx) :
    ((((cfgM m (ok m)).win 1).blk t).view.emb x (1 : Fin 2)).val = 1 * 1024 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 1024 + _ = _ from rfl

theorem e20 (t : Fin (cfgM m (ok m)).N) (x : S512x1024.Idx) :
    ((((cfgM m (ok m)).win 2).blk t).view.emb x (0 : Fin 2)).val = t.val * 512 + (x 0).val := by
  have e : ((cfgM m (ok m)).win 2).index t (0 : Fin 2) = _ := congrFun (idx m t).2.2 (0 : Fin 2)
  refine (Pipeline.Window.rect_emb_val ((cfgM m (ok m)).win 2) t x (0 : Fin 2) rfl).trans ?_
  rw [e]
  exact show _ * 512 + _ = _ from rfl

theorem e21 (t : Fin (cfgM m (ok m)).N) (x : S512x1024.Idx) :
    ((((cfgM m (ok m)).win 2).blk t).view.emb x (1 : Fin 2)).val = (x 1).val := by
  have e : ((cfgM m (ok m)).win 2).index t (1 : Fin 2) = _ := congrFun (idx m t).2.2 (1 : Fin 2)
  refine (Pipeline.Window.rect_emb_val ((cfgM m (ok m)).win 2) t x (1 : Fin 2) rfl).trans ?_
  rw [e]
  exact show _ * 1024 + _ = _ from (congrArg (· + _) (Nat.zero_mul _)).trans (Nat.zero_add _)

/-- The operands' blocks at an index. -/
theorem in0 (c : Dev nD) (t : Fin (cfgM m (ok m)).N) (x : S4096x512.Idx) (z : S4096x5632.Idx)
    (h0 : (z 0).val = (x 0).val) (h1 : (z 1).val = t.val * 512 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x1024.Idx) (z : S4096x2048.Idx)
    (h0 : (z 0).val = (x 0).val) (h1 : (z 1).val = 1 * 1024 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem covers : ((cfgM m (ok m)).win 2).Covers := by
  refine ⟨(by decide : ∀ a : Fin 2, 0 < S512x1024.size a), fun β => ?_⟩
  have b0 : (β (0 : Fin 2)).val < (5632 + 512 - 1) / 512 := (β (0 : Fin 2)).isLt
  have b1 : (β (1 : Fin 2)).val < (1024 + 1024 - 1) / 1024 := (β (1 : Fin 2)).isLt
  refine ⟨⟨(β (0 : Fin 2)).val, N_0.symm ▸ (by omega : _ < 11)⟩, flush0_2 _ _, fun a => ⟨?_, Or.inl rfl⟩⟩
  refine (congrFun (idx m _).2.2 a).trans ?_
  match a with
  | ⟨1, _⟩ => show 0 = (β (1 : Fin 2)).val; omega
  | ⟨0, _⟩ => rfl

theorem final (c : Dev nD) : (dats m (ok m) 0 c).arrAt 2 (cfgM m (ok m)).N
    = goal (m ((c : Thread nD τ).loc main_arg0)) (m ((c : Thread nD τ).loc main_arg1)) := by
  refine (dats m (ok m) 0 c).arrAt_eq_of_covers 2 _ (covers m) fun t _ y => ?_
  refine (congrFun (after0_2 m (ok m) c t) y).trans ((out_eq c _ _ _ _ _ _ _ _ _ _ y).trans
    (Eq.trans ?_ (goal_apply _ _ _).symm))
  refine congrArg (· * Ideal.ofBits .f32 0x3F000000#32) ?_
  refine Finset.sum_congr rfl fun k _ => congrArg₂ (HMul.hMul (α := Ideal .bf16) (β := Ideal .bf16))
    (in0 m c t _ _ ?_ ?_) (in1 m c t _ _ ?_ ?_)
  · rfl
  · exact e20 m t y
  · rfl
  · exact congrArg (1024 + ·) (e21 m t y)

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end Dw2Sib

end
-- ==== Proof.Dw2.lean ====
module

public import proofs.«01_k».proof.Proof.Gen.Kernel9.Frame
public import proofs.«01_k».proof.Proof.Gen.Kernel9Ideal.Frame
public import proofs.«01_k».proof.Proof.Gen.Reference9Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The core's own half of the second weight's gradient, added to the received half: the prefetched table selects the left
    half of the gradient's columns, and the blocks together are the left half of the reference's columns. -/

@[expose] public section

set_option maxRecDepth 16384

noncomputable section

namespace Dw2.Machine

open Cert.Kernel9 Cert.Kernel9.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Dw2.Machine

namespace Dw2

open Cert.Kernel9Ideal Cert.Kernel9Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x5632 .bf16) (D : FVec Ideal S4096x2048 .bf16) (G : FVec Ideal S5632x1024 .bf16) : FVec Ideal S5632x1024 .bf16 :=
  Cert.Reference9Ideal.Read.val_main_v13 (F := Ideal) X D G

theorem goal_apply (X : FVec Ideal S4096x5632 .bf16) (D : FVec Ideal S4096x2048 .bf16) (G : FVec Ideal S5632x1024 .bf16) (i : S5632x1024.Idx) :
    goal X D G i = G i + (∑ k : Fin 4096, X (ix2 k (i 0)) * D (ix2 k ⟨(i 1).val, by have h : (i 1).val < 1024 := (i 1).isLt; omega⟩)) * Ideal.ofBits .f32 0x3F000000#32 := by
  refine congrArg (G i + ·) ?_
  refine (Cert.Reference9Ideal.Read.val_main_v11_apply (F := Ideal) X D i).trans ?_
  refine (Cert.Reference9Ideal.Read.val_main_v9_apply (F := Ideal) X D _).trans ?_
  refine (Cert.Reference9Ideal.Read.val_main_v8_apply X D _).trans ?_
  refine Eq.trans (Finset.sum_congr rfl fun k _ => congrArg₂ (· * ·) (congrArg (_ * ·) (congrArg D ?_)) (congrArg X ?_)) (Half.sum_mul _ _).symm
  · funext a; match a with | ⟨0, _⟩ => rfl | ⟨1, _⟩ => rfl
  · funext a; match a with | ⟨0, _⟩ => rfl | ⟨1, _⟩ => rfl

theorem pay_apply (x0 : FVec Ideal S4096x512 .bf16) (x1 : FVec Ideal S4096x1024 .bf16) (x2 : FVec Ideal S512x1024 .bf16) (y : S512x1024.Idx) :
    k0_pay1 (F := Ideal) x0 x1 x2 y = x2 y + (∑ k : Fin 4096, x0 (ix2 k (y 0)) * x1 (ix2 k (y 1))) * Ideal.ofBits .f32 0x3F000000#32 := by
  pointwise [k0_pay1]

/-- Which block of its array each window holds at each grid point. -/
theorem idx (t : Fin (cfgM m (ok m)).N) : ((cfgM m (ok m)).win 0).index t = ![0, t.val]
    ∧ ((cfgM m (ok m)).win 1).index t = ![0, 0]
    ∧ ((cfgM m (ok m)).win 2).index t = ![t.val, 0]
    ∧ ((cfgM m (ok m)).win 3).index t = ![t.val, 0] :=
  ⟨(by decide +kernel : ∀ t : Fin grid0.N, cc0_transform_0 (grid0.coords t) = ![0, t.val]) t,
    half m _,
    (by decide +kernel : ∀ t : Fin grid0.N, cc0_transform_2 (grid0.coords t) = ![t.val, 0]) t,
    (by decide +kernel : ∀ t : Fin grid0.N, cc0_transform_3 (grid0.coords t) = ![t.val, 0]) t⟩

/-- What a point leaves in its block of the result, on any staging memrefs. -/
theorem out_eq (c : Dev nD) (i : grid0.Coords) (b0 : Memref sig .tc .vmem S4096x512 .bf16) (h0 : b0.IsWhole)
    (b1 : Memref sig .tc .vmem S4096x1024 .bf16) (h1 : b1.IsWhole)
    (b2 : Memref sig .tc .vmem S512x1024 .bf16) (h2 : b2.IsWhole)
    (b3 : Memref sig .tc .vmem S512x1024 .bf16) (h3 : b3.IsWhole)
    (x0 : FVec Ideal S4096x512 .bf16) (x1 : FVec Ideal S4096x1024 .bf16) (x2 : FVec Ideal S512x1024 .bf16) (w : TbBuf0 (F := Ideal) c tbM0_0) (y : S512x1024.Idx) :
    out0_A_3 (F := Ideal) c i b0 h0 b1 h1 b2 h2 b3 h3 x0 x1 x2 w y = x2 y + (∑ k : Fin 4096, x0 (ix2 k (y 0)) * x1 (ix2 k (y 1))) * Ideal.ofBits .f32 0x3F000000#32 := by
  unfold out0_A_3
  frame_out
  exact pay_apply x0 x1 x2 y

/-- Where an index of a block lies in its array. -/
theorem e00 (t : Fin (cfgM m (ok m)).N) (x : S4096x512.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x512.Idx) :
    ((((cfgM m (ok m)).win 0).blk t).view.emb x (1 : Fin 2)).val = t.val * 512 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 512 + _ = _ from rfl

theorem e10 (t : Fin (cfgM m (ok m)).N) (x : S4096x1024.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x1024.Idx) :
    ((((cfgM m (ok m)).win 1).blk t).view.emb x (1 : Fin 2)).val = (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 1024 + _ = _ from (congrArg (· + _) (Nat.zero_mul _)).trans (Nat.zero_add _)

theorem e20 (t : Fin (cfgM m (ok m)).N) (x : S512x1024.Idx) :
    ((((cfgM m (ok m)).win 2).blk t).view.emb x (0 : Fin 2)).val = t.val * 512 + (x 0).val := by
  have e : ((cfgM m (ok m)).win 2).index t (0 : Fin 2) = _ := congrFun (idx m t).2.2.1 (0 : Fin 2)
  refine (Pipeline.Window.rect_emb_val ((cfgM m (ok m)).win 2) t x (0 : Fin 2) rfl).trans ?_
  rw [e]
  exact show _ * 512 + _ = _ from rfl

theorem e21 (t : Fin (cfgM m (ok m)).N) (x : S512x1024.Idx) :
    ((((cfgM m (ok m)).win 2).blk t).view.emb x (1 : Fin 2)).val = (x 1).val := by
  have e : ((cfgM m (ok m)).win 2).index t (1 : Fin 2) = _ := congrFun (idx m t).2.2.1 (1 : Fin 2)
  refine (Pipeline.Window.rect_emb_val ((cfgM m (ok m)).win 2) t x (1 : Fin 2) rfl).trans ?_
  rw [e]
  exact show _ * 1024 + _ = _ from (congrArg (· + _) (Nat.zero_mul _)).trans (Nat.zero_add _)

theorem e30 (t : Fin (cfgM m (ok m)).N) (x : S512x1024.Idx) :
    ((((cfgM m (ok m)).win 3).blk t).view.emb x (0 : Fin 2)).val = t.val * 512 + (x 0).val := by
  have e : ((cfgM m (ok m)).win 3).index t (0 : Fin 2) = _ := congrFun (idx m t).2.2.2 (0 : Fin 2)
  refine (Pipeline.Window.rect_emb_val ((cfgM m (ok m)).win 3) t x (0 : Fin 2) rfl).trans ?_
  rw [e]
  exact show _ * 512 + _ = _ from rfl

theorem e31 (t : Fin (cfgM m (ok m)).N) (x : S512x1024.Idx) :
    ((((cfgM m (ok m)).win 3).blk t).view.emb x (1 : Fin 2)).val = (x 1).val := by
  have e : ((cfgM m (ok m)).win 3).index t (1 : Fin 2) = _ := congrFun (idx m t).2.2.2 (1 : Fin 2)
  refine (Pipeline.Window.rect_emb_val ((cfgM m (ok m)).win 3) t x (1 : Fin 2) rfl).trans ?_
  rw [e]
  exact show _ * 1024 + _ = _ from (congrArg (· + _) (Nat.zero_mul _)).trans (Nat.zero_add _)

/-- The operands' blocks at an index. -/
theorem in0 (c : Dev nD) (t : Fin (cfgM m (ok m)).N) (x : S4096x512.Idx) (z : S4096x5632.Idx)
    (h0 : (z 0).val = (x 0).val) (h1 : (z 1).val = t.val * 512 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x1024.Idx) (z : S4096x2048.Idx)
    (h0 : (z 0).val = (x 0).val) (h1 : (z 1).val = (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem in2 (c : Dev nD) (t : Fin (cfgM m (ok m)).N) (x : S512x1024.Idx) (z : S5632x1024.Idx)
    (h0 : (z 0).val = t.val * 512 + (x 0).val) (h1 : (z 1).val = (x 1).val) :
    iblk m (ok m) c 2 t x = m ((c : Thread nD τ).loc main_arg2) z := by
  refine (congrFun (V_main_arg2 m c) _).trans (congrArg _ (funext fun a => Fin.ext ?_))
  match a with
  | ⟨0, _⟩ => exact (e20 m t x).trans h0.symm
  | ⟨1, _⟩ => exact (e21 m t x).trans h1.symm

theorem covers : ((cfgM m (ok m)).win 3).Covers := by
  refine ⟨(by decide : ∀ a : Fin 2, 0 < S512x1024.size a), fun β => ?_⟩
  have b0 : (β (0 : Fin 2)).val < (5632 + 512 - 1) / 512 := (β (0 : Fin 2)).isLt
  have b1 : (β (1 : Fin 2)).val < (1024 + 1024 - 1) / 1024 := (β (1 : Fin 2)).isLt
  refine ⟨⟨(β (0 : Fin 2)).val, N_0.symm ▸ (by omega : _ < 11)⟩, flush0_3 _ _, fun a => ⟨?_, Or.inl rfl⟩⟩
  refine (congrFun (idx m _).2.2.2 a).trans ?_
  match a with
  | ⟨1, _⟩ => show 0 = (β (1 : Fin 2)).val; omega
  | ⟨0, _⟩ => rfl

theorem final (c : Dev nD) : (dats m (ok m) 0 c).arrAt 3 (cfgM m (ok m)).N
    = goal (m ((c : Thread nD τ).loc main_arg0)) (m ((c : Thread nD τ).loc main_arg1)) (m ((c : Thread nD τ).loc main_arg2)) := by
  refine (dats m (ok m) 0 c).arrAt_eq_of_covers 3 _ (covers m) fun t _ y => ?_
  refine (congrFun (after0_3 m (ok m) c t) y).trans ((out_eq c _ _ _ _ _ _ _ _ _ _ _ _ _ y).trans
    (Eq.trans ?_ (goal_apply _ _ _ _).symm))
  refine congrArg₂ (HAdd.hAdd (α := Ideal .bf16) (β := Ideal .bf16)) (in2 m c t _ _ (e30 m t y) (e31 m t y)) ?_
  refine congrArg (· * Ideal.ofBits .f32 0x3F000000#32) ?_
  refine Finset.sum_congr rfl fun k _ => congrArg₂ (HMul.hMul (α := Ideal .bf16) (β := Ideal .bf16))
    (in0 m c t _ _ ?_ ?_) (in1 m c t _ _ ?_ ?_)
  · rfl
  · exact e30 m t y
  · rfl
  · exact e31 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))

end Dw2

end
-- ==== Proof.DwInSib.lean ====
module

public import proofs.«01_k».proof.Proof.Gen.Kernel10.Frame
public import proofs.«01_k».proof.Proof.Gen.Kernel10Ideal.Frame
public import proofs.«01_k».proof.Proof.Gen.Reference10Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The sibling's half of the input projection's gradient in an even layer: the prefetched table selects the right half of
    the operand's columns, and the blocks together are the lower half of the reference's rows. -/

@[expose] public section

set_option maxRecDepth 16384

noncomputable section

namespace DwInSib.Machine

open Cert.Kernel10 Cert.Kernel10.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end DwInSib.Machine

namespace DwInSib

open Cert.Kernel10Ideal Cert.Kernel10Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x12288 .bf16) : FVec Ideal S1024x12288 .bf16 :=
  Cert.Reference10Ideal.Read.val_main_v7 (F := Ideal) X D

theorem goal_apply (X : FVec Ideal S4096x2048 .bf16) (D : FVec Ideal S4096x12288 .bf16) (i : S1024x12288.Idx) :
    goal X D i = ∑ k : Fin 4096, X (ix2 k ⟨1024 + (i 0).val, by have h : (i 0).val < 1024 := (i 0).isLt; omega⟩) * D (ix2 k (i 1)) := by
  refine (Cert.Reference10Ideal.Read.val_main_v6_apply (F := Ideal) X D i).trans ?_
  refine (Cert.Reference10Ideal.Read.val_main_v5_apply (F := Ideal) X D _).trans ?_
  refine (Cert.Reference10Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (y : S1024x512.Idx) :
    k0_pay1 (F := Ideal) x0 x1 y = ∑ k : Fin 4096, x0 (ix2 k (y 0)) * x1 (ix2 k (y 1)) := by
  pointwise [k0_pay1]

/-- Which block of its array each window holds at each grid point. -/
theorem idx (t : Fin (cfgM m (ok m)).N) : ((cfgM m (ok m)).win 0).index t = ![0, 1]
    ∧ ((cfgM m (ok m)).win 1).index t = ![0, t.val]
    ∧ ((cfgM m (ok m)).win 2).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (x0 : FVec Ideal S4096x1024 .bf16) (x1 : FVec Ideal S4096x512 .bf16) (w : TbBuf0 (F := Ideal) c tbM0_0) (y : S1024x512.Idx) :
    out0_A_2 (F := Ideal) c i b0 h0 b1 h1 b2 h2 x0 x1 w y = ∑ k : Fin 4096, x0 (ix2 k (y 0)) * x1 (ix2 k (y 1)) := by
  unfold out0_A_2
  frame_out
  exact pay_apply x0 x1 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = 1 * 1024 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from rfl

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2 (1 : Fin 2)
  refine (Pipeline.Window.rect_emb_val ((cfgM m (ok m)).win 2) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = 1 * 1024 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x12288.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem covers : ((cfgM m (ok m)).win 2).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (12288 + 512 - 1) / 512 := (β (1 : Fin 2)).isLt
  refine ⟨⟨(β (1 : Fin 2)).val, N_0.symm ▸ (by omega : _ < 24)⟩, flush0_2 _ _, fun a => ⟨?_, Or.inl rfl⟩⟩
  refine (congrFun (idx m _).2.2 a).trans ?_
  match a with
  | ⟨0, _⟩ => show 0 = (β (0 : Fin 2)).val; omega
  | ⟨1, _⟩ => rfl

theorem final (c : Dev nD) : (dats m (ok m) 0 c).arrAt 2 (cfgM m (ok m)).N
    = goal (m ((c : Thread nD τ).loc main_arg0)) (m ((c : Thread nD τ).loc main_arg1)) := by
  refine (dats m (ok m) 0 c).arrAt_eq_of_covers 2 _ (covers m) fun t _ y => ?_
  refine (congrFun (after0_2 m (ok m) c t) y).trans ((out_eq c _ _ _ _ _ _ _ _ _ _ y).trans
    (Eq.trans ?_ (goal_apply _ _ _).symm))
  refine Finset.sum_congr rfl fun k _ => congrArg₂ (HMul.hMul (α := Ideal .bf16) (β := Ideal .bf16))
    (in0 m c t _ _ ?_ ?_) (in1 m c t _ _ ?_ ?_)
  · rfl
  · exact congrArg (1024 + ·) (e20 m t y)
  · rfl
  · exact e21 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end DwInSib

end
-- ==== Proof.DwIn.lean ====
module

public import proofs.«01_k».proof.Proof.Gen.Kernel11.Frame
public import proofs.«01_k».proof.Proof.Gen.Kernel11Ideal.Frame
public import proofs.«01_k».proof.Proof.Gen.Reference11Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The core's own half of the input projection's gradient in an even layer, added to the received half: the prefetched
    table selects the left half of the operand's columns, and the blocks together are the upper half of the reference's
    rows. -/

@[expose] public section

set_option maxRecDepth 16384

noncomputable section

namespace DwIn.Machine

open Cert.Kernel11 Cert.Kernel11.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end DwIn.Machine

namespace DwIn

open Cert.Kernel11Ideal Cert.Kernel11Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x12288 .bf16) (G : FVec Ideal S1024x12288 .bf16) : FVec Ideal S1024x12288 .bf16 :=
  Cert.Reference11Ideal.Read.val_main_v9 (F := Ideal) X D G

theorem goal_apply (X : FVec Ideal S4096x2048 .bf16) (D : FVec Ideal S4096x12288 .bf16) (G : FVec Ideal S1024x12288 .bf16) (i : S1024x12288.Idx) :
    goal X D G i = G i + (∑ k : Fin 4096, X (ix2 k ⟨(i 0).val, by have h : (i 0).val < 1024 := (i 0).isLt; omega⟩) * D (ix2 k (i 1))) := by
  refine congrArg (G i + ·) ?_
  refine (Cert.Reference11Ideal.Read.val_main_v7_apply (F := Ideal) X D i).trans ?_
  refine (Cert.Reference11Ideal.Read.val_main_v5_apply (F := Ideal) X D _).trans ?_
  refine (Cert.Reference11Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (x2 : FVec Ideal S1024x512 .bf16) (y : S1024x512.Idx) :
    k0_pay1 (F := Ideal) x0 x1 x2 y = x2 y + (∑ k : Fin 4096, x0 (ix2 k (y 0)) * x1 (ix2 k (y 1))) := by
  pointwise [k0_pay1]

/-- Which block of its array each window holds at each grid point. -/
theorem idx (t : Fin (cfgM m (ok m)).N) : ((cfgM m (ok m)).win 0).index t = ![0, 0]
    ∧ ((cfgM m (ok m)).win 1).index t = ![0, t.val]
    ∧ ((cfgM m (ok m)).win 2).index t = ![0, t.val]
    ∧ ((cfgM m (ok m)).win 3).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t,
    (by decide +kernel : ∀ t : Fin grid0.N, cc0_transform_3 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (b3 : Memref sig .tc .vmem S1024x512 .bf16) (h3 : b3.IsWhole)
    (x0 : FVec Ideal S4096x1024 .bf16) (x1 : FVec Ideal S4096x512 .bf16) (x2 : FVec Ideal S1024x512 .bf16) (w : TbBuf0 (F := Ideal) c tbM0_0) (y : S1024x512.Idx) :
    out0_A_3 (F := Ideal) c i b0 h0 b1 h1 b2 h2 b3 h3 x0 x1 x2 w y = x2 y + (∑ k : Fin 4096, x0 (ix2 k (y 0)) * x1 (ix2 k (y 1))) := by
  unfold out0_A_3
  frame_out
  exact pay_apply x0 x1 x2 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from (congrArg (· + _) (Nat.zero_mul _)).trans (Nat.zero_add _)

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2.1 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2.1 (1 : Fin 2)
  refine (Pipeline.Window.rect_emb_val ((cfgM m (ok m)).win 2) t x (1 : Fin 2) rfl).trans ?_
  rw [e]
  exact show _ * 512 + _ = _ from rfl

theorem e30 (t : Fin (cfgM m (ok m)).N) (x : S1024x512.Idx) :
    ((((cfgM m (ok m)).win 3).blk t).view.emb x (0 : Fin 2)).val = (x 0).val := by
  have e : ((cfgM m (ok m)).win 3).index t (0 : Fin 2) = _ := congrFun (idx m t).2.2.2 (0 : Fin 2)
  refine (Pipeline.Window.rect_emb_val ((cfgM m (ok m)).win 3) t x (0 : Fin 2) rfl).trans ?_
  rw [e]
  exact show _ * 1024 + _ = _ from (congrArg (· + _) (Nat.zero_mul _)).trans (Nat.zero_add _)

theorem e31 (t : Fin (cfgM m (ok m)).N) (x : S1024x512.Idx) :
    ((((cfgM m (ok m)).win 3).blk t).view.emb x (1 : Fin 2)).val = t.val * 512 + (x 1).val := by
  have e : ((cfgM m (ok m)).win 3).index t (1 : Fin 2) = _ := congrFun (idx m t).2.2.2 (1 : Fin 2)
  refine (Pipeline.Window.rect_emb_val ((cfgM m (ok m)).win 3) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x12288.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem in2 (c : Dev nD) (t : Fin (cfgM m (ok m)).N) (x : S1024x512.Idx) (z : S1024x12288.Idx)
    (h0 : (z 0).val = (x 0).val) (h1 : (z 1).val = t.val * 512 + (x 1).val) :
    iblk m (ok m) c 2 t x = m ((c : Thread nD τ).loc main_arg2) z := by
  refine (congrFun (V_main_arg2 m c) _).trans (congrArg _ (funext fun a => Fin.ext ?_))
  match a with
  | ⟨0, _⟩ => exact (e20 m t x).trans h0.symm
  | ⟨1, _⟩ => exact (e21 m t x).trans h1.symm

theorem covers : ((cfgM m (ok m)).win 3).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (12288 + 512 - 1) / 512 := (β (1 : Fin 2)).isLt
  refine ⟨⟨(β (1 : Fin 2)).val, N_0.symm ▸ (by omega : _ < 24)⟩, flush0_3 _ _, fun a => ⟨?_, Or.inl rfl⟩⟩
  refine (congrFun (idx m _).2.2.2 a).trans ?_
  match a with
  | ⟨0, _⟩ => show 0 = (β (0 : Fin 2)).val; omega
  | ⟨1, _⟩ => rfl

theorem final (c : Dev nD) : (dats m (ok m) 0 c).arrAt 3 (cfgM m (ok m)).N
    = goal (m ((c : Thread nD τ).loc main_arg0)) (m ((c : Thread nD τ).loc main_arg1)) (m ((c : Thread nD τ).loc main_arg2)) := by
  refine (dats m (ok m) 0 c).arrAt_eq_of_covers 3 _ (covers m) fun t _ y => ?_
  refine (congrFun (after0_3 m (ok m) c t) y).trans ((out_eq c _ _ _ _ _ _ _ _ _ _ _ _ _ y).trans
    (Eq.trans ?_ (goal_apply _ _ _ _).symm))
  refine congrArg₂ (HAdd.hAdd (α := Ideal .bf16) (β := Ideal .bf16)) (in2 m c t _ _ (e30 m t y) (e31 m t y)) ?_
  refine Finset.sum_congr rfl fun k _ => congrArg₂ (HMul.hMul (α := Ideal .bf16) (β := Ideal .bf16))
    (in0 m c t _ _ ?_ ?_) (in1 m c t _ _ ?_ ?_)
  · rfl
  · exact e30 m t y
  · rfl
  · exact e31 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))

end DwIn

end
-- ==== Proof.DwOutSib.lean ====
module

public import proofs.«01_k».proof.Proof.Gen.Kernel12.Frame
public import proofs.«01_k».proof.Proof.Gen.Kernel12Ideal.Frame
public import proofs.«01_k».proof.Proof.Gen.Reference12Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The sibling's half of the output projection's gradient: the prefetched table selects the right half of the gradient's
    columns, and the blocks together are the right half of the reference's columns. -/

@[expose] public section

set_option maxRecDepth 16384

noncomputable section

namespace DwOutSib.Machine

open Cert.Kernel12 Cert.Kernel12.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end DwOutSib.Machine

namespace DwOutSib

open Cert.Kernel12Ideal Cert.Kernel12Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x2048 .bf16) : FVec Ideal S2048x1024 .bf16 :=
  Cert.Reference12Ideal.Read.val_main_v7 (F := Ideal) X D

theorem goal_apply (X : FVec Ideal S4096x2048 .bf16) (D : FVec Ideal S4096x2048 .bf16) (i : S2048x1024.Idx) :
    goal X D i = ∑ k : Fin 4096, X (ix2 k (i 0)) * D (ix2 k ⟨1024 + (i 1).val, by have h : (i 1).val < 1024 := (i 1).isLt; omega⟩) := by
  refine (Cert.Reference12Ideal.Read.val_main_v6_apply (F := Ideal) X D i).trans ?_
  refine (Cert.Reference12Ideal.Read.val_main_v5_apply (F := Ideal) X D _).trans ?_
  refine (Cert.Reference12Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x512 .bf16) (x1 : FVec Ideal S4096x1024 .bf16) (y : S512x1024.Idx) :
    k0_pay1 (F := Ideal) x0 x1 y = ∑ k : Fin 4096, x0 (ix2 k (y 0)) * x1 (ix2 k (y 1)) := by
  pointwise [k0_pay1]

/-- Which block of its array each window holds at each grid point. -/
theorem idx (t : Fin (cfgM m (ok m)).N) : ((cfgM m (ok m)).win 0).index t = ![0, t.val]
    ∧ ((cfgM m (ok m)).win 1).index t = ![0, 1]
    ∧ ((cfgM m (ok m)).win 2).index t = ![t.val, 0] :=
  ⟨(by decide +kernel : ∀ t : Fin grid0.N, cc0_transform_0 (grid0.coords t) = ![0, t.val]) t,
    half m _,
    (by decide +kernel : ∀ t : Fin grid0.N, cc0_transform_2 (grid0.coords t) = ![t.val, 0]) t⟩

/-- What a point leaves in its block of the result, on any staging memrefs. -/
theorem out_eq (c : Dev nD) (i : grid0.Coords) (b0 : Memref sig .tc .vmem S4096x512 .bf16) (h0 : b0.IsWhole)
    (b1 : Memref sig .tc .vmem S4096x1024 .bf16) (h1 : b1.IsWhole)
    (b2 : Memref sig .tc .vmem S512x1024 .bf16) (h2 : b2.IsWhole)
    (x0 : FVec Ideal S4096x512 .bf16) (x1 : FVec Ideal S4096x1024 .bf16) (w : TbBuf0 (F := Ideal) c tbM0_0) (y : S512x1024.Idx) :
    out0_A_2 (F := Ideal) c i b0 h0 b1 h1 b2 h2 x0 x1 w y = ∑ k : Fin 4096, x0 (ix2 k (y 0)) * x1 (ix2 k (y 1)) := by
  unfold out0_A_2
  frame_out
  exact pay_apply x0 x1 y

/-- Where an index of a block lies in its array. -/
theorem e00 (t : Fin (cfgM m (ok m)).N) (x : S4096x512.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x512.Idx) :
    ((((cfgM m (ok m)).win 0).blk t).view.emb x (1 : Fin 2)).val = t.val * 512 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 512 + _ = _ from rfl

theorem e10 (t : Fin (cfgM m (ok m)).N) (x : S4096x1024.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x1024.Idx) :
    ((((cfgM m (ok m)).win 1).blk t).view.emb x (1 : Fin 2)).val = 1 * 1024 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 1024 + _ = _ from rfl

theorem e20 (t : Fin (cfgM m (ok m)).N) (x : S512x1024.Idx) :
    ((((cfgM m (ok m)).win 2).blk t).view.emb x (0 : Fin 2)).val = t.val * 512 + (x 0).val := by
  have e : ((cfgM m (ok m)).win 2).index t (0 : Fin 2) = _ := congrFun (idx m t).2.2 (0 : Fin 2)
  refine (Pipeline.Window.rect_emb_val ((cfgM m (ok m)).win 2) t x (0 : Fin 2) rfl).trans ?_
  rw [e]
  exact show _ * 512 + _ = _ from rfl

theorem e21 (t : Fin (cfgM m (ok m)).N) (x : S512x1024.Idx) :
    ((((cfgM m (ok m)).win 2).blk t).view.emb x (1 : Fin 2)).val = (x 1).val := by
  have e : ((cfgM m (ok m)).win 2).index t (1 : Fin 2) = _ := congrFun (idx m t).2.2 (1 : Fin 2)
  refine (Pipeline.Window.rect_emb_val ((cfgM m (ok m)).win 2) t x (1 : Fin 2) rfl).trans ?_
  rw [e]
  exact show _ * 1024 + _ = _ from (congrArg (· + _) (Nat.zero_mul _)).trans (Nat.zero_add _)

/-- The operands' blocks at an index. -/
theorem in0 (c : Dev nD) (t : Fin (cfgM m (ok m)).N) (x : S4096x512.Idx) (z : S4096x2048.Idx)
    (h0 : (z 0).val = (x 0).val) (h1 : (z 1).val = t.val * 512 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x1024.Idx) (z : S4096x2048.Idx)
    (h0 : (z 0).val = (x 0).val) (h1 : (z 1).val = 1 * 1024 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem covers : ((cfgM m (ok m)).win 2).Covers := by
  refine ⟨(by decide : ∀ a : Fin 2, 0 < S512x1024.size a), fun β => ?_⟩
  have b0 : (β (0 : Fin 2)).val < (2048 + 512 - 1) / 512 := (β (0 : Fin 2)).isLt
  have b1 : (β (1 : Fin 2)).val < (1024 + 1024 - 1) / 1024 := (β (1 : Fin 2)).isLt
  refine ⟨⟨(β (0 : Fin 2)).val, N_0.symm ▸ (by omega : _ < 4)⟩, flush0_2 _ _, fun a => ⟨?_, Or.inl rfl⟩⟩
  refine (congrFun (idx m _).2.2 a).trans ?_
  match a with
  | ⟨1, _⟩ => show 0 = (β (1 : Fin 2)).val; omega
  | ⟨0, _⟩ => rfl

theorem final (c : Dev nD) : (dats m (ok m) 0 c).arrAt 2 (cfgM m (ok m)).N
    = goal (m ((c : Thread nD τ).loc main_arg0)) (m ((c : Thread nD τ).loc main_arg1)) := by
  refine (dats m (ok m) 0 c).arrAt_eq_of_covers 2 _ (covers m) fun t _ y => ?_
  refine (congrFun (after0_2 m (ok m) c t) y).trans ((out_eq c _ _ _ _ _ _ _ _ _ _ y).trans
    (Eq.trans ?_ (goal_apply _ _ _).symm))
  refine Finset.sum_congr rfl fun k _ => congrArg₂ (HMul.hMul (α := Ideal .bf16) (β := Ideal .bf16))
    (in0 m c t _ _ ?_ ?_) (in1 m c t _ _ ?_ ?_)
  · rfl
  · exact e20 m t y
  · rfl
  · exact congrArg (1024 + ·) (e21 m t y)

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end DwOutSib

end
-- ==== Proof.DwOut.lean ====
module

public import proofs.«01_k».proof.Proof.Gen.Kernel13.Frame
public import proofs.«01_k».proof.Proof.Gen.Kernel13Ideal.Frame
public import proofs.«01_k».proof.Proof.Gen.Reference13Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The core's own half of the output projection's gradient, added to the received half: the prefetched table selects the
    left half of the gradient's columns, and the blocks together are the left half of the reference's columns. -/

@[expose] public section

set_option maxRecDepth 16384

noncomputable section

namespace DwOut.Machine

open Cert.Kernel13 Cert.Kernel13.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end DwOut.Machine

namespace DwOut

open Cert.Kernel13Ideal Cert.Kernel13Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_1 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_1
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x2048 .bf16) (G : FVec Ideal S2048x1024 .bf16) : FVec Ideal S2048x1024 .bf16 :=
  Cert.Reference13Ideal.Read.val_main_v9 (F := Ideal) X D G

theorem goal_apply (X : FVec Ideal S4096x2048 .bf16) (D : FVec Ideal S4096x2048 .bf16) (G : FVec Ideal S2048x1024 .bf16) (i : S2048x1024.Idx) :
    goal X D G i = G i + (∑ k : Fin 4096, X (ix2 k (i 0)) * D (ix2 k ⟨(i 1).val, by have h : (i 1).val < 1024 := (i 1).isLt; omega⟩)) := by
  refine congrArg (G i + ·) ?_
  refine (Cert.Reference13Ideal.Read.val_main_v7_apply (F := Ideal) X D i).trans ?_
  refine (Cert.Reference13Ideal.Read.val_main_v5_apply (F := Ideal) X D _).trans ?_
  refine (Cert.Reference13Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x512 .bf16) (x1 : FVec Ideal S4096x1024 .bf16) (x2 : FVec Ideal S512x1024 .bf16) (y : S512x1024.Idx) :
    k0_pay1 (F := Ideal) x0 x1 x2 y = x2 y + (∑ k : Fin 4096, x0 (ix2 k (y 0)) * x1 (ix2 k (y 1))) := by
  pointwise [k0_pay1]

/-- Which block of its array each window holds at each grid point. -/
theorem idx (t : Fin (cfgM m (ok m)).N) : ((cfgM m (ok m)).win 0).index t = ![0, t.val]
    ∧ ((cfgM m (ok m)).win 1).index t = ![0, 0]
    ∧ ((cfgM m (ok m)).win 2).index t = ![t.val, 0]
    ∧ ((cfgM m (ok m)).win 3).index t = ![t.val, 0] :=
  ⟨(by decide +kernel : ∀ t : Fin grid0.N, cc0_transform_0 (grid0.coords t) = ![0, t.val]) t,
    half m _,
    (by decide +kernel : ∀ t : Fin grid0.N, cc0_transform_2 (grid0.coords t) = ![t.val, 0]) t,
    (by decide +kernel : ∀ t : Fin grid0.N, cc0_transform_3 (grid0.coords t) = ![t.val, 0]) t⟩

/-- What a point leaves in its block of the result, on any staging memrefs. -/
theorem out_eq (c : Dev nD) (i : grid0.Coords) (b0 : Memref sig .tc .vmem S4096x512 .bf16) (h0 : b0.IsWhole)
    (b1 : Memref sig .tc .vmem S4096x1024 .bf16) (h1 : b1.IsWhole)
    (b2 : Memref sig .tc .vmem S512x1024 .bf16) (h2 : b2.IsWhole)
    (b3 : Memref sig .tc .vmem S512x1024 .bf16) (h3 : b3.IsWhole)
    (x0 : FVec Ideal S4096x512 .bf16) (x1 : FVec Ideal S4096x1024 .bf16) (x2 : FVec Ideal S512x1024 .bf16) (w : TbBuf0 (F := Ideal) c tbM0_0) (y : S512x1024.Idx) :
    out0_A_3 (F := Ideal) c i b0 h0 b1 h1 b2 h2 b3 h3 x0 x1 x2 w y = x2 y + (∑ k : Fin 4096, x0 (ix2 k (y 0)) * x1 (ix2 k (y 1))) := by
  unfold out0_A_3
  frame_out
  exact pay_apply x0 x1 x2 y

/-- Where an index of a block lies in its array. -/
theorem e00 (t : Fin (cfgM m (ok m)).N) (x : S4096x512.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x512.Idx) :
    ((((cfgM m (ok m)).win 0).blk t).view.emb x (1 : Fin 2)).val = t.val * 512 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 512 + _ = _ from rfl

theorem e10 (t : Fin (cfgM m (ok m)).N) (x : S4096x1024.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x1024.Idx) :
    ((((cfgM m (ok m)).win 1).blk t).view.emb x (1 : Fin 2)).val = (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 1024 + _ = _ from (congrArg (· + _) (Nat.zero_mul _)).trans (Nat.zero_add _)

theorem e20 (t : Fin (cfgM m (ok m)).N) (x : S512x1024.Idx) :
    ((((cfgM m (ok m)).win 2).blk t).view.emb x (0 : Fin 2)).val = t.val * 512 + (x 0).val := by
  have e : ((cfgM m (ok m)).win 2).index t (0 : Fin 2) = _ := congrFun (idx m t).2.2.1 (0 : Fin 2)
  refine (Pipeline.Window.rect_emb_val ((cfgM m (ok m)).win 2) t x (0 : Fin 2) rfl).trans ?_
  rw [e]
  exact show _ * 512 + _ = _ from rfl

theorem e21 (t : Fin (cfgM m (ok m)).N) (x : S512x1024.Idx) :
    ((((cfgM m (ok m)).win 2).blk t).view.emb x (1 : Fin 2)).val = (x 1).val := by
  have e : ((cfgM m (ok m)).win 2).index t (1 : Fin 2) = _ := congrFun (idx m t).2.2.1 (1 : Fin 2)
  refine (Pipeline.Window.rect_emb_val ((cfgM m (ok m)).win 2) t x (1 : Fin 2) rfl).trans ?_
  rw [e]
  exact show _ * 1024 + _ = _ from (congrArg (· + _) (Nat.zero_mul _)).trans (Nat.zero_add _)

theorem e30 (t : Fin (cfgM m (ok m)).N) (x : S512x1024.Idx) :
    ((((cfgM m (ok m)).win 3).blk t).view.emb x (0 : Fin 2)).val = t.val * 512 + (x 0).val := by
  have e : ((cfgM m (ok m)).win 3).index t (0 : Fin 2) = _ := congrFun (idx m t).2.2.2 (0 : Fin 2)
  refine (Pipeline.Window.rect_emb_val ((cfgM m (ok m)).win 3) t x (0 : Fin 2) rfl).trans ?_
  rw [e]
  exact show _ * 512 + _ = _ from rfl

theorem e31 (t : Fin (cfgM m (ok m)).N) (x : S512x1024.Idx) :
    ((((cfgM m (ok m)).win 3).blk t).view.emb x (1 : Fin 2)).val = (x 1).val := by
  have e : ((cfgM m (ok m)).win 3).index t (1 : Fin 2) = _ := congrFun (idx m t).2.2.2 (1 : Fin 2)
  refine (Pipeline.Window.rect_emb_val ((cfgM m (ok m)).win 3) t x (1 : Fin 2) rfl).trans ?_
  rw [e]
  exact show _ * 1024 + _ = _ from (congrArg (· + _) (Nat.zero_mul _)).trans (Nat.zero_add _)

/-- The operands' blocks at an index. -/
theorem in0 (c : Dev nD) (t : Fin (cfgM m (ok m)).N) (x : S4096x512.Idx) (z : S4096x2048.Idx)
    (h0 : (z 0).val = (x 0).val) (h1 : (z 1).val = t.val * 512 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x1024.Idx) (z : S4096x2048.Idx)
    (h0 : (z 0).val = (x 0).val) (h1 : (z 1).val = (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem in2 (c : Dev nD) (t : Fin (cfgM m (ok m)).N) (x : S512x1024.Idx) (z : S2048x1024.Idx)
    (h0 : (z 0).val = t.val * 512 + (x 0).val) (h1 : (z 1).val = (x 1).val) :
    iblk m (ok m) c 2 t x = m ((c : Thread nD τ).loc main_arg2) z := by
  refine (congrFun (V_main_arg2 m c) _).trans (congrArg _ (funext fun a => Fin.ext ?_))
  match a with
  | ⟨0, _⟩ => exact (e20 m t x).trans h0.symm
  | ⟨1, _⟩ => exact (e21 m t x).trans h1.symm

theorem covers : ((cfgM m (ok m)).win 3).Covers := by
  refine ⟨(by decide : ∀ a : Fin 2, 0 < S512x1024.size a), fun β => ?_⟩
  have b0 : (β (0 : Fin 2)).val < (2048 + 512 - 1) / 512 := (β (0 : Fin 2)).isLt
  have b1 : (β (1 : Fin 2)).val < (1024 + 1024 - 1) / 1024 := (β (1 : Fin 2)).isLt
  refine ⟨⟨(β (0 : Fin 2)).val, N_0.symm ▸ (by omega : _ < 4)⟩, flush0_3 _ _, fun a => ⟨?_, Or.inl rfl⟩⟩
  refine (congrFun (idx m _).2.2.2 a).trans ?_
  match a with
  | ⟨1, _⟩ => show 0 = (β (1 : Fin 2)).val; omega
  | ⟨0, _⟩ => rfl

theorem final (c : Dev nD) : (dats m (ok m) 0 c).arrAt 3 (cfgM m (ok m)).N
    = goal (m ((c : Thread nD τ).loc main_arg0)) (m ((c : Thread nD τ).loc main_arg1)) (m ((c : Thread nD τ).loc main_arg2)) := by
  refine (dats m (ok m) 0 c).arrAt_eq_of_covers 3 _ (covers m) fun t _ y => ?_
  refine (congrFun (after0_3 m (ok m) c t) y).trans ((out_eq c _ _ _ _ _ _ _ _ _ _ _ _ _ y).trans
    (Eq.trans ?_ (goal_apply _ _ _ _).symm))
  refine congrArg₂ (HAdd.hAdd (α := Ideal .bf16) (β := Ideal .bf16)) (in2 m c t _ _ (e30 m t y) (e31 m t y)) ?_
  refine Finset.sum_congr rfl fun k _ => congrArg₂ (HMul.hMul (α := Ideal .bf16) (β := Ideal .bf16))
    (in0 m c t _ _ ?_ ?_) (in1 m c t _ _ ?_ ?_)
  · rfl
  · exact e30 m t y
  · rfl
  · exact e31 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))

end DwOut

end
-- ==== Proof.MixDxn.lean ====
module

public import proofs.«01_k».proof.Proof.Gen.Kernel14Ideal.Value
public import proofs.«01_k».proof.Proof.Gen.Reference14Ideal.Read
public import Idealize.ShloMosaic.Lib.Pointwise
public import Idealize.ShloMosaic.Lib.ValueLayout
public import Idealize.ShloMosaic.Lib.Pipeline.ValueKit
public import Idealize.ShloMosaic.Lib.Pipeline.ReadBack

/-! The gradient at the normalised input of an even layer: a run of twenty-four grid points adds up, in a scratch array, the
    products over twenty-four slices of the projected width, and its last point stores the sum; the blocks together are the
    reference's array, whose product runs over the whole width. -/

@[expose] public section

set_option maxRecDepth 16384

noncomputable section

namespace MixDxn

open Cert.Kernel14Ideal Cert.Kernel14Ideal.Gen Idealize.ShloMosaic Idealize.ShloMosaic.TcCoe Idealize.SL.Sem

variable (m : (ℓ : Loc nD τ sig) → Buf (Elt Ideal) ℓ)

/-- One slice's contribution: a row of a gradient's block against a row of a weight's block. -/
def part (x0 : FVec Ideal S1024x512 .bf16) (x1 : FVec Ideal S2048x512 .bf16) (j : S1024x2048.Idx) : EReal :=
  ∑ k : Fin 512, x0 (ix2 (j 0) k) * x1 (ix2 (j 1) k)

theorem pay1_apply (x0 : FVec Ideal S1024x512 .bf16) (x1 : FVec Ideal S2048x512 .bf16) (j : S1024x2048.Idx) :
    k0_pay1 (F := Ideal) x0 x1 j = part x0 x1 j := by
  unfold part
  pointwise [k0_pay1]

theorem pay2_apply (acc : FVec Ideal S1024x2048 .f32) (x0 : FVec Ideal S1024x512 .bf16) (x1 : FVec Ideal S2048x512 .bf16) (j : S1024x2048.Idx) :
    k0_pay2 (F := Ideal) acc x0 x1 j = acc j + part x0 x1 j := by
  unfold part
  pointwise [k0_pay2]

theorem pay3_apply (acc : FVec Ideal S1024x2048 .f32) (z : FVec Ideal S1x1 .f32) (j : S1024x2048.Idx) :
    k0_pay3 (F := Ideal) acc z j = acc j + z (ix2 ⟨0, by decide⟩ ⟨0, by decide⟩) := by
  pointwise [k0_pay3]

/-- Which block of its array each window holds at each grid point. -/
theorem idx : ∀ t : Fin cfg0.N, win0_0.index t = ![t.val / 24, t.val % 24] ∧ win0_1.index t = ![0, t.val % 24]
    ∧ win0_2.index t = ![0, 0] ∧ win0_3.index t = ![t.val / 24, 0] :=
  (by decide +kernel : ∀ t : Fin grid0.N, _)

/-- The number added to the sum is zero. -/
theorem added (c : Dev nD) (t : Fin cfg0.N) (j : S8x128.Idx) : @Eq EReal (iblk m c 2 t j) (Ideal.ofBits .f32 0x00000000#32) := by
  unfold iblk
  rw [View.read_apply]
  entry_read
  rfl

/-- What a grid point leaves in the scratch array. -/
def acc (c : Dev nD) (n : Nat) (h : n < cfg0.N) : S1024x2048.Idx → EReal := (outsAt0 m c n h).2

theorem acc_first (c : Dev nD) (t : Fin cfg0.N) (h : t.val % 24 = 0) (j : S1024x2048.Idx) :
    acc m c t.val t.isLt j = 0 + part (iblk m c 0 t) (iblk m c 1 t) j := by
  unfold acc
  rw [outsAt0_A m c t h (by omega) (by omega)]
  frame_out
  rw [pay1_apply, zero_add]

theorem acc_next (c : Dev nD) (t : Fin cfg0.N) (h : ¬t.val % 24 = 0) (j : S1024x2048.Idx) :
    acc m c t.val t.isLt j = acc m c (t.val - 1) (Nat.lt_of_le_of_lt (Nat.sub_le _ _) t.isLt) j
      + part (iblk m c 0 t) (iblk m c 1 t) j := by
  unfold acc
  by_cases h2 : t.val % 24 = 23
  · rw [outsAt0_C m c t h (by omega) h2]
    frame_out
    rw [pay2_apply]
    exact congrArg (· + _) (congrFun (read_unread_whole cc0_scratch0 _ _) j)
  · rw [outsAt0_B m c t h (by omega) h2]
    frame_out
    rw [pay2_apply]
    exact congrArg (· + _) (congrFun (read_unread_whole cc0_scratch0 _ _) j)

/-- What the last point of a run stores is what it leaves in the scratch array. -/
theorem stored (c : Dev nD) (t : Fin cfg0.N) (h : t.val % 24 = 23) (j : S1024x2048.Idx) :
    @Eq EReal ((outsAt0 m c t.val t.isLt).1 j) (acc m c t.val t.isLt j) := by
  unfold acc
  rw [outsAt0_C m c t (by omega) (by omega) h]
  frame_out
  rw [pay3_apply]
  refine (congrArg (_ + ·) ((added m c t _).trans (by simp [Ideal.ofBits, Ideal.ieee] : Ideal.ofBits .f32 0x00000000#32 = (0 : EReal)))).trans (add_zero _)

/-- The product over the whole width. -/
def whole (X : FVec Ideal S4096x12288 .bf16) (W : FVec Ideal S2048x12288 .bf16) (i : S4096x2048.Idx) : EReal :=
  ∑ k : Fin 12288, X (ix2 (i 0) k) * W (ix2 (i 1) k)

theorem ref4 (X : FVec Ideal S4096x12288 .bf16) (W : FVec Ideal S2048x12288 .bf16) (i : S4096x2048.Idx) :
    Cert.Reference14Ideal.Read.val_main_v4 (F := Ideal) X W i = whole X W i := by
  refine (Cert.Reference14Ideal.Read.val_main_v4_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem final (c : Dev nD) : (dats m 0 c).arrAt 3 cfg0.N
    = Cert.Reference14Ideal.Read.val_main_v4 (F := Ideal) (m ((c : Thread nD τ).loc main_arg0)) (m ((c : Thread nD τ).loc main_arg1)) := by
  refine (dats m 0 c).arrAt_eq_of_covers 3 _ (by decide +kernel) fun t hf y => ?_
  have hr : t.val % 24 = 23 := (flush0_3 t).mp hf
  blk_simp
  rw [after0_3]
  refine (stored m c t hr y).trans ((Pipeline.eq_sum_fin_of_reset_step_apply_of_flush (acc m c) 24 (fun _ => 0)
    (fun p j => part (iblk m c 0 p) (iblk m c 1 p) j)
    (acc_first m c) (acc_next m c) t hr y).trans ((zero_add _).trans (Eq.trans ?_ (ref4 _ _ _).symm)))
  unfold part whole
  refine Fin.sum_mul_add_congr fun s k hl => ?_
  blk_point [iblk, V, idx t, idx ⟨_, Pipeline.run_point_lt_of_flush t hr s⟩]

end MixDxn

end
-- ==== Proof.MixDy.lean ====
module

public import proofs.«01_k».proof.Proof.Gen.Kernel15Ideal.Value
public import proofs.«01_k».proof.Proof.Gen.Reference15Ideal.Read
public import Idealize.ShloMosaic.Lib.Pointwise
public import Idealize.ShloMosaic.Lib.ValueLayout
public import Idealize.ShloMosaic.Lib.Pipeline.ValueKit
public import Idealize.ShloMosaic.Lib.Pipeline.ReadBack

/-! The gradient at the output projection's argument: every block of the result is a product of two row blocks, so the blocks
    together are the reference's array. -/

@[expose] public section

set_option maxRecDepth 16384

noncomputable section

namespace MixDy

open Cert.Kernel15Ideal Cert.Kernel15Ideal.Gen Idealize.ShloMosaic Idealize.ShloMosaic.TcCoe Idealize.SL.Sem

variable (m : (ℓ : Loc nD τ sig) → Buf (Elt Ideal) ℓ)

/-- What the call is to return. -/
abbrev goal (X : FVec Ideal S4096x2048 .bf16) (W : FVec Ideal S2048x2048 .bf16) : FVec Ideal S4096x2048 .f32 :=
  Cert.Reference15Ideal.Read.val_main_v4 (F := Ideal) X W

theorem goal_apply (X : FVec Ideal S4096x2048 .bf16) (W : FVec Ideal S2048x2048 .bf16) (i : S4096x2048.Idx) :
    goal X W i = ∑ k : Fin 2048, X (ix2 (i 0) k) * W (ix2 (i 1) k) := by
  refine (Cert.Reference15Ideal.Read.val_main_v4_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem pay_apply (x0 : FVec Ideal S1024x2048 .bf16) (x1 : FVec Ideal S512x2048 .bf16) (z : FVec Ideal S1x1 .f32) (j : S1024x512.Idx) :
    k0_pay1 (F := Ideal) x0 x1 z j = (∑ k : Fin 2048, x0 (ix2 (j 0) k) * x1 (ix2 (j 1) k)) + z (ix2 ⟨0, by decide⟩ ⟨0, by decide⟩) := by
  pointwise [k0_pay1]

/-- Which block of its array each window holds at each grid point. -/
theorem idx : ∀ t : Fin cfg0.N, win0_0.index t = ![t.val / 4, 0] ∧ win0_1.index t = ![t.val % 4, 0]
    ∧ win0_2.index t = ![0, 0] ∧ win0_3.index t = ![t.val / 4, t.val % 4] :=
  (by decide +kernel : ∀ t : Fin grid0.N, _)

/-- The number added to the sum is zero. -/
theorem added (c : Dev nD) (t : Fin cfg0.N) (j : S8x128.Idx) : @Eq EReal (iblk m c 2 t j) (Ideal.ofBits .f32 0x00000000#32) := by
  unfold iblk
  rw [View.read_apply]
  entry_read
  rfl

theorem add_added (a z : EReal) (h : z = Ideal.ofBits .f32 0x00000000#32) : a + z = a := by
  rw [h, show Ideal.ofBits .f32 0x00000000#32 = (0 : EReal) by simp [Ideal.ofBits, Ideal.ieee], add_zero]

theorem final (c : Dev nD) : (dats m 0 c).arrAt 3 cfg0.N
    = goal (m ((c : Thread nD τ).loc main_arg0)) (m ((c : Thread nD τ).loc main_arg1)) := by
  refine (dats m 0 c).arrAt_eq_of_covers 3 _ (by decide +kernel) fun t _ y => ?_
  blk_simp
  rw [after0_3]
  frame_out
  rw [pay_apply, goal_apply]
  refine (add_added _ _ (added m c t _)).trans ?_
  blk_point [iblk, V, idx t]

end MixDy

end
-- ==== Proof.EvIn.lean ====
module

public import proofs.«01_k».proof.Proof.Gen.Kernel16Ideal.Value
public import proofs.«01_k».proof.Proof.Gen.Reference16Ideal.Read
public import Idealize.ShloMosaic.Lib.Pointwise
public import Idealize.ShloMosaic.Lib.ValueLayout
public import Idealize.ShloMosaic.Lib.Pipeline.ValueKit

/-! The input projection of an even layer: every block of the result is a product of a row block and a column block, so the
    blocks together are the reference's array. -/

@[expose] public section

set_option maxRecDepth 16384

noncomputable section

namespace EvIn

open Cert.Kernel16Ideal Cert.Kernel16Ideal.Gen Idealize.ShloMosaic Idealize.ShloMosaic.TcCoe Idealize.SL.Sem

variable (m : (ℓ : Loc nD τ sig) → Buf (Elt Ideal) ℓ)

/-- What the input projection is to return. -/
abbrev goal (X : FVec Ideal S4096x2048 .bf16) (W : FVec Ideal S2048x12288 .bf16) : FVec Ideal S4096x12288 .bf16 :=
  Cert.Reference16Ideal.Read.val_main_v3 (F := Ideal) X W

theorem goal_apply (X : FVec Ideal S4096x2048 .bf16) (W : FVec Ideal S2048x12288 .bf16) (i : S4096x12288.Idx) :
    goal X W i = ∑ k : Fin 2048, X (ix2 (i 0) k) * W (ix2 k (i 1)) := by
  refine (Cert.Reference16Ideal.Read.val_main_v2_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem pay_apply (x0 : FVec Ideal S1024x2048 .bf16) (x1 : FVec Ideal S2048x512 .bf16) (j : S1024x512.Idx) :
    k0_pay1 (F := Ideal) x0 x1 j = ∑ k : Fin 2048, x0 (ix2 (j 0) k) * x1 (ix2 k (j 1)) := by
  pointwise [k0_pay1]

/-- Which block of its array each window holds at each grid point. -/
theorem idx : ∀ t : Fin cfg0.N, win0_0.index t = ![t.val / 24, 0] ∧ win0_1.index t = ![0, t.val % 24]
    ∧ win0_2.index t = ![t.val / 24, t.val % 24] :=
  (by decide +kernel : ∀ t : Fin grid0.N, _)

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_apply, goal_apply]
  blk_point [iblk, V, idx t]

end EvIn

end
-- ==== Proof.MixOut.lean ====
module

public import proofs.«01_k».proof.Proof.Gen.Kernel17Ideal.Value
public import proofs.«01_k».proof.Proof.Gen.Reference17Ideal.Read
public import Idealize.ShloMosaic.Lib.Pointwise
public import Idealize.ShloMosaic.Lib.ValueLayout
public import Idealize.ShloMosaic.Lib.Pipeline.ValueKit

/-! The output projection of a mixing layer: every block of the result is the residual plus a product of a row block and a
    column block, so the blocks together are the reference's array. -/

@[expose] public section

set_option maxRecDepth 16384

noncomputable section

namespace MixOut

open Cert.Kernel17Ideal Cert.Kernel17Ideal.Gen Idealize.ShloMosaic Idealize.ShloMosaic.TcCoe Idealize.SL.Sem

variable (m : (ℓ : Loc nD τ sig) → Buf (Elt Ideal) ℓ)

/-- What the output projection is to return. -/
abbrev goal (X : FVec Ideal S4096x2048 .bf16) (W : FVec Ideal S2048x2048 .bf16) (Z : FVec Ideal S4096x2048 .f32) :
    FVec Ideal S4096x2048 .f32 :=
  Cert.Reference17Ideal.Read.val_main_v3 (F := Ideal) X W Z

theorem goal_apply (X : FVec Ideal S4096x2048 .bf16) (W : FVec Ideal S2048x2048 .bf16) (Z : FVec Ideal S4096x2048 .f32)
    (i : S4096x2048.Idx) :
    goal X W Z i = Z i + ∑ k : Fin 2048, X (ix2 (i 0) k) * W (ix2 k (i 1)) := by
  refine congrArg (Z i + ·) ((Cert.Reference17Ideal.Read.val_main_v2_apply X W i).trans ?_)
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem pay_apply (x0 : FVec Ideal S1024x2048 .bf16) (x1 : FVec Ideal S2048x512 .bf16) (x2 : FVec Ideal S1024x512 .f32)
    (j : S1024x512.Idx) :
    k0_pay1 (F := Ideal) x0 x1 x2 j = x2 j + ∑ k : Fin 2048, x0 (ix2 (j 0) k) * x1 (ix2 k (j 1)) := by
  pointwise [k0_pay1]

/-- Which block of its array each window holds at each grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_apply, goal_apply]
  blk_point [iblk, V, idx t]

end MixOut

end
-- ==== Proof.DwInOddSib.lean ====
module

public import proofs.«01_k».proof.Proof.Gen.Kernel18.Frame
public import proofs.«01_k».proof.Proof.Gen.Kernel18Ideal.Frame
public import proofs.«01_k».proof.Proof.Gen.Reference18Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The sibling's half of the input projection's gradient in an odd layer: the prefetched table selects the right half of
    the operand's columns, and the blocks together are the lower half of the reference's rows. -/

@[expose] public section

set_option maxRecDepth 16384

noncomputable section

namespace DwInOddSib.Machine

open Cert.Kernel18 Cert.Kernel18.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end DwInOddSib.Machine

namespace DwInOddSib

open Cert.Kernel18Ideal Cert.Kernel18Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 1] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x3072 .bf16) : FVec Ideal S1024x3072 .bf16 :=
  Cert.Reference18Ideal.Read.val_main_v7 (F := Ideal) X D

theorem goal_apply (X : FVec Ideal S4096x2048 .bf16) (D : FVec Ideal S4096x3072 .bf16) (i : S1024x3072.Idx) :
    goal X D i = ∑ k : Fin 4096, X (ix2 k ⟨1024 + (i 0).val, by have h : (i 0).val < 1024 := (i 0).isLt; omega⟩) * D (ix2 k (i 1)) := by
  refine (Cert.Reference18Ideal.Read.val_main_v6_apply (F := Ideal) X D i).trans ?_
  refine (Cert.Reference18Ideal.Read.val_main_v5_apply (F := Ideal) X D _).trans ?_
  refine (Cert.Reference18Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (y : S1024x512.Idx) :
    k0_pay1 (F := Ideal) x0 x1 y = ∑ k : Fin 4096, x0 (ix2 k (y 0)) * x1 (ix2 k (y 1)) := by
  pointwise [k0_pay1]

/-- Which block of its array each window holds at each grid point. -/
theorem idx (t : Fin (cfgM m (ok m)).N) : ((cfgM m (ok m)).win 0).index t = ![0, 1]
    ∧ ((cfgM m (ok m)).win 1).index t = ![0, t.val]
    ∧ ((cfgM m (ok m)).win 2).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (x0 : FVec Ideal S4096x1024 .bf16) (x1 : FVec Ideal S4096x512 .bf16) (w : TbBuf0 (F := Ideal) c tbM0_0) (y : S1024x512.Idx) :
    out0_A_2 (F := Ideal) c i b0 h0 b1 h1 b2 h2 x0 x1 w y = ∑ k : Fin 4096, x0 (ix2 k (y 0)) * x1 (ix2 k (y 1)) := by
  unfold out0_A_2
  frame_out
  exact pay_apply x0 x1 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = 1 * 1024 + (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from rfl

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2 (1 : Fin 2)
  refine (Pipeline.Window.rect_emb_val ((cfgM m (ok m)).win 2) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = 1 * 1024 + (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x3072.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem covers : ((cfgM m (ok m)).win 2).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (3072 + 512 - 1) / 512 := (β (1 : Fin 2)).isLt
  refine ⟨⟨(β (1 : Fin 2)).val, N_0.symm ▸ (by omega : _ < 6)⟩, flush0_2 _ _, fun a => ⟨?_, Or.inl rfl⟩⟩
  refine (congrFun (idx m _).2.2 a).trans ?_
  match a with
  | ⟨0, _⟩ => show 0 = (β (0 : Fin 2)).val; omega
  | ⟨1, _⟩ => rfl

theorem final (c : Dev nD) : (dats m (ok m) 0 c).arrAt 2 (cfgM m (ok m)).N
    = goal (m ((c : Thread nD τ).loc main_arg0)) (m ((c : Thread nD τ).loc main_arg1)) := by
  refine (dats m (ok m) 0 c).arrAt_eq_of_covers 2 _ (covers m) fun t _ y => ?_
  refine (congrFun (after0_2 m (ok m) c t) y).trans ((out_eq c _ _ _ _ _ _ _ _ _ _ y).trans
    (Eq.trans ?_ (goal_apply _ _ _).symm))
  refine Finset.sum_congr rfl fun k _ => congrArg₂ (HMul.hMul (α := Ideal .bf16) (β := Ideal .bf16))
    (in0 m c t _ _ ?_ ?_) (in1 m c t _ _ ?_ ?_)
  · rfl
  · exact congrArg (1024 + ·) (e20 m t y)
  · rfl
  · exact e21 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end DwInOddSib

end
-- ==== Proof.DwInOdd.lean ====
module

public import proofs.«01_k».proof.Proof.Gen.Kernel19.Frame
public import proofs.«01_k».proof.Proof.Gen.Kernel19Ideal.Frame
public import proofs.«01_k».proof.Proof.Gen.Reference19Ideal.Read
public import proofs.«01_k».proof.Proof.Half
public import Idealize.ShloMosaic.Lib.Pointwise
public import Idealize.ShloMosaic.Lib.ValueLayout
public import Idealize.ShloMosaic.Lib.Pipeline.ValueKit
public import Idealize.ShloMosaic.Lib.StableHlo.ReadAt

/-! The core's own half of the input projection's gradient in an odd layer, added to the received half: the prefetched
    table selects the left half of the operand's columns, and the blocks together are the upper half of the reference's
    rows. -/

@[expose] public section

set_option maxRecDepth 16384

noncomputable section

namespace DwInOdd.Machine

open Cert.Kernel19 Cert.Kernel19.Gen Idealize.ShloMosaic Idealize.ShloMosaic.TcCoe Idealize.SL.Sem

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end DwInOdd.Machine

namespace DwInOdd

open Cert.Kernel19Ideal Cert.Kernel19Ideal.Gen Idealize.ShloMosaic Idealize.ShloMosaic.TcCoe Idealize.SL.Sem

section Table

variable {F : FTy → Type} [FloatOps F] (m : (ℓ : Loc nD τ sig) → Buf (Elt F) ℓ)

/-- The table holds the core's place on its axis, which is 0. -/
theorem word (x : S1.Idx) : tbl m 0 x = (0#32 : BitVec 32) := by
  show StableHlo.after hostOps0 (fun b => m ((0 : Dev nD), b)) (Proc.devRef .tc main_v0) x = _
  after_results
  rfl

/-- The block the table selects. -/
theorem half (i : grid0.Coords) : cc0_transform_0 Facts₀.inb_S1_S1_0 Facts₀.numel1_S1 (tbl m) i = ![0, 0] := by
  have e : (tbl m).at 0 (Rect.unit (s := S1) ![0] S1.size Facts₀.inb_S1_S1_0) Facts₀.numel1_S1 = (0#32 : BitVec 32) := word m _
  unfold cc0_transform_0
  simp only [e]
  revert i
  decide +kernel

/-- It lies in the array. -/
theorem ok : Ok m := by
  intro i
  rw [half m i]
  exact ⟨by decide, by decide +kernel⟩

end Table

variable (m : (ℓ : Loc nD τ sig) → Buf (Elt Ideal) ℓ)

/-- What the call is to return. -/
abbrev goal (X : FVec Ideal S4096x2048 .bf16) (D : FVec Ideal S4096x3072 .bf16) (G : FVec Ideal S1024x3072 .bf16) : FVec Ideal S1024x3072 .bf16 :=
  Cert.Reference19Ideal.Read.val_main_v9 (F := Ideal) X D G

theorem goal_apply (X : FVec Ideal S4096x2048 .bf16) (D : FVec Ideal S4096x3072 .bf16) (G : FVec Ideal S1024x3072 .bf16) (i : S1024x3072.Idx) :
    goal X D G i = G i + (∑ k : Fin 4096, X (ix2 k ⟨(i 0).val, by have h : (i 0).val < 1024 := (i 0).isLt; omega⟩) * D (ix2 k (i 1))) := by
  refine congrArg (G i + ·) ?_
  refine (Cert.Reference19Ideal.Read.val_main_v7_apply (F := Ideal) X D i).trans ?_
  refine (Cert.Reference19Ideal.Read.val_main_v5_apply (F := Ideal) X D _).trans ?_
  refine (Cert.Reference19Ideal.Read.val_main_v4_apply X D _).trans ?_
  refine Finset.sum_congr rfl fun k _ => (mul_comm _ _).trans (congrArg₂ (· * ·) (congrArg X ?_) (congrArg D ?_))
  · funext a; match a with | ⟨0, _⟩ => rfl | ⟨1, _⟩ => rfl
  · funext a; match a with | ⟨0, _⟩ => rfl | ⟨1, _⟩ => rfl

theorem pay_apply (x0 : FVec Ideal S4096x1024 .bf16) (x1 : FVec Ideal S4096x512 .bf16) (x2 : FVec Ideal S1024x512 .bf16) (y : S1024x512.Idx) :
    k0_pay1 (F := Ideal) x0 x1 x2 y = x2 y + (∑ k : Fin 4096, x0 (ix2 k (y 0)) * x1 (ix2 k (y 1))) := by
  pointwise [k0_pay1]

/-- Which block of its array each window holds at each grid point. -/
theorem idx (t : Fin (cfgM m (ok m)).N) : ((cfgM m (ok m)).win 0).index t = ![0, 0]
    ∧ ((cfgM m (ok m)).win 1).index t = ![0, t.val]
    ∧ ((cfgM m (ok m)).win 2).index t = ![0, t.val]
    ∧ ((cfgM m (ok m)).win 3).index t = ![0, t.val] :=
  ⟨half m _,
    (by decide +kernel : ∀ t : Fin grid0.N, cc0_transform_1 (grid0.coords t) = ![0, t.val]) t,
    (by decide +kernel : ∀ t : Fin grid0.N, cc0_transform_2 (grid0.coords t) = ![0, t.val]) t,
    (by decide +kernel : ∀ t : Fin grid0.N, cc0_transform_3 (grid0.coords t) = ![0, t.val]) t⟩

/-- What a point leaves in its block of the result, on any staging memrefs. -/
theorem out_eq (c : Dev nD) (i : grid0.Coords) (b0 : Memref sig .tc .vmem S4096x1024 .bf16) (h0 : b0.IsWhole)
    (b1 : Memref sig .tc .vmem S4096x512 .bf16) (h1 : b1.IsWhole)
    (b2 : Memref sig .tc .vmem S1024x512 .bf16) (h2 : b2.IsWhole)
    (b3 : Memref sig .tc .vmem S1024x512 .bf16) (h3 : b3.IsWhole)
    (x0 : FVec Ideal S4096x1024 .bf16) (x1 : FVec Ideal S4096x512 .bf16) (x2 : FVec Ideal S1024x512 .bf16) (w : TbBuf0 (F := Ideal) c tbM0_0) (y : S1024x512.Idx) :
    out0_A_3 (F := Ideal) c i b0 h0 b1 h1 b2 h2 b3 h3 x0 x1 x2 w y = x2 y + (∑ k : Fin 4096, x0 (ix2 k (y 0)) * x1 (ix2 k (y 1))) := by
  unfold out0_A_3
  frame_out
  exact pay_apply x0 x1 x2 y

/-- Where an index of a block lies in its array. -/
theorem e00 (t : Fin (cfgM m (ok m)).N) (x : S4096x1024.Idx) :
    ((((cfgM m (ok m)).win 0).blk t).view.emb x (0 : Fin 2)).val = (x 0).val := by
  have e : ((cfgM m (ok m)).win 0).index t (0 : Fin 2) = _ := congrFun (idx m t).1 (0 : Fin 2)
  refine (Pipeline.Window.rect_emb_val ((cfgM m (ok m)).win 0) t x (0 : Fin 2) rfl).trans ?_
  rw [e]
  exact show _ * 4096 + _ = _ from (congrArg (· + _) (Nat.zero_mul _)).trans (Nat.zero_add _)

theorem e01 (t : Fin (cfgM m (ok m)).N) (x : S4096x1024.Idx) :
    ((((cfgM m (ok m)).win 0).blk t).view.emb x (1 : Fin 2)).val = (x 1).val := by
  have e : ((cfgM m (ok m)).win 0).index t (1 : Fin 2) = _ := congrFun (idx m t).1 (1 : Fin 2)
  refine (Pipeline.Window.rect_emb_val ((cfgM m (ok m)).win 0) t x (1 : Fin 2) rfl).trans ?_
  rw [e]
  exact show _ * 1024 + _ = _ from (congrArg (· + _) (Nat.zero_mul _)).trans (Nat.zero_add _)

theorem e10 (t : Fin (cfgM m (ok m)).N) (x : S4096x512.Idx) :
    ((((cfgM m (ok m)).win 1).blk t).view.emb x (0 : Fin 2)).val = (x 0).val := by
  have e : ((cfgM m (ok m)).win 1).index t (0 : Fin 2) = _ := congrFun (idx m t).2.1 (0 : Fin 2)
  refine (Pipeline.Window.rect_emb_val ((cfgM m (ok m)).win 1) t x (0 : Fin 2) rfl).trans ?_
  rw [e]
  exact show _ * 4096 + _ = _ from (congrArg (· + _) (Nat.zero_mul _)).trans (Nat.zero_add _)

theorem e11 (t : Fin (cfgM m (ok m)).N) (x : S4096x512.Idx) :
    ((((cfgM m (ok m)).win 1).blk t).view.emb x (1 : Fin 2)).val = t.val * 512 + (x 1).val := by
  have e : ((cfgM m (ok m)).win 1).index t (1 : Fin 2) = _ := congrFun (idx m t).2.1 (1 : Fin 2)
  refine (Pipeline.Window.rect_emb_val ((cfgM m (ok m)).win 1) t x (1 : Fin 2) rfl).trans ?_
  rw [e]
  exact show _ * 512 + _ = _ from rfl

theorem e20 (t : Fin (cfgM m (ok m)).N) (x : S1024x512.Idx) :
    ((((cfgM m (ok m)).win 2).blk t).view.emb x (0 : Fin 2)).val = (x 0).val := by
  have e : ((cfgM m (ok m)).win 2).index t (0 : Fin 2) = _ := congrFun (idx m t).2.2.1 (0 : Fin 2)
  refine (Pipeline.Window.rect_emb_val ((cfgM m (ok m)).win 2) t x (0 : Fin 2) rfl).trans ?_
  rw [e]
  exact show _ * 1024 + _ = _ from (congrArg (· + _) (Nat.zero_mul _)).trans (Nat.zero_add _)

theorem e21 (t : Fin (cfgM m (ok m)).N) (x : S1024x512.Idx) :
    ((((cfgM m (ok m)).win 2).blk t).view.emb x (1 : Fin 2)).val = t.val * 512 + (x 1).val := by
  have e : ((cfgM m (ok m)).win 2).index t (1 : Fin 2) = _ := congrFun (idx m t).2.2.1 (1 : Fin 2)
  refine (Pipeline.Window.rect_emb_val ((cfgM m (ok m)).win 2) t x (1 : Fin 2) rfl).trans ?_
  rw [e]
  exact show _ * 512 + _ = _ from rfl

theorem e30 (t : Fin (cfgM m (ok m)).N) (x : S1024x512.Idx) :
    ((((cfgM m (ok m)).win 3).blk t).view.emb x (0 : Fin 2)).val = (x 0).val := by
  have e : ((cfgM m (ok m)).win 3).index t (0 : Fin 2) = _ := congrFun (idx m t).2.2.2 (0 : Fin 2)
  refine (Pipeline.Window.rect_emb_val ((cfgM m (ok m)).win 3) t x (0 : Fin 2) rfl).trans ?_
  rw [e]
  exact show _ * 1024 + _ = _ from (congrArg (· + _) (Nat.zero_mul _)).trans (Nat.zero_add _)

theorem e31 (t : Fin (cfgM m (ok m)).N) (x : S1024x512.Idx) :
    ((((cfgM m (ok m)).win 3).blk t).view.emb x (1 : Fin 2)).val = t.val * 512 + (x 1).val := by
  have e : ((cfgM m (ok m)).win 3).index t (1 : Fin 2) = _ := congrFun (idx m t).2.2.2 (1 : Fin 2)
  refine (Pipeline.Window.rect_emb_val ((cfgM m (ok m)).win 3) t x (1 : Fin 2) rfl).trans ?_
  rw [e]
  exact show _ * 512 + _ = _ from rfl

/-- The operands' blocks at an index. -/
theorem in0 (c : Dev nD) (t : Fin (cfgM m (ok m)).N) (x : S4096x1024.Idx) (z : S4096x2048.Idx)
    (h0 : (z 0).val = (x 0).val) (h1 : (z 1).val = (x 1).val) :
    iblk m (ok m) c 0 t x = m ((c : Thread nD τ).loc main_arg0) z := by
  refine (congrFun (V_main_arg0 m c) _).trans (congrArg _ (funext fun a => Fin.ext ?_))
  match a with
  | ⟨0, _⟩ => exact (e00 m t x).trans h0.symm
  | ⟨1, _⟩ => exact (e01 m t x).trans h1.symm

theorem in1 (c : Dev nD) (t : Fin (cfgM m (ok m)).N) (x : S4096x512.Idx) (z : S4096x3072.Idx)
    (h0 : (z 0).val = (x 0).val) (h1 : (z 1).val = t.val * 512 + (x 1).val) :
    iblk m (ok m) c 1 t x = m ((c : Thread nD τ).loc main_arg1) z := by
  refine (congrFun (V_main_arg1 m c) _).trans (congrArg _ (funext fun a => Fin.ext ?_))
  match a with
  | ⟨0, _⟩ => exact (e10 m t x).trans h0.symm
  | ⟨1, _⟩ => exact (e11 m t x).trans h1.symm

theorem in2 (c : Dev nD) (t : Fin (cfgM m (ok m)).N) (x : S1024x512.Idx) (z : S1024x3072.Idx)
    (h0 : (z 0).val = (x 0).val) (h1 : (z 1).val = t.val * 512 + (x 1).val) :
    iblk m (ok m) c 2 t x = m ((c : Thread nD τ).loc main_arg2) z := by
  refine (congrFun (V_main_arg2 m c) _).trans (congrArg _ (funext fun a => Fin.ext ?_))
  match a with
  | ⟨0, _⟩ => exact (e20 m t x).trans h0.symm
  | ⟨1, _⟩ => exact (e21 m t x).trans h1.symm

theorem covers : ((cfgM m (ok m)).win 3).Covers := by
  refine ⟨(by decide : ∀ a : Fin 2, 0 < S1024x512.size a), fun β => ?_⟩
  have b0 : (β (0 : Fin 2)).val < (1024 + 1024 - 1) / 1024 := (β (0 : Fin 2)).isLt
  have b1 : (β (1 : Fin 2)).val < (3072 + 512 - 1) / 512 := (β (1 : Fin 2)).isLt
  refine ⟨⟨(β (1 : Fin 2)).val, N_0.symm ▸ (by omega : _ < 6)⟩, flush0_3 _ _, fun a => ⟨?_, Or.inl rfl⟩⟩
  refine (congrFun (idx m _).2.2.2 a).trans ?_
  match a with
  | ⟨0, _⟩ => show 0 = (β (0 : Fin 2)).val; omega
  | ⟨1, _⟩ => rfl

theorem final (c : Dev nD) : (dats m (ok m) 0 c).arrAt 3 (cfgM m (ok m)).N
    = goal (m ((c : Thread nD τ).loc main_arg0)) (m ((c : Thread nD τ).loc main_arg1)) (m ((c : Thread nD τ).loc main_arg2)) := by
  refine (dats m (ok m) 0 c).arrAt_eq_of_covers 3 _ (covers m) fun t _ y => ?_
  refine (congrFun (after0_3 m (ok m) c t) y).trans ((out_eq c _ _ _ _ _ _ _ _ _ _ _ _ _ y).trans
    (Eq.trans ?_ (goal_apply _ _ _ _).symm))
  refine congrArg₂ (HAdd.hAdd (α := Ideal .bf16) (β := Ideal .bf16)) (in2 m c t _ _ (e30 m t y) (e31 m t y)) ?_
  refine Finset.sum_congr rfl fun k _ => congrArg₂ (HMul.hMul (α := Ideal .bf16) (β := Ideal .bf16))
    (in0 m c t _ _ ?_ ?_) (in1 m c t _ _ ?_ ?_)
  · rfl
  · exact e30 m t y
  · rfl
  · exact e31 m t y

/-- The run, with the result named by its blocks. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
    (run_main m ρ (ok m))

end DwInOdd

end
-- ==== Proof.MixDxnOdd.lean ====
module

public import proofs.«01_k».proof.Proof.Gen.Kernel20Ideal.Value
public import proofs.«01_k».proof.Proof.Gen.Reference20Ideal.Read
public import Idealize.ShloMosaic.Lib.Pointwise
public import Idealize.ShloMosaic.Lib.ValueLayout
public import Idealize.ShloMosaic.Lib.Pipeline.ValueKit
public import Idealize.ShloMosaic.Lib.Pipeline.ReadBack

/-! The gradient at the normalised input of an odd layer: a run of six grid points adds up, in a scratch array, the
    products over six slices of the projected width, and its last point stores the sum; the blocks together are the
    reference's array, whose product runs over the whole width. -/

@[expose] public section

set_option maxRecDepth 16384

noncomputable section

namespace MixDxnOdd

open Cert.Kernel20Ideal Cert.Kernel20Ideal.Gen Idealize.ShloMosaic Idealize.ShloMosaic.TcCoe Idealize.SL.Sem

variable (m : (ℓ : Loc nD τ sig) → Buf (Elt Ideal) ℓ)

/-- One slice's contribution: a row of a gradient's block against a row of a weight's block. -/
def part (x0 : FVec Ideal S1024x512 .bf16) (x1 : FVec Ideal S2048x512 .bf16) (j : S1024x2048.Idx) : EReal :=
  ∑ k : Fin 512, x0 (ix2 (j 0) k) * x1 (ix2 (j 1) k)

theorem pay1_apply (x0 : FVec Ideal S1024x512 .bf16) (x1 : FVec Ideal S2048x512 .bf16) (j : S1024x2048.Idx) :
    k0_pay1 (F := Ideal) x0 x1 j = part x0 x1 j := by
  unfold part
  pointwise [k0_pay1]

theorem pay2_apply (acc : FVec Ideal S1024x2048 .f32) (x0 : FVec Ideal S1024x512 .bf16) (x1 : FVec Ideal S2048x512 .bf16) (j : S1024x2048.Idx) :
    k0_pay2 (F := Ideal) acc x0 x1 j = acc j + part x0 x1 j := by
  unfold part
  pointwise [k0_pay2]

theorem pay3_apply (acc : FVec Ideal S1024x2048 .f32) (z : FVec Ideal S1x1 .f32) (j : S1024x2048.Idx) :
    k0_pay3 (F := Ideal) acc z j = acc j + z (ix2 ⟨0, by decide⟩ ⟨0, by decide⟩) := by
  pointwise [k0_pay3]

/-- Which block of its array each window holds at each grid point. -/
theorem idx : ∀ t : Fin cfg0.N, win0_0.index t = ![t.val / 6, t.val % 6] ∧ win0_1.index t = ![0, t.val % 6]
    ∧ win0_2.index t = ![0, 0] ∧ win0_3.index t = ![t.val / 6, 0] :=
  (by decide +kernel : ∀ t : Fin grid0.N, _)

/-- The number added to the sum is zero. -/
theorem added (c : Dev nD) (t : Fin cfg0.N) (j : S8x128.Idx) : @Eq EReal (iblk m c 2 t j) (Ideal.ofBits .f32 0x00000000#32) := by
  unfold iblk
  rw [View.read_apply]
  entry_read
  rfl

/-- What a grid point leaves in the scratch array. -/
def acc (c : Dev nD) (n : Nat) (h : n < cfg0.N) : S1024x2048.Idx → EReal := (outsAt0 m c n h).2

theorem acc_first (c : Dev nD) (t : Fin cfg0.N) (h : t.val % 6 = 0) (j : S1024x2048.Idx) :
    acc m c t.val t.isLt j = 0 + part (iblk m c 0 t) (iblk m c 1 t) j := by
  unfold acc
  rw [outsAt0_A m c t h (by omega) (by omega)]
  frame_out
  rw [pay1_apply, zero_add]

theorem acc_next (c : Dev nD) (t : Fin cfg0.N) (h : ¬t.val % 6 = 0) (j : S1024x2048.Idx) :
    acc m c t.val t.isLt j = acc m c (t.val - 1) (Nat.lt_of_le_of_lt (Nat.sub_le _ _) t.isLt) j
      + part (iblk m c 0 t) (iblk m c 1 t) j := by
  unfold acc
  by_cases h2 : t.val % 6 = 5
  · rw [outsAt0_C m c t h (by omega) h2]
    frame_out
    rw [pay2_apply]
    exact congrArg (· + _) (congrFun (read_unread_whole cc0_scratch0 _ _) j)
  · rw [outsAt0_B m c t h (by omega) h2]
    frame_out
    rw [pay2_apply]
    exact congrArg (· + _) (congrFun (read_unread_whole cc0_scratch0 _ _) j)

/-- What the last point of a run stores is what it leaves in the scratch array. -/
theorem stored (c : Dev nD) (t : Fin cfg0.N) (h : t.val % 6 = 5) (j : S1024x2048.Idx) :
    @Eq EReal ((outsAt0 m c t.val t.isLt).1 j) (acc m c t.val t.isLt j) := by
  unfold acc
  rw [outsAt0_C m c t (by omega) (by omega) h]
  frame_out
  rw [pay3_apply]
  refine (congrArg (_ + ·) ((added m c t _).trans (by simp [Ideal.ofBits, Ideal.ieee] : Ideal.ofBits .f32 0x00000000#32 = (0 : EReal)))).trans (add_zero _)

/-- The product over the whole width. -/
def whole (X : FVec Ideal S4096x3072 .bf16) (W : FVec Ideal S2048x3072 .bf16) (i : S4096x2048.Idx) : EReal :=
  ∑ k : Fin 3072, X (ix2 (i 0) k) * W (ix2 (i 1) k)

theorem ref4 (X : FVec Ideal S4096x3072 .bf16) (W : FVec Ideal S2048x3072 .bf16) (i : S4096x2048.Idx) :
    Cert.Reference20Ideal.Read.val_main_v4 (F := Ideal) X W i = whole X W i := by
  refine (Cert.Reference20Ideal.Read.val_main_v4_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem final (c : Dev nD) : (dats m 0 c).arrAt 3 cfg0.N
    = Cert.Reference20Ideal.Read.val_main_v4 (F := Ideal) (m ((c : Thread nD τ).loc main_arg0)) (m ((c : Thread nD τ).loc main_arg1)) := by
  refine (dats m 0 c).arrAt_eq_of_covers 3 _ (by decide +kernel) fun t hf y => ?_
  have hr : t.val % 6 = 5 := (flush0_3 t).mp hf
  blk_simp
  rw [after0_3]
  refine (stored m c t hr y).trans ((Pipeline.eq_sum_fin_of_reset_step_apply_of_flush (acc m c) 6 (fun _ => 0)
    (fun p j => part (iblk m c 0 p) (iblk m c 1 p) j)
    (acc_first m c) (acc_next m c) t hr y).trans ((zero_add _).trans (Eq.trans ?_ (ref4 _ _ _).symm)))
  unfold part whole
  refine Fin.sum_mul_add_congr fun s k hl => ?_
  blk_point [iblk, V, idx t, idx ⟨_, Pipeline.run_point_lt_of_flush t hr s⟩]

end MixDxnOdd

end
-- ==== Proof.OdIn.lean ====
module

public import proofs.«01_k».proof.Proof.Gen.Kernel21Ideal.Value
public import proofs.«01_k».proof.Proof.Gen.Reference21Ideal.Read
public import Idealize.ShloMosaic.Lib.Pointwise
public import Idealize.ShloMosaic.Lib.ValueLayout
public import Idealize.ShloMosaic.Lib.Pipeline.ValueKit

/-! The input projection of an odd layer: every block of the result is a product of a row block and a column block, so the
    blocks together are the reference's array. -/

@[expose] public section

set_option maxRecDepth 16384

noncomputable section

namespace OdIn

open Cert.Kernel21Ideal Cert.Kernel21Ideal.Gen Idealize.ShloMosaic Idealize.ShloMosaic.TcCoe Idealize.SL.Sem

variable (m : (ℓ : Loc nD τ sig) → Buf (Elt Ideal) ℓ)

/-- What the input projection is to return. -/
abbrev goal (X : FVec Ideal S4096x2048 .bf16) (W : FVec Ideal S2048x3072 .bf16) : FVec Ideal S4096x3072 .bf16 :=
  Cert.Reference21Ideal.Read.val_main_v3 (F := Ideal) X W

theorem goal_apply (X : FVec Ideal S4096x2048 .bf16) (W : FVec Ideal S2048x3072 .bf16) (i : S4096x3072.Idx) :
    goal X W i = ∑ k : Fin 2048, X (ix2 (i 0) k) * W (ix2 k (i 1)) := by
  refine (Cert.Reference21Ideal.Read.val_main_v2_apply X W i).trans ?_
  refine Finset.sum_congr rfl fun k _ => congrArg₂ (· * ·) (congrArg X ?_) (congrArg W ?_)
  · funext a; match a with | ⟨0, _⟩ => rfl | ⟨1, _⟩ => rfl
  · funext a; match a with | ⟨0, _⟩ => rfl | ⟨1, _⟩ => rfl

theorem pay_apply (x0 : FVec Ideal S1024x2048 .bf16) (x1 : FVec Ideal S2048x512 .bf16) (j : S1024x512.Idx) :
    k0_pay1 (F := Ideal) x0 x1 j = ∑ k : Fin 2048, x0 (ix2 (j 0) k) * x1 (ix2 k (j 1)) := by
  pointwise [k0_pay1]

/-- Which block of its array each window holds at each grid point. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_apply, goal_apply]
  blk_point [iblk, V, idx t]

end OdIn

end
-- ==== Proof.lean ====
/- The claim: the programs and their references run and leave their arguments alone, nothing was rewritten on the way
   to the exact reading, and the results of each program are the results of its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Read
public import Idealize.ShloMosaic.Adequacy
public import Idealize.ShloMosaic.Init
public import proofs.«01_k».proof.Proof.Finite
public import proofs.«01_k».proof.Proof.Final
public import proofs.«01_k».proof.Proof.Dxn
public import proofs.«01_k».proof.Proof.Dh
public import proofs.«01_k».proof.Proof.Up
public import proofs.«01_k».proof.Proof.Down
public import proofs.«01_k».proof.Proof.Dw1Sib
public import proofs.«01_k».proof.Proof.Dw1
public import proofs.«01_k».proof.Proof.Dw2Sib
public import proofs.«01_k».proof.Proof.Dw2
public import proofs.«01_k».proof.Proof.DwInSib
public import proofs.«01_k».proof.Proof.DwIn
public import proofs.«01_k».proof.Proof.DwOutSib
public import proofs.«01_k».proof.Proof.DwOut
public import proofs.«01_k».proof.Proof.MixDxn
public import proofs.«01_k».proof.Proof.MixDy
public import proofs.«01_k».proof.Proof.EvIn
public import proofs.«01_k».proof.Proof.MixOut
public import proofs.«01_k».proof.Proof.DwInOddSib
public import proofs.«01_k».proof.Proof.DwInOdd
public import proofs.«01_k».proof.Proof.MixDxnOdd
public import proofs.«01_k».proof.Proof.OdIn

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- At agreeing arguments the reference's five results are what the kernel's five arrays end as. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) {X : Attn.Inp} (hm : Attn.Holds X m c)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Read.val_main_v240 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = (Cert.KernelIdeal.Gen.dats m 0 c).arrAt 14 Cert.KernelIdeal.cfg0.N
      ∧ Cert.ReferenceIdeal.Read.val_main_v242 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = (Cert.KernelIdeal.Gen.dats m 0 c).arrAt 15 Cert.KernelIdeal.cfg0.N
      ∧ Cert.ReferenceIdeal.Read.val_main_v244 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = (Cert.KernelIdeal.Gen.dats m 0 c).arrAt 16 Cert.KernelIdeal.cfg0.N
      ∧ Cert.ReferenceIdeal.Read.val_main_v245 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = (Cert.KernelIdeal.Gen.dats m 0 c).arrAt 17 Cert.KernelIdeal.cfg0.N
      ∧ Cert.ReferenceIdeal.Read.val_main_v246 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = (Cert.KernelIdeal.Gen.dats m 0 c).arrAt 18 Cert.KernelIdeal.cfg0.N := by
  obtain ⟨a0, a1, a2, a3, a4, a5, a6, a7⟩ := ha
  refine ⟨Eq.trans ?_ (Attn.final_14 hm).symm, Eq.trans ?_ (Attn.final_15 hm).symm, Eq.trans ?_ (Attn.final_16 hm).symm, Eq.trans ?_ (Attn.final_17 hm).symm, Eq.trans ?_ (Attn.final_18 hm).symm⟩
  · rw [a0, a1, a2, a3, a4, a5, a6, a7]
  · rw [a0, a1, a2, a3, a4, a5, a6, a7]
  · rw [a0, a2, a4, a5, a6, a7]
  · rw [a0, a1, a2, a3, a4, a5, a6, a7]
  · rw [a0, a1, a2, a3, a4, a5, a6, a7]

theorem algebraic : Cert.algebraic_KernelIdeal_ReferenceIdeal_pre_finite (hPre_finite := Attn.finite_facts) := by
  intro m g m' g' hpre hagree
  refine ⟨_, _, _, _, _, Cert.KernelIdeal.Value.run_blocks m g, ?_⟩
  refine (θ_run Cert.ReferenceIdeal.defs _ _).mono (fun r h c => ?_) (Cert.ReferenceIdeal.Value.run (F := Ideal) m' g')
  obtain ⟨X, hX⟩ := Attn.exists_inp Attn.finite_facts _ _ _ _ _ _ _ _ (hpre c)
  obtain ⟨e0, e1, e2, e3, e4⟩ := results_agree m m' c hX (hagree c)
  exact ⟨((h c).1.trans (Cert.ReferenceIdeal.Read.val_main_v240_eq (StableHlo.launchContents m' c))).trans e0,
    ((h c).2.1.trans (Cert.ReferenceIdeal.Read.val_main_v242_eq (StableHlo.launchContents m' c))).trans e1,
    ((h c).2.2.1.trans (Cert.ReferenceIdeal.Read.val_main_v244_eq (StableHlo.launchContents m' c))).trans e2,
    ((h c).2.2.2.1.trans (Cert.ReferenceIdeal.Read.val_main_v245_eq (StableHlo.launchContents m' c))).trans e3,
    ((h c).2.2.2.2.1.trans (Cert.ReferenceIdeal.Read.val_main_v246_eq (StableHlo.launchContents m' c))).trans e4,
    (h c).2.2.2.2.2⟩

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem algebraic2 : Cert.algebraic_Kernel2Ideal_Reference2Ideal := by
  intro m g m' g' _ hagree
  refine ⟨_, Cert.Kernel2Ideal.Value.run_blocks m g, ?_⟩
  refine (θ_run Cert.Reference2Ideal.defs _ _).mono (fun r h c => ?_) (Cert.Reference2Ideal.Value.run (F := Ideal) m' g')
  obtain ⟨a0, a1, a2, a3⟩ := hagree c
  refine ⟨((h c).1.trans (Cert.Reference2Ideal.Read.val_main_v9_eq _ _ _ _)).trans (Eq.trans ?_ (Dxn.final m c).symm), (h c).2⟩
  · rw [a0, a1, a2, a3]

theorem finite3_facts : Cert.Pre_finite3.Facts where
  bitsLt_bf16_f32 := by decide
  bcast_S_S4096x2048 := by decide
  bcast_S_S5632x2048 := by decide
  bcast_S_S4096x5632 := by decide

theorem algebraic3 : Cert.algebraic_Kernel3Ideal_Reference3Ideal_pre_finite3 (hPre_finite3 := finite3_facts) := by
  intro m g m' g' hpre hagree
  refine ⟨_, _, Cert.Kernel3Ideal.Value.run_blocks m g, ?_⟩
  refine (θ_run Cert.Reference3Ideal.defs _ _).mono (fun r h c => ?_) (Cert.Reference3Ideal.Value.run (F := Ideal) m' g')
  obtain ⟨a0, a1, a2, a3⟩ := hagree c
  obtain ⟨p0, p1, p2, p3⟩ := hpre c
  have r0 := fun i => Attn.real_of_lt _ (congrFun p0 i)
  have r1 := fun i => Attn.real_of_lt _ (congrFun p1 i)
  have r2 := fun i => Attn.real_of_lt _ (congrFun p2 i)
  have r3 := fun i => Attn.real_of_lt _ (congrFun p3 i)
  refine ⟨((h c).1.trans (Cert.Reference3Ideal.Read.val_main_v15_eq _ _ _ _)).trans (Eq.trans ?_ (Dh.final5 m c r0 r1 r2 r3).symm),
    ((h c).2.1.trans (Cert.Reference3Ideal.Read.val_main_v16_eq _ _ _)).trans (Eq.trans ?_ (Dh.final6 m c r0 r1).symm), (h c).2.2⟩
  · rw [a0, a1, a2, a3]
  · rw [a0, a1, a2]

theorem algebraic4 : Cert.algebraic_Kernel4Ideal_Reference4Ideal := by
  intro m g m' g' _ hagree
  refine ⟨_, _, _, Cert.Kernel4Ideal.Value.run_blocks m g, ?_⟩
  refine (θ_run Cert.Reference4Ideal.defs _ _).mono (fun r h c => ?_) (Cert.Reference4Ideal.Value.run (F := Ideal) m' g')
  obtain ⟨a0, a1, a2⟩ := hagree c
  refine ⟨((h c).1.trans (Cert.Reference4Ideal.Read.val_main_v6_eq _ _)).trans (Eq.trans ?_ (Up.final3 m c).symm),
    ((h c).2.1.trans (Cert.Reference4Ideal.Read.val_main_v7_eq _ _)).trans (Eq.trans ?_ (Up.final4 m c).symm),
    ((h c).2.2.1.trans (Cert.Reference4Ideal.Read.val_main_v10_eq _ _ _)).trans (Eq.trans ?_ (Up.final5 m c).symm), (h c).2.2.2⟩
  · rw [a0, a1]
  · rw [a0, a2]
  · rw [a0, a1, a2]

theorem algebraic5 : Cert.algebraic_Kernel5Ideal_Reference5Ideal := by
  intro m g m' g' _ hagree
  refine ⟨_, Cert.Kernel5Ideal.Value.run_blocks m g, ?_⟩
  refine (θ_run Cert.Reference5Ideal.defs _ _).mono (fun r h c => ?_) (Cert.Reference5Ideal.Value.run (F := Ideal) m' g')
  obtain ⟨a0, a1, a2⟩ := hagree c
  refine ⟨((h c).1.trans (Cert.Reference5Ideal.Read.val_main_v5_eq _ _ _)).trans (Eq.trans ?_ (Down.final m c).symm), (h c).2⟩
  · rw [a0, a1, a2]

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' _ hagree
  refine ⟨_, Dw1Sib.run m g, ?_⟩
  refine (θ_run Cert.Reference6Ideal.defs _ _).mono (fun r h c => ?_) (Cert.Reference6Ideal.Value.run (F := Ideal) m' g')
  obtain ⟨a0, a1⟩ := hagree c
  refine ⟨((h c).1.trans (Cert.Reference6Ideal.Read.val_main_v7_eq _ _)).trans (Eq.trans ?_ (Dw1Sib.final m c).symm), (h c).2⟩
  · rw [a0, a1]

theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem algebraic7 : Cert.algebraic_Kernel7Ideal_Reference7Ideal := by
  intro m g m' g' _ hagree
  refine ⟨_, Dw1.run m g, ?_⟩
  refine (θ_run Cert.Reference7Ideal.defs _ _).mono (fun r h c => ?_) (Cert.Reference7Ideal.Value.run (F := Ideal) m' g')
  obtain ⟨a0, a1, a2⟩ := hagree c
  refine ⟨((h c).1.trans (Cert.Reference7Ideal.Read.val_main_v9_eq _ _ _)).trans (Eq.trans ?_ (Dw1.final m c).symm), (h c).2⟩
  · rw [a0, a1, a2]

theorem frame_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem algebraic8 : Cert.algebraic_Kernel8Ideal_Reference8Ideal := by
  intro m g m' g' _ hagree
  refine ⟨_, Dw2Sib.run m g, ?_⟩
  refine (θ_run Cert.Reference8Ideal.defs _ _).mono (fun r h c => ?_) (Cert.Reference8Ideal.Value.run (F := Ideal) m' g')
  obtain ⟨a0, a1⟩ := hagree c
  refine ⟨((h c).1.trans (Cert.Reference8Ideal.Read.val_main_v11_eq _ _)).trans (Eq.trans ?_ (Dw2Sib.final m c).symm), (h c).2⟩
  · rw [a0, a1]

theorem frame_reference9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m g m' g' _ hagree
  refine ⟨_, Dw2.run m g, ?_⟩
  refine (θ_run Cert.Reference9Ideal.defs _ _).mono (fun r h c => ?_) (Cert.Reference9Ideal.Value.run (F := Ideal) m' g')
  obtain ⟨a0, a1, a2⟩ := hagree c
  refine ⟨((h c).1.trans (Cert.Reference9Ideal.Read.val_main_v13_eq _ _ _)).trans (Eq.trans ?_ (Dw2.final m c).symm), (h c).2⟩
  · rw [a0, a1, a2]

theorem frame_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m g m' g' _ hagree
  refine ⟨_, DwInSib.run m g, ?_⟩
  refine (θ_run Cert.Reference10Ideal.defs _ _).mono (fun r h c => ?_) (Cert.Reference10Ideal.Value.run (F := Ideal) m' g')
  obtain ⟨a0, a1⟩ := hagree c
  refine ⟨((h c).1.trans (Cert.Reference10Ideal.Read.val_main_v7_eq _ _)).trans (Eq.trans ?_ (DwInSib.final m c).symm), (h c).2⟩
  · rw [a0, a1]

theorem frame_reference11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem algebraic11 : Cert.algebraic_Kernel11Ideal_Reference11Ideal := by
  intro m g m' g' _ hagree
  refine ⟨_, DwIn.run m g, ?_⟩
  refine (θ_run Cert.Reference11Ideal.defs _ _).mono (fun r h c => ?_) (Cert.Reference11Ideal.Value.run (F := Ideal) m' g')
  obtain ⟨a0, a1, a2⟩ := hagree c
  refine ⟨((h c).1.trans (Cert.Reference11Ideal.Read.val_main_v9_eq _ _ _)).trans (Eq.trans ?_ (DwIn.final m c).symm), (h c).2⟩
  · rw [a0, a1, a2]

theorem frame_reference12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem algebraic12 : Cert.algebraic_Kernel12Ideal_Reference12Ideal := by
  intro m g m' g' _ hagree
  refine ⟨_, DwOutSib.run m g, ?_⟩
  refine (θ_run Cert.Reference12Ideal.defs _ _).mono (fun r h c => ?_) (Cert.Reference12Ideal.Value.run (F := Ideal) m' g')
  obtain ⟨a0, a1⟩ := hagree c
  refine ⟨((h c).1.trans (Cert.Reference12Ideal.Read.val_main_v7_eq _ _)).trans (Eq.trans ?_ (DwOutSib.final m c).symm), (h c).2⟩
  · rw [a0, a1]

theorem frame_reference13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem algebraic13 : Cert.algebraic_Kernel13Ideal_Reference13Ideal := by
  intro m g m' g' _ hagree
  refine ⟨_, DwOut.run m g, ?_⟩
  refine (θ_run Cert.Reference13Ideal.defs _ _).mono (fun r h c => ?_) (Cert.Reference13Ideal.Value.run (F := Ideal) m' g')
  obtain ⟨a0, a1, a2⟩ := hagree c
  refine ⟨((h c).1.trans (Cert.Reference13Ideal.Read.val_main_v9_eq _ _ _)).trans (Eq.trans ?_ (DwOut.final m c).symm), (h c).2⟩
  · rw [a0, a1, a2]

theorem frame_reference14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

theorem algebraic14 : Cert.algebraic_Kernel14Ideal_Reference14Ideal := by
  intro m g m' g' _ hagree
  refine ⟨_, Cert.Kernel14Ideal.Value.run_blocks m g, ?_⟩
  refine (θ_run Cert.Reference14Ideal.defs _ _).mono (fun r h c => ?_) (Cert.Reference14Ideal.Value.run (F := Ideal) m' g')
  obtain ⟨a0, a1⟩ := hagree c
  refine ⟨((h c).1.trans (Cert.Reference14Ideal.Read.val_main_v4_eq _ _)).trans (Eq.trans ?_ (MixDxn.final m c).symm), (h c).2⟩
  · rw [a0, a1]

theorem frame_reference15 : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

theorem algebraic15 : Cert.algebraic_Kernel15Ideal_Reference15Ideal := by
  intro m g m' g' _ hagree
  refine ⟨_, Cert.Kernel15Ideal.Value.run_blocks m g, ?_⟩
  refine (θ_run Cert.Reference15Ideal.defs _ _).mono (fun r h c => ?_) (Cert.Reference15Ideal.Value.run (F := Ideal) m' g')
  obtain ⟨a0, a1⟩ := hagree c
  refine ⟨((h c).1.trans (Cert.Reference15Ideal.Read.val_main_v4_eq _ _)).trans (Eq.trans ?_ (MixDy.final m c).symm), (h c).2⟩
  · rw [a0, a1]

theorem frame_reference16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

theorem algebraic16 : Cert.algebraic_Kernel16Ideal_Reference16Ideal := by
  intro m g m' g' _ hagree
  refine ⟨_, Cert.Kernel16Ideal.Value.run_blocks m g, ?_⟩
  refine (θ_run Cert.Reference16Ideal.defs _ _).mono (fun r h c => ?_) (Cert.Reference16Ideal.Value.run (F := Ideal) m' g')
  obtain ⟨a0, a1⟩ := hagree c
  refine ⟨((h c).1.trans (Cert.Reference16Ideal.Read.val_main_v3_eq _ _)).trans (Eq.trans ?_ (EvIn.final m c).symm), (h c).2⟩
  · rw [a0, a1]

theorem frame_reference17 : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

theorem algebraic17 : Cert.algebraic_Kernel17Ideal_Reference17Ideal := by
  intro m g m' g' _ hagree
  refine ⟨_, Cert.Kernel17Ideal.Value.run_blocks m g, ?_⟩
  refine (θ_run Cert.Reference17Ideal.defs _ _).mono (fun r h c => ?_) (Cert.Reference17Ideal.Value.run (F := Ideal) m' g')
  obtain ⟨a0, a1, a2⟩ := hagree c
  refine ⟨((h c).1.trans (Cert.Reference17Ideal.Read.val_main_v3_eq _ _ _)).trans (Eq.trans ?_ (MixOut.final m c).symm), (h c).2⟩
  · rw [a0, a1, a2]

theorem frame_reference18 : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

theorem algebraic18 : Cert.algebraic_Kernel18Ideal_Reference18Ideal := by
  intro m g m' g' _ hagree
  refine ⟨_, DwInOddSib.run m g, ?_⟩
  refine (θ_run Cert.Reference18Ideal.defs _ _).mono (fun r h c => ?_) (Cert.Reference18Ideal.Value.run (F := Ideal) m' g')
  obtain ⟨a0, a1⟩ := hagree c
  refine ⟨((h c).1.trans (Cert.Reference18Ideal.Read.val_main_v7_eq _ _)).trans (Eq.trans ?_ (DwInOddSib.final m c).symm), (h c).2⟩
  · rw [a0, a1]

theorem frame_reference19 : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run (F := Ideal) m ρ)

theorem algebraic19 : Cert.algebraic_Kernel19Ideal_Reference19Ideal := by
  intro m g m' g' _ hagree
  refine ⟨_, DwInOdd.run m g, ?_⟩
  refine (θ_run Cert.Reference19Ideal.defs _ _).mono (fun r h c => ?_) (Cert.Reference19Ideal.Value.run (F := Ideal) m' g')
  obtain ⟨a0, a1, a2⟩ := hagree c
  refine ⟨((h c).1.trans (Cert.Reference19Ideal.Read.val_main_v9_eq _ _ _)).trans (Eq.trans ?_ (DwInOdd.final m c).symm), (h c).2⟩
  · rw [a0, a1, a2]

theorem frame_reference20 : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

theorem algebraic20 : Cert.algebraic_Kernel20Ideal_Reference20Ideal := by
  intro m g m' g' _ hagree
  refine ⟨_, Cert.Kernel20Ideal.Value.run_blocks m g, ?_⟩
  refine (θ_run Cert.Reference20Ideal.defs _ _).mono (fun r h c => ?_) (Cert.Reference20Ideal.Value.run (F := Ideal) m' g')
  obtain ⟨a0, a1⟩ := hagree c
  refine ⟨((h c).1.trans (Cert.Reference20Ideal.Read.val_main_v4_eq _ _)).trans (Eq.trans ?_ (MixDxnOdd.final m c).symm), (h c).2⟩
  · rw [a0, a1]

theorem frame_reference21 : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

theorem algebraic21 : Cert.algebraic_Kernel21Ideal_Reference21Ideal := by
  intro m g m' g' _ hagree
  refine ⟨_, Cert.Kernel21Ideal.Value.run_blocks m g, ?_⟩
  refine (θ_run Cert.Reference21Ideal.defs _ _).mono (fun r h c => ?_) (Cert.Reference21Ideal.Value.run (F := Ideal) m' g')
  obtain ⟨a0, a1⟩ := hagree c
  refine ⟨((h c).1.trans (Cert.Reference21Ideal.Read.val_main_v3_eq _ _)).trans (Eq.trans ?_ (OdIn.final m c).symm), (h c).2⟩
  · rw [a0, a1]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Attn.finite_facts, finite3_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ,
    fun m ρ _ => Cert.Kernel3Ideal.Gen.frame m ρ, frame_reference3, fun m ρ _ => frame_reference3 m ρ trivial,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ (Dw1Sib.Machine.ok m), fun m ρ _ => Cert.Kernel6Ideal.Gen.frame m ρ (Dw1Sib.ok m),
    frame_reference6,
    fun m ρ _ => Cert.Kernel7.Gen.frame m ρ (Dw1.Machine.ok m), fun m ρ _ => Cert.Kernel7Ideal.Gen.frame m ρ (Dw1.ok m),
    frame_reference7,
    fun m ρ _ => Cert.Kernel8.Gen.frame m ρ (Dw2Sib.Machine.ok m), fun m ρ _ => Cert.Kernel8Ideal.Gen.frame m ρ (Dw2Sib.ok m),
    frame_reference8,
    fun m ρ _ => Cert.Kernel9.Gen.frame m ρ (Dw2.Machine.ok m), fun m ρ _ => Cert.Kernel9Ideal.Gen.frame m ρ (Dw2.ok m),
    frame_reference9,
    fun m ρ _ => Cert.Kernel10.Gen.frame m ρ (DwInSib.Machine.ok m), fun m ρ _ => Cert.Kernel10Ideal.Gen.frame m ρ (DwInSib.ok m),
    frame_reference10,
    fun m ρ _ => Cert.Kernel11.Gen.frame m ρ (DwIn.Machine.ok m), fun m ρ _ => Cert.Kernel11Ideal.Gen.frame m ρ (DwIn.ok m),
    frame_reference11,
    fun m ρ _ => Cert.Kernel12.Gen.frame m ρ (DwOutSib.Machine.ok m), fun m ρ _ => Cert.Kernel12Ideal.Gen.frame m ρ (DwOutSib.ok m),
    frame_reference12,
    fun m ρ _ => Cert.Kernel13.Gen.frame m ρ (DwOut.Machine.ok m), fun m ρ _ => Cert.Kernel13Ideal.Gen.frame m ρ (DwOut.ok m),
    frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ (DwInOddSib.Machine.ok m), fun m ρ _ => Cert.Kernel18Ideal.Gen.frame m ρ (DwInOddSib.ok m),
    frame_reference18,
    fun m ρ _ => Cert.Kernel19.Gen.frame m ρ (DwInOdd.Machine.ok m), fun m ρ _ => Cert.Kernel19Ideal.Gen.frame m ρ (DwInOdd.ok m),
    frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    trivial, algebraic, trivial, algebraic2, trivial, algebraic3, trivial, algebraic4, trivial, algebraic5,
    trivial, algebraic6, trivial, algebraic7, trivial, algebraic8, trivial, algebraic9,
    trivial, algebraic10, trivial, algebraic11, trivial, algebraic12, trivial, algebraic13,
    trivial, algebraic14, trivial, algebraic15, trivial, algebraic16, trivial, algebraic17,
    trivial, algebraic18, trivial, algebraic19, trivial, algebraic20, trivial, algebraic21⟩

end Cert.Proof

end
